-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48_0) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v48_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S7x1024x16384 : Shape := ⟨3, ![7, 1024, 16384]⟩
abbrev S7x1024x8192 : Shape := ⟨3, ![7, 1024, 8192]⟩
abbrev S_ : Shape := ⟨0, ![]⟩

class Facts : Prop where
  bitsLt_bf16_f32 : FTy.bits .bf16 < FTy.bits .f32
  bcast_S_S7x1024x16384 : S_.BroadcastsInDim S7x1024x16384 (![] : Fin 0 → Fin S7x1024x16384.rank)
  reducesTo_S7x1024x16384_S_d0_1_2 : S7x1024x16384.ReducesTo [0, 1, 2] S_
  h_S_ : 0 < S_.numel
  bcast_S_S7x1024x8192 : S_.BroadcastsInDim S7x1024x8192 (![] : Fin 0 → Fin S7x1024x8192.rank)
  reducesTo_S7x1024x8192_S_d0_1_2 : S7x1024x8192.ReducesTo [0, 1, 2] S_

variable [Facts]

def fn {F : FTy → Type} [FloatOps F] (main_arg0 : FVec F S7x1024x16384 .bf16) (main_arg1 : FVec F S7x1024x8192 .bf16) : IVec S_ 1 :=
  let main_v0 : FVec F S7x1024x16384 .f32 := (extf .f32 · bitsLt_bf16_f32) main_arg0
  let main_v1 : FVec F S7x1024x16384 .f32 := Host.absf main_v0
  let main_cst : FVec F S_ .f32 := constant S_ .f32 0x5D800000#32
  let main_v2 : FVec F S7x1024x16384 .f32 := broadcastInDim S7x1024x16384 ![] bcast_S_S7x1024x16384 main_cst
  let main_v3 : IVec S7x1024x16384 1 := cmpf .ole main_v1 main_v2
  let main_c : IVec S_ 1 := constantI S_ 1 1#1
  let main_v4 : IVec S_ 1 := (fun x v => Host.reduce IntOp.andi x v reducesTo_S7x1024x16384_S_d0_1_2 h_S_) main_v3 main_c
  let main_v5 : FVec F S7x1024x8192 .f32 := (extf .f32 · bitsLt_bf16_f32) main_arg1
  let main_v6 : FVec F S7x1024x8192 .f32 := Host.absf main_v5
  let main_cst_0 : FVec F S_ .f32 := constant S_ .f32 0x5D800000#32
  let main_v7 : FVec F S7x1024x8192 .f32 := broadcastInDim S7x1024x8192 ![] bcast_S_S7x1024x8192 main_cst_0
  let main_v8 : IVec S7x1024x8192 1 := cmpf .ole main_v6 main_v7
  let main_c_1 : IVec S_ 1 := constantI S_ 1 1#1
  let main_v9 : IVec S_ 1 := (fun x v => Host.reduce IntOp.andi x v reducesTo_S7x1024x8192_S_d0_1_2 h_S_) main_v8 main_c_1
  let main_v10 : IVec S_ 1 := andi main_v4 main_v9
  main_v10
-- ==== Kernel.lean ====
abbrev S7x1024x16384 : Shape := ⟨3, ![7, 1024, 16384]⟩
abbrev S7x1024x8192 : Shape := ⟨3, ![7, 1024, 8192]⟩
abbrev S7168x16384 : Shape := ⟨2, ![7168, 16384]⟩
abbrev S7168x8192 : Shape := ⟨2, ![7168, 8192]⟩
abbrev S56x128 : Shape := ⟨2, ![56, 128]⟩
abbrev S16384x7168 : Shape := ⟨2, ![16384, 7168]⟩
abbrev S128x16384 : Shape := ⟨2, ![128, 16384]⟩
abbrev S128x8192 : Shape := ⟨2, ![128, 8192]⟩
abbrev S16384x128 : Shape := ⟨2, ![16384, 128]⟩
abbrev S8x2x8x128x128 : Shape := ⟨5, ![8, 2, 8, 128, 128]⟩
abbrev S2x64x128 : Shape := ⟨3, ![2, 64, 128]⟩
abbrev S8x128 : Shape := ⟨2, ![8, 128]⟩
abbrev S1x8x128 : Shape := ⟨3, ![1, 8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S16x128 : Shape := ⟨2, ![16, 128]⟩
abbrev S1x1x1x16x128 : Shape := ⟨5, ![1, 1, 1, 16, 128]⟩
abbrev S1x1x128 : Shape := ⟨3, ![1, 1, 128]⟩
abbrev S1x1x1x128x128 : Shape := ⟨5, ![1, 1, 1, 128, 128]⟩
abbrev S128x128 : Shape := ⟨2, ![128, 128]⟩

abbrev nBuf : Space → Nat
  | .hbm => 7
  | .vmem => 13
  | .smem => 0
  | _ => 0

abbrev bufTy : (tb : Table) → Fin (tcTables nBuf tb) → BufTy
  | .hbm, ⟨0, _⟩ => ⟨S7x1024x16384, .bf16⟩
  | .hbm, ⟨1, _⟩ => ⟨S7x1024x8192, .bf16⟩
  | .hbm, ⟨2, _⟩ => ⟨S7168x16384, .bf16⟩
  | .hbm, ⟨3, _⟩ => ⟨S7168x8192, .bf16⟩
  | .hbm, ⟨4, _⟩ => ⟨S7168x16384, .fp8e4m3⟩
  | .hbm, ⟨5, _⟩ => ⟨S56x128, .f32⟩
  | .hbm, ⟨6, _⟩ => ⟨S16384x7168, .fp8e4m3⟩
  | .local _ .vmem, ⟨0, _⟩ => ⟨S128x16384, .bf16⟩
  | .local _ .vmem, ⟨1, _⟩ => ⟨S128x16384, .bf16⟩
  | .local _ .vmem, ⟨2, _⟩ => ⟨S128x8192, .bf16⟩
  | .local _ .vmem, ⟨3, _⟩ => ⟨S128x8192, .bf16⟩
  | .local _ .vmem, ⟨4, _⟩ => ⟨S128x16384, .fp8e4m3⟩
  | .local _ .vmem, ⟨5, _⟩ => ⟨S128x16384, .fp8e4m3⟩
  | .local _ .vmem, ⟨6, _⟩ => ⟨S56x128, .f32⟩
  | .local _ .vmem, ⟨7, _⟩ => ⟨S16384x128, .fp8e4m3⟩
  | .local _ .vmem, ⟨8, _⟩ => ⟨S16384x128, .fp8e4m3⟩
  | .local _ .vmem, ⟨9, _⟩ => ⟨S8x2x8x128x128, .f32⟩
  | .local _ .vmem, ⟨10, _⟩ => ⟨S2x64x128, .f32⟩
  | .local _ .vmem, ⟨11, _⟩ => ⟨S2x64x128, .f32⟩
  | .local _ .vmem, ⟨12, _⟩ => ⟨S8x128, .f32⟩
  | _, _ => ⟨S7x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![57], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c8_i32 : BitVec 32 := 8#32
  let v19 : BitVec 32 := Scalar.addi c0_i32_10 c8_i32
  let c1_i32 : BitVec 32 := 1#32
  ⟨c0_i32_10, v19, c1_i32⟩
def k0_mult1 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c0_i32_14 : BitVec 32 := 0#32
  let v22 : BitVec 1 := Scalar.cmpi .eq v21 c0_i32_14
  let c7_i32 : BitVec 32 := 7#32
  let c1_i32_17 : BitVec 32 := 1#32
  let v26 : BitVec 32 := Scalar.subi v21 c1_i32_17
  let v27 : BitVec 32 := Scalar.select v22 c7_i32 v26
  let c8_i32_56 : BitVec 32 := 8#32
  let v139 : BitVec 32 := Scalar.muli v27 c8_i32_56
  v139
def k0_off1 (k0_t1 : Fin k0_t1_loop.trips) : Fin 3 → Nat :=
  let c0_57 : Index := 0#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c0_i32_14 : BitVec 32 := 0#32
  let v22 : BitVec 1 := Scalar.cmpi .eq v21 c0_i32_14
  let c7_i32 : BitVec 32 := 7#32
  let c1_i32_17 : BitVec 32 := 1#32
  let v26 : BitVec 32 := Scalar.subi v21 c1_i32_17
  let v27 : BitVec 32 := Scalar.select v22 c7_i32 v26
  let c8_i32_56 : BitVec 32 := 8#32
  let v139 : BitVec 32 := Scalar.muli v27 c8_i32_56
  let v140 : BitVec 32 := v139
  let v141 : Index := Scalar.indexCast v140
  let c0_58 : Index := 0#32
  ![0, v141.toNat, 0]
def k0_mult2 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c0_i32_14 : BitVec 32 := 0#32
  let v22 : BitVec 1 := Scalar.cmpi .eq v21 c0_i32_14
  let c7_i32 : BitVec 32 := 7#32
  let c1_i32_17 : BitVec 32 := 1#32
  let v26 : BitVec 32 := Scalar.subi v21 c1_i32_17
  let v27 : BitVec 32 := Scalar.select v22 c7_i32 v26
  let c8_i32_113 : BitVec 32 := 8#32
  let v258 : BitVec 32 := Scalar.muli v27 c8_i32_113
  v258
def k0_off2 (k0_t1 : Fin k0_t1_loop.trips) : Fin 3 → Nat :=
  let c1_114 : Index := 1#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c0_i32_14 : BitVec 32 := 0#32
  let v22 : BitVec 1 := Scalar.cmpi .eq v21 c0_i32_14
  let c7_i32 : BitVec 32 := 7#32
  let c1_i32_17 : BitVec 32 := 1#32
  let v26 : BitVec 32 := Scalar.subi v21 c1_i32_17
  let v27 : BitVec 32 := Scalar.select v22 c7_i32 v26
  let c8_i32_113 : BitVec 32 := 8#32
  let v258 : BitVec 32 := Scalar.muli v27 c8_i32_113
  let v259 : BitVec 32 := v258
  let v260 : Index := Scalar.indexCast v259
  let c0_115 : Index := 0#32
  ![1, v260.toNat, 0]
def k0_off3 (i : grid0.Coords) (k0_t1 : Fin k0_t1_loop.trips) : Fin 2 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c0_i32_14 : BitVec 32 := 0#32
  let v22 : BitVec 1 := Scalar.cmpi .eq v21 c0_i32_14
  let arg0 : BitVec 32 := BitVec.ofNat 32 (i 0).val
  let c1_i32_15 : BitVec 32 := 1#32
  let v23 : BitVec 32 := Scalar.subi arg0 c1_i32_15
  let c0_i32_16 : BitVec 32 := 0#32
  let v24 : BitVec 32 := Scalar.maxsi v23 c0_i32_16
  let v25 : BitVec 32 := Scalar.select v22 v24 arg0
  let v277 : Index := Scalar.indexCast v25
  let c0_122 : Index := 0#32
  ![v277.toNat, 0]
def k0_mult3 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let c0_i32_123 : BitVec 32 := 0#32
  let v280 : BitVec 32 := Scalar.addi v279 c0_i32_123
  v280
def k0_off4 (k0_t1 : Fin k0_t1_loop.trips) (c0_i32_123 : BitVec 32) : Fin 2 → Nat :=
  let c0_124 : Index := 0#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v282 : Index := Scalar.indexCast v281
  ![0, v282.toNat]
def k0_off5 (k0_t1 : Fin k0_t1_loop.trips) (c0_i32_123 : BitVec 32) : Fin 2 → Nat :=
  let c0_125 : Index := 0#32
  let c8192_i32 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v285 : BitVec 32 := Scalar.addi c8192_i32 v281
  let v286 : Index := Scalar.indexCast v285
  ![0, v286.toNat]
def k0_off6 (k0_t1 : Fin k0_t1_loop.trips) (c0_i32_123 : BitVec 32) : Fin 2 → Nat :=
  let c0_126 : Index := 0#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v289 : Index := Scalar.indexCast v281
  ![0, v289.toNat]
def k0_off7 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v303 : Index := Scalar.indexCast v21
  let c0_128 : Index := 0#32
  let c0_129 : Index := 0#32
  let c0_130 : Index := 0#32
  let c0_131 : Index := 0#32
  ![v303.toNat, 0, 0, 0, 0]
def k0_off8 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v307 : Index := Scalar.indexCast v21
  let c1_132 : Index := 1#32
  let c0_133 : Index := 0#32
  let c0_134 : Index := 0#32
  let c0_135 : Index := 0#32
  ![v307.toNat, 1, 0, 0, 0]
def k0_off9 (k0_t1 : Fin k0_t1_loop.trips) (c0_i32_123 : BitVec 32) : Fin 2 → Nat :=
  let c16 : Index := 16#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v319 : Index := Scalar.indexCast v281
  ![16, v319.toNat]
def k0_off10 (k0_t1 : Fin k0_t1_loop.trips) (c0_i32_123 : BitVec 32) : Fin 2 → Nat :=
  let c16_137 : Index := 16#32
  let c8192_i32_136 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v322 : BitVec 32 := Scalar.addi c8192_i32_136 v281
  let v323 : Index := Scalar.indexCast v322
  ![16, v323.toNat]
def k0_off11 (k0_t1 : Fin k0_t1_loop.trips) (c0_i32_123 : BitVec 32) : Fin 2 → Nat :=
  let c16_138 : Index := 16#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v326 : Index := Scalar.indexCast v281
  ![16, v326.toNat]
def k0_off12 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v340 : Index := Scalar.indexCast v21
  let c0_140 : Index := 0#32
  let c0_141 : Index := 0#32
  let c16_142 : Index := 16#32
  let c0_143 : Index := 0#32
  ![v340.toNat, 0, 0, 16, 0]
def k0_off13 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v344 : Index := Scalar.indexCast v21
  let c1_144 : Index := 1#32
  let c0_145 : Index := 0#32
  let c16_146 : Index := 16#32
  let c0_147 : Index := 0#32
  ![v344.toNat, 1, 0, 16, 0]
def k0_off14 (k0_t1 : Fin k0_t1_loop.trips) (c0_i32_123 : BitVec 32) : Fin 2 → Nat :=
  let c32 : Index := 32#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v358 : Index := Scalar.indexCast v281
  ![32, v358.toNat]
def k0_off15 (k0_t1 : Fin k0_t1_loop.trips) (c0_i32_123 : BitVec 32) : Fin 2 → Nat :=
  let c32_149 : Index := 32#32
  let c8192_i32_148 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v361 : BitVec 32 := Scalar.addi c8192_i32_148 v281
  let v362 : Index := Scalar.indexCast v361
  ![32, v362.toNat]
def k0_off16 (k0_t1 : Fin k0_t1_loop.trips) (c0_i32_123 : BitVec 32) : Fin 2 → Nat :=
  let c32_150 : Index := 32#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v365 : Index := Scalar.indexCast v281
  ![32, v365.toNat]
def k0_off17 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v379 : Index := Scalar.indexCast v21
  let c0_152 : Index := 0#32
  let c0_153 : Index := 0#32
  let c32_154 : Index := 32#32
  let c0_155 : Index := 0#32
  ![v379.toNat, 0, 0, 32, 0]
def k0_off18 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v383 : Index := Scalar.indexCast v21
  let c1_156 : Index := 1#32
  let c0_157 : Index := 0#32
  let c32_158 : Index := 32#32
  let c0_159 : Index := 0#32
  ![v383.toNat, 1, 0, 32, 0]
def k0_off19 (k0_t1 : Fin k0_t1_loop.trips) (c0_i32_123 : BitVec 32) : Fin 2 → Nat :=
  let c48 : Index := 48#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v397 : Index := Scalar.indexCast v281
  ![48, v397.toNat]
def k0_off20 (k0_t1 : Fin k0_t1_loop.trips) (c0_i32_123 : BitVec 32) : Fin 2 → Nat :=
  let c48_161 : Index := 48#32
  let c8192_i32_160 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v400 : BitVec 32 := Scalar.addi c8192_i32_160 v281
  let v401 : Index := Scalar.indexCast v400
  ![48, v401.toNat]
def k0_off21 (k0_t1 : Fin k0_t1_loop.trips) (c0_i32_123 : BitVec 32) : Fin 2 → Nat :=
  let c48_162 : Index := 48#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v404 : Index := Scalar.indexCast v281
  ![48, v404.toNat]
def k0_off22 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v418 : Index := Scalar.indexCast v21
  let c0_164 : Index := 0#32
  let c0_165 : Index := 0#32
  let c48_166 : Index := 48#32
  let c0_167 : Index := 0#32
  ![v418.toNat, 0, 0, 48, 0]
def k0_off23 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v422 : Index := Scalar.indexCast v21
  let c1_168 : Index := 1#32
  let c0_169 : Index := 0#32
  let c48_170 : Index := 48#32
  let c0_171 : Index := 0#32
  ![v422.toNat, 1, 0, 48, 0]
def k0_off24 (k0_t1 : Fin k0_t1_loop.trips) (c0_i32_123 : BitVec 32) : Fin 2 → Nat :=
  let c64 : Index := 64#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v436 : Index := Scalar.indexCast v281
  ![64, v436.toNat]
def k0_off25 (k0_t1 : Fin k0_t1_loop.trips) (c0_i32_123 : BitVec 32) : Fin 2 → Nat :=
  let c64_173 : Index := 64#32
  let c8192_i32_172 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v439 : BitVec 32 := Scalar.addi c8192_i32_172 v281
  let v440 : Index := Scalar.indexCast v439
  ![64, v440.toNat]
def k0_off26 (k0_t1 : Fin k0_t1_loop.trips) (c0_i32_123 : BitVec 32) : Fin 2 → Nat :=
  let c64_174 : Index := 64#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v443 : Index := Scalar.indexCast v281
  ![64, v443.toNat]
def k0_off27 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v457 : Index := Scalar.indexCast v21
  let c0_176 : Index := 0#32
  let c0_177 : Index := 0#32
  let c64_178 : Index := 64#32
  let c0_179 : Index := 0#32
  ![v457.toNat, 0, 0, 64, 0]
def k0_off28 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v461 : Index := Scalar.indexCast v21
  let c1_180 : Index := 1#32
  let c0_181 : Index := 0#32
  let c64_182 : Index := 64#32
  let c0_183 : Index := 0#32
  ![v461.toNat, 1, 0, 64, 0]
def k0_off29 (k0_t1 : Fin k0_t1_loop.trips) (c0_i32_123 : BitVec 32) : Fin 2 → Nat :=
  let c80 : Index := 80#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v475 : Index := Scalar.indexCast v281
  ![80, v475.toNat]
def k0_off30 (k0_t1 : Fin k0_t1_loop.trips) (c0_i32_123 : BitVec 32) : Fin 2 → Nat :=
  let c80_185 : Index := 80#32
  let c8192_i32_184 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v478 : BitVec 32 := Scalar.addi c8192_i32_184 v281
  let v479 : Index := Scalar.indexCast v478
  ![80, v479.toNat]
def k0_off31 (k0_t1 : Fin k0_t1_loop.trips) (c0_i32_123 : BitVec 32) : Fin 2 → Nat :=
  let c80_186 : Index := 80#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v482 : Index := Scalar.indexCast v281
  ![80, v482.toNat]
def k0_off32 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v496 : Index := Scalar.indexCast v21
  let c0_188 : Index := 0#32
  let c0_189 : Index := 0#32
  let c80_190 : Index := 80#32
  let c0_191 : Index := 0#32
  ![v496.toNat, 0, 0, 80, 0]
def k0_off33 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v500 : Index := Scalar.indexCast v21
  let c1_192 : Index := 1#32
  let c0_193 : Index := 0#32
  let c80_194 : Index := 80#32
  let c0_195 : Index := 0#32
  ![v500.toNat, 1, 0, 80, 0]
def k0_off34 (k0_t1 : Fin k0_t1_loop.trips) (c0_i32_123 : BitVec 32) : Fin 2 → Nat :=
  let c96 : Index := 96#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v514 : Index := Scalar.indexCast v281
  ![96, v514.toNat]
def k0_off35 (k0_t1 : Fin k0_t1_loop.trips) (c0_i32_123 : BitVec 32) : Fin 2 → Nat :=
  let c96_197 : Index := 96#32
  let c8192_i32_196 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v517 : BitVec 32 := Scalar.addi c8192_i32_196 v281
  let v518 : Index := Scalar.indexCast v517
  ![96, v518.toNat]
def k0_off36 (k0_t1 : Fin k0_t1_loop.trips) (c0_i32_123 : BitVec 32) : Fin 2 → Nat :=
  let c96_198 : Index := 96#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v521 : Index := Scalar.indexCast v281
  ![96, v521.toNat]
def k0_off37 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v535 : Index := Scalar.indexCast v21
  let c0_200 : Index := 0#32
  let c0_201 : Index := 0#32
  let c96_202 : Index := 96#32
  let c0_203 : Index := 0#32
  ![v535.toNat, 0, 0, 96, 0]
def k0_off38 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v539 : Index := Scalar.indexCast v21
  let c1_204 : Index := 1#32
  let c0_205 : Index := 0#32
  let c96_206 : Index := 96#32
  let c0_207 : Index := 0#32
  ![v539.toNat, 1, 0, 96, 0]
def k0_off39 (k0_t1 : Fin k0_t1_loop.trips) (c0_i32_123 : BitVec 32) : Fin 2 → Nat :=
  let c112 : Index := 112#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v553 : Index := Scalar.indexCast v281
  ![112, v553.toNat]
def k0_off40 (k0_t1 : Fin k0_t1_loop.trips) (c0_i32_123 : BitVec 32) : Fin 2 → Nat :=
  let c112_209 : Index := 112#32
  let c8192_i32_208 : BitVec 32 := 8192#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v556 : BitVec 32 := Scalar.addi c8192_i32_208 v281
  let v557 : Index := Scalar.indexCast v556
  ![112, v557.toNat]
def k0_off41 (k0_t1 : Fin k0_t1_loop.trips) (c0_i32_123 : BitVec 32) : Fin 2 → Nat :=
  let c112_210 : Index := 112#32
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32 : BitVec 32 := 1024#32
  let v279 : BitVec 32 := Scalar.muli v21 c1024_i32
  let v280 : BitVec 32 := Scalar.addi v279 c0_i32_123
  let v281 : BitVec 32 := v280
  let v560 : Index := Scalar.indexCast v281
  ![112, v560.toNat]
def k0_off42 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v574 : Index := Scalar.indexCast v21
  let c0_212 : Index := 0#32
  let c0_213 : Index := 0#32
  let c112_214 : Index := 112#32
  let c0_215 : Index := 0#32
  ![v574.toNat, 0, 0, 112, 0]
def k0_off43 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v578 : Index := Scalar.indexCast v21
  let c1_216 : Index := 1#32
  let c0_217 : Index := 0#32
  let c112_218 : Index := 112#32
  let c0_219 : Index := 0#32
  ![v578.toNat, 1, 0, 112, 0]
def k0_mult4 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_226 : BitVec 32 := 1024#32
  let v598 : BitVec 32 := Scalar.muli v21 c1024_i32_226
  let c128_i32_227 : BitVec 32 := 128#32
  let v599 : BitVec 32 := Scalar.addi v598 c128_i32_227
  v599
def k0_off44 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v622 : Index := Scalar.indexCast v21
  let c0_233 : Index := 0#32
  let c1_234 : Index := 1#32
  let c0_235 : Index := 0#32
  let c0_236 : Index := 0#32
  ![v622.toNat, 0, 1, 0, 0]
def k0_off45 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v626 : Index := Scalar.indexCast v21
  let c1_237 : Index := 1#32
  let c1_238 : Index := 1#32
  let c0_239 : Index := 0#32
  let c0_240 : Index := 0#32
  ![v626.toNat, 1, 1, 0, 0]
def k0_off46 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v659 : Index := Scalar.indexCast v21
  let c0_246 : Index := 0#32
  let c1_247 : Index := 1#32
  let c16_248 : Index := 16#32
  let c0_249 : Index := 0#32
  ![v659.toNat, 0, 1, 16, 0]
def k0_off47 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v663 : Index := Scalar.indexCast v21
  let c1_250 : Index := 1#32
  let c1_251 : Index := 1#32
  let c16_252 : Index := 16#32
  let c0_253 : Index := 0#32
  ![v663.toNat, 1, 1, 16, 0]
def k0_off48 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v698 : Index := Scalar.indexCast v21
  let c0_259 : Index := 0#32
  let c1_260 : Index := 1#32
  let c32_261 : Index := 32#32
  let c0_262 : Index := 0#32
  ![v698.toNat, 0, 1, 32, 0]
def k0_off49 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v702 : Index := Scalar.indexCast v21
  let c1_263 : Index := 1#32
  let c1_264 : Index := 1#32
  let c32_265 : Index := 32#32
  let c0_266 : Index := 0#32
  ![v702.toNat, 1, 1, 32, 0]
def k0_off50 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v737 : Index := Scalar.indexCast v21
  let c0_272 : Index := 0#32
  let c1_273 : Index := 1#32
  let c48_274 : Index := 48#32
  let c0_275 : Index := 0#32
  ![v737.toNat, 0, 1, 48, 0]
def k0_off51 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v741 : Index := Scalar.indexCast v21
  let c1_276 : Index := 1#32
  let c1_277 : Index := 1#32
  let c48_278 : Index := 48#32
  let c0_279 : Index := 0#32
  ![v741.toNat, 1, 1, 48, 0]
def k0_off52 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v776 : Index := Scalar.indexCast v21
  let c0_285 : Index := 0#32
  let c1_286 : Index := 1#32
  let c64_287 : Index := 64#32
  let c0_288 : Index := 0#32
  ![v776.toNat, 0, 1, 64, 0]
def k0_off53 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v780 : Index := Scalar.indexCast v21
  let c1_289 : Index := 1#32
  let c1_290 : Index := 1#32
  let c64_291 : Index := 64#32
  let c0_292 : Index := 0#32
  ![v780.toNat, 1, 1, 64, 0]
def k0_off54 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v815 : Index := Scalar.indexCast v21
  let c0_298 : Index := 0#32
  let c1_299 : Index := 1#32
  let c80_300 : Index := 80#32
  let c0_301 : Index := 0#32
  ![v815.toNat, 0, 1, 80, 0]
def k0_off55 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v819 : Index := Scalar.indexCast v21
  let c1_302 : Index := 1#32
  let c1_303 : Index := 1#32
  let c80_304 : Index := 80#32
  let c0_305 : Index := 0#32
  ![v819.toNat, 1, 1, 80, 0]
def k0_off56 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v854 : Index := Scalar.indexCast v21
  let c0_311 : Index := 0#32
  let c1_312 : Index := 1#32
  let c96_313 : Index := 96#32
  let c0_314 : Index := 0#32
  ![v854.toNat, 0, 1, 96, 0]
def k0_off57 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v858 : Index := Scalar.indexCast v21
  let c1_315 : Index := 1#32
  let c1_316 : Index := 1#32
  let c96_317 : Index := 96#32
  let c0_318 : Index := 0#32
  ![v858.toNat, 1, 1, 96, 0]
def k0_off58 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v893 : Index := Scalar.indexCast v21
  let c0_324 : Index := 0#32
  let c1_325 : Index := 1#32
  let c112_326 : Index := 112#32
  let c0_327 : Index := 0#32
  ![v893.toNat, 0, 1, 112, 0]
def k0_off59 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v897 : Index := Scalar.indexCast v21
  let c1_328 : Index := 1#32
  let c1_329 : Index := 1#32
  let c112_330 : Index := 112#32
  let c0_331 : Index := 0#32
  ![v897.toNat, 1, 1, 112, 0]
def k0_mult5 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_337 : BitVec 32 := 1024#32
  let v917 : BitVec 32 := Scalar.muli v21 c1024_i32_337
  let c256_i32 : BitVec 32 := 256#32
  let v918 : BitVec 32 := Scalar.addi v917 c256_i32
  v918
def k0_off60 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v941 : Index := Scalar.indexCast v21
  let c0_343 : Index := 0#32
  let c2_344 : Index := 2#32
  let c0_345 : Index := 0#32
  let c0_346 : Index := 0#32
  ![v941.toNat, 0, 2, 0, 0]
def k0_off61 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v945 : Index := Scalar.indexCast v21
  let c1_347 : Index := 1#32
  let c2_348 : Index := 2#32
  let c0_349 : Index := 0#32
  let c0_350 : Index := 0#32
  ![v945.toNat, 1, 2, 0, 0]
def k0_off62 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v978 : Index := Scalar.indexCast v21
  let c0_356 : Index := 0#32
  let c2_357 : Index := 2#32
  let c16_358 : Index := 16#32
  let c0_359 : Index := 0#32
  ![v978.toNat, 0, 2, 16, 0]
def k0_off63 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v982 : Index := Scalar.indexCast v21
  let c1_360 : Index := 1#32
  let c2_361 : Index := 2#32
  let c16_362 : Index := 16#32
  let c0_363 : Index := 0#32
  ![v982.toNat, 1, 2, 16, 0]
def k0_off64 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1017 : Index := Scalar.indexCast v21
  let c0_369 : Index := 0#32
  let c2_370 : Index := 2#32
  let c32_371 : Index := 32#32
  let c0_372 : Index := 0#32
  ![v1017.toNat, 0, 2, 32, 0]
def k0_off65 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1021 : Index := Scalar.indexCast v21
  let c1_373 : Index := 1#32
  let c2_374 : Index := 2#32
  let c32_375 : Index := 32#32
  let c0_376 : Index := 0#32
  ![v1021.toNat, 1, 2, 32, 0]
def k0_off66 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1056 : Index := Scalar.indexCast v21
  let c0_382 : Index := 0#32
  let c2_383 : Index := 2#32
  let c48_384 : Index := 48#32
  let c0_385 : Index := 0#32
  ![v1056.toNat, 0, 2, 48, 0]
def k0_off67 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1060 : Index := Scalar.indexCast v21
  let c1_386 : Index := 1#32
  let c2_387 : Index := 2#32
  let c48_388 : Index := 48#32
  let c0_389 : Index := 0#32
  ![v1060.toNat, 1, 2, 48, 0]
def k0_off68 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1095 : Index := Scalar.indexCast v21
  let c0_395 : Index := 0#32
  let c2_396 : Index := 2#32
  let c64_397 : Index := 64#32
  let c0_398 : Index := 0#32
  ![v1095.toNat, 0, 2, 64, 0]
def k0_off69 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1099 : Index := Scalar.indexCast v21
  let c1_399 : Index := 1#32
  let c2_400 : Index := 2#32
  let c64_401 : Index := 64#32
  let c0_402 : Index := 0#32
  ![v1099.toNat, 1, 2, 64, 0]
def k0_off70 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1134 : Index := Scalar.indexCast v21
  let c0_408 : Index := 0#32
  let c2_409 : Index := 2#32
  let c80_410 : Index := 80#32
  let c0_411 : Index := 0#32
  ![v1134.toNat, 0, 2, 80, 0]
def k0_off71 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1138 : Index := Scalar.indexCast v21
  let c1_412 : Index := 1#32
  let c2_413 : Index := 2#32
  let c80_414 : Index := 80#32
  let c0_415 : Index := 0#32
  ![v1138.toNat, 1, 2, 80, 0]
def k0_off72 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1173 : Index := Scalar.indexCast v21
  let c0_421 : Index := 0#32
  let c2_422 : Index := 2#32
  let c96_423 : Index := 96#32
  let c0_424 : Index := 0#32
  ![v1173.toNat, 0, 2, 96, 0]
def k0_off73 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1177 : Index := Scalar.indexCast v21
  let c1_425 : Index := 1#32
  let c2_426 : Index := 2#32
  let c96_427 : Index := 96#32
  let c0_428 : Index := 0#32
  ![v1177.toNat, 1, 2, 96, 0]
def k0_off74 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1212 : Index := Scalar.indexCast v21
  let c0_434 : Index := 0#32
  let c2_435 : Index := 2#32
  let c112_436 : Index := 112#32
  let c0_437 : Index := 0#32
  ![v1212.toNat, 0, 2, 112, 0]
def k0_off75 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1216 : Index := Scalar.indexCast v21
  let c1_438 : Index := 1#32
  let c2_439 : Index := 2#32
  let c112_440 : Index := 112#32
  let c0_441 : Index := 0#32
  ![v1216.toNat, 1, 2, 112, 0]
def k0_mult6 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_448 : BitVec 32 := 1024#32
  let v1236 : BitVec 32 := Scalar.muli v21 c1024_i32_448
  let c384_i32 : BitVec 32 := 384#32
  let v1237 : BitVec 32 := Scalar.addi v1236 c384_i32
  v1237
def k0_off76 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1260 : Index := Scalar.indexCast v21
  let c0_454 : Index := 0#32
  let c3_455 : Index := 3#32
  let c0_456 : Index := 0#32
  let c0_457 : Index := 0#32
  ![v1260.toNat, 0, 3, 0, 0]
def k0_off77 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1264 : Index := Scalar.indexCast v21
  let c1_458 : Index := 1#32
  let c3_459 : Index := 3#32
  let c0_460 : Index := 0#32
  let c0_461 : Index := 0#32
  ![v1264.toNat, 1, 3, 0, 0]
def k0_off78 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1297 : Index := Scalar.indexCast v21
  let c0_467 : Index := 0#32
  let c3_468 : Index := 3#32
  let c16_469 : Index := 16#32
  let c0_470 : Index := 0#32
  ![v1297.toNat, 0, 3, 16, 0]
def k0_off79 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1301 : Index := Scalar.indexCast v21
  let c1_471 : Index := 1#32
  let c3_472 : Index := 3#32
  let c16_473 : Index := 16#32
  let c0_474 : Index := 0#32
  ![v1301.toNat, 1, 3, 16, 0]
def k0_off80 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1336 : Index := Scalar.indexCast v21
  let c0_480 : Index := 0#32
  let c3_481 : Index := 3#32
  let c32_482 : Index := 32#32
  let c0_483 : Index := 0#32
  ![v1336.toNat, 0, 3, 32, 0]
def k0_off81 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1340 : Index := Scalar.indexCast v21
  let c1_484 : Index := 1#32
  let c3_485 : Index := 3#32
  let c32_486 : Index := 32#32
  let c0_487 : Index := 0#32
  ![v1340.toNat, 1, 3, 32, 0]
def k0_off82 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1375 : Index := Scalar.indexCast v21
  let c0_493 : Index := 0#32
  let c3_494 : Index := 3#32
  let c48_495 : Index := 48#32
  let c0_496 : Index := 0#32
  ![v1375.toNat, 0, 3, 48, 0]
def k0_off83 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1379 : Index := Scalar.indexCast v21
  let c1_497 : Index := 1#32
  let c3_498 : Index := 3#32
  let c48_499 : Index := 48#32
  let c0_500 : Index := 0#32
  ![v1379.toNat, 1, 3, 48, 0]
def k0_off84 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1414 : Index := Scalar.indexCast v21
  let c0_506 : Index := 0#32
  let c3_507 : Index := 3#32
  let c64_508 : Index := 64#32
  let c0_509 : Index := 0#32
  ![v1414.toNat, 0, 3, 64, 0]
def k0_off85 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1418 : Index := Scalar.indexCast v21
  let c1_510 : Index := 1#32
  let c3_511 : Index := 3#32
  let c64_512 : Index := 64#32
  let c0_513 : Index := 0#32
  ![v1418.toNat, 1, 3, 64, 0]
def k0_off86 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1453 : Index := Scalar.indexCast v21
  let c0_519 : Index := 0#32
  let c3_520 : Index := 3#32
  let c80_521 : Index := 80#32
  let c0_522 : Index := 0#32
  ![v1453.toNat, 0, 3, 80, 0]
def k0_off87 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1457 : Index := Scalar.indexCast v21
  let c1_523 : Index := 1#32
  let c3_524 : Index := 3#32
  let c80_525 : Index := 80#32
  let c0_526 : Index := 0#32
  ![v1457.toNat, 1, 3, 80, 0]
def k0_off88 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1492 : Index := Scalar.indexCast v21
  let c0_532 : Index := 0#32
  let c3_533 : Index := 3#32
  let c96_534 : Index := 96#32
  let c0_535 : Index := 0#32
  ![v1492.toNat, 0, 3, 96, 0]
def k0_off89 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1496 : Index := Scalar.indexCast v21
  let c1_536 : Index := 1#32
  let c3_537 : Index := 3#32
  let c96_538 : Index := 96#32
  let c0_539 : Index := 0#32
  ![v1496.toNat, 1, 3, 96, 0]
def k0_off90 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1531 : Index := Scalar.indexCast v21
  let c0_545 : Index := 0#32
  let c3_546 : Index := 3#32
  let c112_547 : Index := 112#32
  let c0_548 : Index := 0#32
  ![v1531.toNat, 0, 3, 112, 0]
def k0_off91 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1535 : Index := Scalar.indexCast v21
  let c1_549 : Index := 1#32
  let c3_550 : Index := 3#32
  let c112_551 : Index := 112#32
  let c0_552 : Index := 0#32
  ![v1535.toNat, 1, 3, 112, 0]
def k0_mult7 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_558 : BitVec 32 := 1024#32
  let v1555 : BitVec 32 := Scalar.muli v21 c1024_i32_558
  let c512_i32 : BitVec 32 := 512#32
  let v1556 : BitVec 32 := Scalar.addi v1555 c512_i32
  v1556
def k0_off92 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1579 : Index := Scalar.indexCast v21
  let c0_564 : Index := 0#32
  let c4_565 : Index := 4#32
  let c0_566 : Index := 0#32
  let c0_567 : Index := 0#32
  ![v1579.toNat, 0, 4, 0, 0]
def k0_off93 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1583 : Index := Scalar.indexCast v21
  let c1_568 : Index := 1#32
  let c4_569 : Index := 4#32
  let c0_570 : Index := 0#32
  let c0_571 : Index := 0#32
  ![v1583.toNat, 1, 4, 0, 0]
def k0_off94 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1616 : Index := Scalar.indexCast v21
  let c0_577 : Index := 0#32
  let c4_578 : Index := 4#32
  let c16_579 : Index := 16#32
  let c0_580 : Index := 0#32
  ![v1616.toNat, 0, 4, 16, 0]
def k0_off95 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1620 : Index := Scalar.indexCast v21
  let c1_581 : Index := 1#32
  let c4_582 : Index := 4#32
  let c16_583 : Index := 16#32
  let c0_584 : Index := 0#32
  ![v1620.toNat, 1, 4, 16, 0]
def k0_off96 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1655 : Index := Scalar.indexCast v21
  let c0_590 : Index := 0#32
  let c4_591 : Index := 4#32
  let c32_592 : Index := 32#32
  let c0_593 : Index := 0#32
  ![v1655.toNat, 0, 4, 32, 0]
def k0_off97 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1659 : Index := Scalar.indexCast v21
  let c1_594 : Index := 1#32
  let c4_595 : Index := 4#32
  let c32_596 : Index := 32#32
  let c0_597 : Index := 0#32
  ![v1659.toNat, 1, 4, 32, 0]
def k0_off98 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1694 : Index := Scalar.indexCast v21
  let c0_603 : Index := 0#32
  let c4_604 : Index := 4#32
  let c48_605 : Index := 48#32
  let c0_606 : Index := 0#32
  ![v1694.toNat, 0, 4, 48, 0]
def k0_off99 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1698 : Index := Scalar.indexCast v21
  let c1_607 : Index := 1#32
  let c4_608 : Index := 4#32
  let c48_609 : Index := 48#32
  let c0_610 : Index := 0#32
  ![v1698.toNat, 1, 4, 48, 0]
def k0_off100 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1733 : Index := Scalar.indexCast v21
  let c0_616 : Index := 0#32
  let c4_617 : Index := 4#32
  let c64_618 : Index := 64#32
  let c0_619 : Index := 0#32
  ![v1733.toNat, 0, 4, 64, 0]
def k0_off101 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1737 : Index := Scalar.indexCast v21
  let c1_620 : Index := 1#32
  let c4_621 : Index := 4#32
  let c64_622 : Index := 64#32
  let c0_623 : Index := 0#32
  ![v1737.toNat, 1, 4, 64, 0]
def k0_off102 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1772 : Index := Scalar.indexCast v21
  let c0_629 : Index := 0#32
  let c4_630 : Index := 4#32
  let c80_631 : Index := 80#32
  let c0_632 : Index := 0#32
  ![v1772.toNat, 0, 4, 80, 0]
def k0_off103 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1776 : Index := Scalar.indexCast v21
  let c1_633 : Index := 1#32
  let c4_634 : Index := 4#32
  let c80_635 : Index := 80#32
  let c0_636 : Index := 0#32
  ![v1776.toNat, 1, 4, 80, 0]
def k0_off104 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1811 : Index := Scalar.indexCast v21
  let c0_642 : Index := 0#32
  let c4_643 : Index := 4#32
  let c96_644 : Index := 96#32
  let c0_645 : Index := 0#32
  ![v1811.toNat, 0, 4, 96, 0]
def k0_off105 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1815 : Index := Scalar.indexCast v21
  let c1_646 : Index := 1#32
  let c4_647 : Index := 4#32
  let c96_648 : Index := 96#32
  let c0_649 : Index := 0#32
  ![v1815.toNat, 1, 4, 96, 0]
def k0_off106 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1850 : Index := Scalar.indexCast v21
  let c0_655 : Index := 0#32
  let c4_656 : Index := 4#32
  let c112_657 : Index := 112#32
  let c0_658 : Index := 0#32
  ![v1850.toNat, 0, 4, 112, 0]
def k0_off107 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1854 : Index := Scalar.indexCast v21
  let c1_659 : Index := 1#32
  let c4_660 : Index := 4#32
  let c112_661 : Index := 112#32
  let c0_662 : Index := 0#32
  ![v1854.toNat, 1, 4, 112, 0]
def k0_mult8 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_669 : BitVec 32 := 1024#32
  let v1874 : BitVec 32 := Scalar.muli v21 c1024_i32_669
  let c640_i32 : BitVec 32 := 640#32
  let v1875 : BitVec 32 := Scalar.addi v1874 c640_i32
  v1875
def k0_off108 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1898 : Index := Scalar.indexCast v21
  let c0_675 : Index := 0#32
  let c5_676 : Index := 5#32
  let c0_677 : Index := 0#32
  let c0_678 : Index := 0#32
  ![v1898.toNat, 0, 5, 0, 0]
def k0_off109 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1902 : Index := Scalar.indexCast v21
  let c1_679 : Index := 1#32
  let c5_680 : Index := 5#32
  let c0_681 : Index := 0#32
  let c0_682 : Index := 0#32
  ![v1902.toNat, 1, 5, 0, 0]
def k0_off110 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1935 : Index := Scalar.indexCast v21
  let c0_688 : Index := 0#32
  let c5_689 : Index := 5#32
  let c16_690 : Index := 16#32
  let c0_691 : Index := 0#32
  ![v1935.toNat, 0, 5, 16, 0]
def k0_off111 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1939 : Index := Scalar.indexCast v21
  let c1_692 : Index := 1#32
  let c5_693 : Index := 5#32
  let c16_694 : Index := 16#32
  let c0_695 : Index := 0#32
  ![v1939.toNat, 1, 5, 16, 0]
def k0_off112 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1974 : Index := Scalar.indexCast v21
  let c0_701 : Index := 0#32
  let c5_702 : Index := 5#32
  let c32_703 : Index := 32#32
  let c0_704 : Index := 0#32
  ![v1974.toNat, 0, 5, 32, 0]
def k0_off113 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v1978 : Index := Scalar.indexCast v21
  let c1_705 : Index := 1#32
  let c5_706 : Index := 5#32
  let c32_707 : Index := 32#32
  let c0_708 : Index := 0#32
  ![v1978.toNat, 1, 5, 32, 0]
def k0_off114 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2013 : Index := Scalar.indexCast v21
  let c0_714 : Index := 0#32
  let c5_715 : Index := 5#32
  let c48_716 : Index := 48#32
  let c0_717 : Index := 0#32
  ![v2013.toNat, 0, 5, 48, 0]
def k0_off115 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2017 : Index := Scalar.indexCast v21
  let c1_718 : Index := 1#32
  let c5_719 : Index := 5#32
  let c48_720 : Index := 48#32
  let c0_721 : Index := 0#32
  ![v2017.toNat, 1, 5, 48, 0]
def k0_off116 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2052 : Index := Scalar.indexCast v21
  let c0_727 : Index := 0#32
  let c5_728 : Index := 5#32
  let c64_729 : Index := 64#32
  let c0_730 : Index := 0#32
  ![v2052.toNat, 0, 5, 64, 0]
def k0_off117 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2056 : Index := Scalar.indexCast v21
  let c1_731 : Index := 1#32
  let c5_732 : Index := 5#32
  let c64_733 : Index := 64#32
  let c0_734 : Index := 0#32
  ![v2056.toNat, 1, 5, 64, 0]
def k0_off118 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2091 : Index := Scalar.indexCast v21
  let c0_740 : Index := 0#32
  let c5_741 : Index := 5#32
  let c80_742 : Index := 80#32
  let c0_743 : Index := 0#32
  ![v2091.toNat, 0, 5, 80, 0]
def k0_off119 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2095 : Index := Scalar.indexCast v21
  let c1_744 : Index := 1#32
  let c5_745 : Index := 5#32
  let c80_746 : Index := 80#32
  let c0_747 : Index := 0#32
  ![v2095.toNat, 1, 5, 80, 0]
def k0_off120 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2130 : Index := Scalar.indexCast v21
  let c0_753 : Index := 0#32
  let c5_754 : Index := 5#32
  let c96_755 : Index := 96#32
  let c0_756 : Index := 0#32
  ![v2130.toNat, 0, 5, 96, 0]
def k0_off121 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2134 : Index := Scalar.indexCast v21
  let c1_757 : Index := 1#32
  let c5_758 : Index := 5#32
  let c96_759 : Index := 96#32
  let c0_760 : Index := 0#32
  ![v2134.toNat, 1, 5, 96, 0]
def k0_off122 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2169 : Index := Scalar.indexCast v21
  let c0_766 : Index := 0#32
  let c5_767 : Index := 5#32
  let c112_768 : Index := 112#32
  let c0_769 : Index := 0#32
  ![v2169.toNat, 0, 5, 112, 0]
def k0_off123 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2173 : Index := Scalar.indexCast v21
  let c1_770 : Index := 1#32
  let c5_771 : Index := 5#32
  let c112_772 : Index := 112#32
  let c0_773 : Index := 0#32
  ![v2173.toNat, 1, 5, 112, 0]
def k0_mult9 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_779 : BitVec 32 := 1024#32
  let v2193 : BitVec 32 := Scalar.muli v21 c1024_i32_779
  let c768_i32 : BitVec 32 := 768#32
  let v2194 : BitVec 32 := Scalar.addi v2193 c768_i32
  v2194
def k0_off124 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2217 : Index := Scalar.indexCast v21
  let c0_785 : Index := 0#32
  let c6_786 : Index := 6#32
  let c0_787 : Index := 0#32
  let c0_788 : Index := 0#32
  ![v2217.toNat, 0, 6, 0, 0]
def k0_off125 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2221 : Index := Scalar.indexCast v21
  let c1_789 : Index := 1#32
  let c6_790 : Index := 6#32
  let c0_791 : Index := 0#32
  let c0_792 : Index := 0#32
  ![v2221.toNat, 1, 6, 0, 0]
def k0_off126 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2254 : Index := Scalar.indexCast v21
  let c0_798 : Index := 0#32
  let c6_799 : Index := 6#32
  let c16_800 : Index := 16#32
  let c0_801 : Index := 0#32
  ![v2254.toNat, 0, 6, 16, 0]
def k0_off127 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2258 : Index := Scalar.indexCast v21
  let c1_802 : Index := 1#32
  let c6_803 : Index := 6#32
  let c16_804 : Index := 16#32
  let c0_805 : Index := 0#32
  ![v2258.toNat, 1, 6, 16, 0]
def k0_off128 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2293 : Index := Scalar.indexCast v21
  let c0_811 : Index := 0#32
  let c6_812 : Index := 6#32
  let c32_813 : Index := 32#32
  let c0_814 : Index := 0#32
  ![v2293.toNat, 0, 6, 32, 0]
def k0_off129 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2297 : Index := Scalar.indexCast v21
  let c1_815 : Index := 1#32
  let c6_816 : Index := 6#32
  let c32_817 : Index := 32#32
  let c0_818 : Index := 0#32
  ![v2297.toNat, 1, 6, 32, 0]
def k0_off130 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2332 : Index := Scalar.indexCast v21
  let c0_824 : Index := 0#32
  let c6_825 : Index := 6#32
  let c48_826 : Index := 48#32
  let c0_827 : Index := 0#32
  ![v2332.toNat, 0, 6, 48, 0]
def k0_off131 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2336 : Index := Scalar.indexCast v21
  let c1_828 : Index := 1#32
  let c6_829 : Index := 6#32
  let c48_830 : Index := 48#32
  let c0_831 : Index := 0#32
  ![v2336.toNat, 1, 6, 48, 0]
def k0_off132 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2371 : Index := Scalar.indexCast v21
  let c0_837 : Index := 0#32
  let c6_838 : Index := 6#32
  let c64_839 : Index := 64#32
  let c0_840 : Index := 0#32
  ![v2371.toNat, 0, 6, 64, 0]
def k0_off133 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2375 : Index := Scalar.indexCast v21
  let c1_841 : Index := 1#32
  let c6_842 : Index := 6#32
  let c64_843 : Index := 64#32
  let c0_844 : Index := 0#32
  ![v2375.toNat, 1, 6, 64, 0]
def k0_off134 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2410 : Index := Scalar.indexCast v21
  let c0_850 : Index := 0#32
  let c6_851 : Index := 6#32
  let c80_852 : Index := 80#32
  let c0_853 : Index := 0#32
  ![v2410.toNat, 0, 6, 80, 0]
def k0_off135 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2414 : Index := Scalar.indexCast v21
  let c1_854 : Index := 1#32
  let c6_855 : Index := 6#32
  let c80_856 : Index := 80#32
  let c0_857 : Index := 0#32
  ![v2414.toNat, 1, 6, 80, 0]
def k0_off136 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2449 : Index := Scalar.indexCast v21
  let c0_863 : Index := 0#32
  let c6_864 : Index := 6#32
  let c96_865 : Index := 96#32
  let c0_866 : Index := 0#32
  ![v2449.toNat, 0, 6, 96, 0]
def k0_off137 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2453 : Index := Scalar.indexCast v21
  let c1_867 : Index := 1#32
  let c6_868 : Index := 6#32
  let c96_869 : Index := 96#32
  let c0_870 : Index := 0#32
  ![v2453.toNat, 1, 6, 96, 0]
def k0_off138 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2488 : Index := Scalar.indexCast v21
  let c0_876 : Index := 0#32
  let c6_877 : Index := 6#32
  let c112_878 : Index := 112#32
  let c0_879 : Index := 0#32
  ![v2488.toNat, 0, 6, 112, 0]
def k0_off139 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2492 : Index := Scalar.indexCast v21
  let c1_880 : Index := 1#32
  let c6_881 : Index := 6#32
  let c112_882 : Index := 112#32
  let c0_883 : Index := 0#32
  ![v2492.toNat, 1, 6, 112, 0]
def k0_mult10 (k0_t1 : Fin k0_t1_loop.trips) : BitVec 32 :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let c1024_i32_890 : BitVec 32 := 1024#32
  let v2512 : BitVec 32 := Scalar.muli v21 c1024_i32_890
  let c896_i32 : BitVec 32 := 896#32
  let v2513 : BitVec 32 := Scalar.addi v2512 c896_i32
  v2513
def k0_off140 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2536 : Index := Scalar.indexCast v21
  let c0_896 : Index := 0#32
  let c7_897 : Index := 7#32
  let c0_898 : Index := 0#32
  let c0_899 : Index := 0#32
  ![v2536.toNat, 0, 7, 0, 0]
def k0_off141 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2540 : Index := Scalar.indexCast v21
  let c1_900 : Index := 1#32
  let c7_901 : Index := 7#32
  let c0_902 : Index := 0#32
  let c0_903 : Index := 0#32
  ![v2540.toNat, 1, 7, 0, 0]
def k0_off142 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2573 : Index := Scalar.indexCast v21
  let c0_909 : Index := 0#32
  let c7_910 : Index := 7#32
  let c16_911 : Index := 16#32
  let c0_912 : Index := 0#32
  ![v2573.toNat, 0, 7, 16, 0]
def k0_off143 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2577 : Index := Scalar.indexCast v21
  let c1_913 : Index := 1#32
  let c7_914 : Index := 7#32
  let c16_915 : Index := 16#32
  let c0_916 : Index := 0#32
  ![v2577.toNat, 1, 7, 16, 0]
def k0_off144 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2612 : Index := Scalar.indexCast v21
  let c0_922 : Index := 0#32
  let c7_923 : Index := 7#32
  let c32_924 : Index := 32#32
  let c0_925 : Index := 0#32
  ![v2612.toNat, 0, 7, 32, 0]
def k0_off145 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2616 : Index := Scalar.indexCast v21
  let c1_926 : Index := 1#32
  let c7_927 : Index := 7#32
  let c32_928 : Index := 32#32
  let c0_929 : Index := 0#32
  ![v2616.toNat, 1, 7, 32, 0]
def k0_off146 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2651 : Index := Scalar.indexCast v21
  let c0_935 : Index := 0#32
  let c7_936 : Index := 7#32
  let c48_937 : Index := 48#32
  let c0_938 : Index := 0#32
  ![v2651.toNat, 0, 7, 48, 0]
def k0_off147 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2655 : Index := Scalar.indexCast v21
  let c1_939 : Index := 1#32
  let c7_940 : Index := 7#32
  let c48_941 : Index := 48#32
  let c0_942 : Index := 0#32
  ![v2655.toNat, 1, 7, 48, 0]
def k0_off148 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2690 : Index := Scalar.indexCast v21
  let c0_948 : Index := 0#32
  let c7_949 : Index := 7#32
  let c64_950 : Index := 64#32
  let c0_951 : Index := 0#32
  ![v2690.toNat, 0, 7, 64, 0]
def k0_off149 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2694 : Index := Scalar.indexCast v21
  let c1_952 : Index := 1#32
  let c7_953 : Index := 7#32
  let c64_954 : Index := 64#32
  let c0_955 : Index := 0#32
  ![v2694.toNat, 1, 7, 64, 0]
def k0_off150 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2729 : Index := Scalar.indexCast v21
  let c0_961 : Index := 0#32
  let c7_962 : Index := 7#32
  let c80_963 : Index := 80#32
  let c0_964 : Index := 0#32
  ![v2729.toNat, 0, 7, 80, 0]
def k0_off151 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2733 : Index := Scalar.indexCast v21
  let c1_965 : Index := 1#32
  let c7_966 : Index := 7#32
  let c80_967 : Index := 80#32
  let c0_968 : Index := 0#32
  ![v2733.toNat, 1, 7, 80, 0]
def k0_off152 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2768 : Index := Scalar.indexCast v21
  let c0_974 : Index := 0#32
  let c7_975 : Index := 7#32
  let c96_976 : Index := 96#32
  let c0_977 : Index := 0#32
  ![v2768.toNat, 0, 7, 96, 0]
def k0_off153 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2772 : Index := Scalar.indexCast v21
  let c1_978 : Index := 1#32
  let c7_979 : Index := 7#32
  let c96_980 : Index := 96#32
  let c0_981 : Index := 0#32
  ![v2772.toNat, 1, 7, 96, 0]
def k0_off154 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2807 : Index := Scalar.indexCast v21
  let c0_987 : Index := 0#32
  let c7_988 : Index := 7#32
  let c112_989 : Index := 112#32
  let c0_990 : Index := 0#32
  ![v2807.toNat, 0, 7, 112, 0]
def k0_off155 (k0_t1 : Fin k0_t1_loop.trips) : Fin 5 → Nat :=
  let c0_i32_13 : BitVec 32 := 0#32
  let c0_i32_10 : BitVec 32 := 0#32
  let c1_i32 : BitVec 32 := 1#32
  let arg10 : BitVec 32 := Scf.iv c0_i32_10 c1_i32 k0_t1
  let c1_i32_12 : BitVec 32 := 1#32
  let v20 : BitVec 32 := Scalar.muli arg10 c1_i32_12
  let v21 : BitVec 32 := Scalar.addi c0_i32_13 v20
  let v2811 : Index := Scalar.indexCast v21
  let c1_991 : Index := 1#32
  let c7_992 : Index := 7#32
  let c112_993 : Index := 112#32
  let c0_994 : Index := 0#32
  ![v2811.toNat, 1, 7, 112, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c56_i32 : BitVec 32 := 56#32
  let v4 : BitVec 1 := Scalar.cmpi .slt arg0 c56_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t2_loop : Scf.Loop 32 :=
  let c0_i32_5 : BitVec 32 := 0#32
  let c8_i32 : BitVec 32 := 8#32
  let v11 : BitVec 32 := Scalar.addi c0_i32_5 c8_i32
  let c1_i32 : BitVec 32 := 1#32
  ⟨c0_i32_5, v11, c1_i32⟩
def k0_mult11 (k0_t2 : Fin k0_t2_loop.trips) : BitVec 32 :=
  let c0_i32_9 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32 : BitVec 32 := 1024#32
  let v14 : BitVec 32 := Scalar.muli v13 c1024_i32
  let v15 : BitVec 32 := Scalar.addi c0_i32_9 v14
  let c0_i32_10 : BitVec 32 := 0#32
  let v16 : BitVec 32 := Scalar.addi v15 c0_i32_10
  v16
def k0_off156 (k0_t2 : Fin k0_t2_loop.trips) (c0_i32_12 : BitVec 32) : Fin 3 → Nat :=
  let c0 : Index := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c8_i32_11 : BitVec 32 := 8#32
  let v18 : BitVec 32 := Scalar.muli v13 c8_i32_11
  let v19 : BitVec 32 := Scalar.addi v18 c0_i32_12
  let v20 : Index := Scalar.indexCast v19
  let c0_13 : Index := 0#32
  ![0, v20.toNat, 0]
def k0_off157 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v23 : Index := Scalar.indexCast v13
  let c0_14 : Index := 0#32
  let c0_15 : Index := 0#32
  let c0_16 : Index := 0#32
  let c0_17 : Index := 0#32
  ![v23.toNat, 0, 0, 0, 0]
def k0_off158 (k0_t2 : Fin k0_t2_loop.trips) (c0_i32_9 : BitVec 32) (c0_i32_10 : BitVec 32) : Fin 2 → Nat :=
  let c0_19 : Index := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32 : BitVec 32 := 1024#32
  let v14 : BitVec 32 := Scalar.muli v13 c1024_i32
  let v15 : BitVec 32 := Scalar.addi c0_i32_9 v14
  let v16 : BitVec 32 := Scalar.addi v15 c0_i32_10
  let v17 : BitVec 32 := v16
  let v33 : Index := Scalar.indexCast v17
  ![0, v33.toNat]
def k0_off159 (k0_t2 : Fin k0_t2_loop.trips) (c0_i32_9 : BitVec 32) (c0_i32_10 : BitVec 32) : Fin 2 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32 : BitVec 32 := 1024#32
  let v14 : BitVec 32 := Scalar.muli v13 c1024_i32
  let v15 : BitVec 32 := Scalar.addi c0_i32_9 v14
  let v16 : BitVec 32 := Scalar.addi v15 c0_i32_10
  let v17 : BitVec 32 := v16
  let v37 : Index := Scalar.indexCast v17
  let c0_20 : Index := 0#32
  ![v37.toNat, 0]
def k0_mult12 (k0_t2 : Fin k0_t2_loop.trips) : BitVec 32 :=
  let c8192_i32 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_21 : BitVec 32 := 1024#32
  let v39 : BitVec 32 := Scalar.muli v13 c1024_i32_21
  let v40 : BitVec 32 := Scalar.addi c8192_i32 v39
  let c0_i32_22 : BitVec 32 := 0#32
  let v41 : BitVec 32 := Scalar.addi v40 c0_i32_22
  v41
def k0_off160 (k0_t2 : Fin k0_t2_loop.trips) (c0_i32_24 : BitVec 32) : Fin 3 → Nat :=
  let c1 : Index := 1#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c8_i32_23 : BitVec 32 := 8#32
  let v43 : BitVec 32 := Scalar.muli v13 c8_i32_23
  let v44 : BitVec 32 := Scalar.addi v43 c0_i32_24
  let v45 : Index := Scalar.indexCast v44
  let c0_25 : Index := 0#32
  ![1, v45.toNat, 0]
def k0_off161 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v48 : Index := Scalar.indexCast v13
  let c1_26 : Index := 1#32
  let c0_27 : Index := 0#32
  let c0_28 : Index := 0#32
  let c0_29 : Index := 0#32
  ![v48.toNat, 1, 0, 0, 0]
def k0_mult13 (k0_t2 : Fin k0_t2_loop.trips) : BitVec 32 :=
  let c0_i32_35 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_34 : BitVec 32 := 1024#32
  let v64 : BitVec 32 := Scalar.muli v13 c1024_i32_34
  let v65 : BitVec 32 := Scalar.addi c0_i32_35 v64
  let c128_i32 : BitVec 32 := 128#32
  let v66 : BitVec 32 := Scalar.addi v65 c128_i32
  v66
def k0_off162 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v73 : Index := Scalar.indexCast v13
  let c0_40 : Index := 0#32
  let c1_41 : Index := 1#32
  let c0_42 : Index := 0#32
  let c0_43 : Index := 0#32
  ![v73.toNat, 0, 1, 0, 0]
def k0_mult14 (k0_t2 : Fin k0_t2_loop.trips) : BitVec 32 :=
  let c8192_i32_49 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_48 : BitVec 32 := 1024#32
  let v89 : BitVec 32 := Scalar.muli v13 c1024_i32_48
  let v90 : BitVec 32 := Scalar.addi c8192_i32_49 v89
  let c128_i32_50 : BitVec 32 := 128#32
  let v91 : BitVec 32 := Scalar.addi v90 c128_i32_50
  v91
def k0_off163 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v98 : Index := Scalar.indexCast v13
  let c1_55 : Index := 1#32
  let c1_56 : Index := 1#32
  let c0_57 : Index := 0#32
  let c0_58 : Index := 0#32
  ![v98.toNat, 1, 1, 0, 0]
def k0_mult15 (k0_t2 : Fin k0_t2_loop.trips) : BitVec 32 :=
  let c0_i32_64 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_63 : BitVec 32 := 1024#32
  let v114 : BitVec 32 := Scalar.muli v13 c1024_i32_63
  let v115 : BitVec 32 := Scalar.addi c0_i32_64 v114
  let c256_i32 : BitVec 32 := 256#32
  let v116 : BitVec 32 := Scalar.addi v115 c256_i32
  v116
def k0_off164 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v123 : Index := Scalar.indexCast v13
  let c0_68 : Index := 0#32
  let c2 : Index := 2#32
  let c0_69 : Index := 0#32
  let c0_70 : Index := 0#32
  ![v123.toNat, 0, 2, 0, 0]
def k0_mult16 (k0_t2 : Fin k0_t2_loop.trips) : BitVec 32 :=
  let c8192_i32_76 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_75 : BitVec 32 := 1024#32
  let v139 : BitVec 32 := Scalar.muli v13 c1024_i32_75
  let v140 : BitVec 32 := Scalar.addi c8192_i32_76 v139
  let c256_i32_77 : BitVec 32 := 256#32
  let v141 : BitVec 32 := Scalar.addi v140 c256_i32_77
  v141
def k0_off165 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v148 : Index := Scalar.indexCast v13
  let c1_82 : Index := 1#32
  let c2_83 : Index := 2#32
  let c0_84 : Index := 0#32
  let c0_85 : Index := 0#32
  ![v148.toNat, 1, 2, 0, 0]
def k0_mult17 (k0_t2 : Fin k0_t2_loop.trips) : BitVec 32 :=
  let c0_i32_91 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_90 : BitVec 32 := 1024#32
  let v164 : BitVec 32 := Scalar.muli v13 c1024_i32_90
  let v165 : BitVec 32 := Scalar.addi c0_i32_91 v164
  let c384_i32 : BitVec 32 := 384#32
  let v166 : BitVec 32 := Scalar.addi v165 c384_i32
  v166
def k0_off166 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v173 : Index := Scalar.indexCast v13
  let c0_95 : Index := 0#32
  let c3 : Index := 3#32
  let c0_96 : Index := 0#32
  let c0_97 : Index := 0#32
  ![v173.toNat, 0, 3, 0, 0]
def k0_mult18 (k0_t2 : Fin k0_t2_loop.trips) : BitVec 32 :=
  let c8192_i32_103 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_102 : BitVec 32 := 1024#32
  let v189 : BitVec 32 := Scalar.muli v13 c1024_i32_102
  let v190 : BitVec 32 := Scalar.addi c8192_i32_103 v189
  let c384_i32_104 : BitVec 32 := 384#32
  let v191 : BitVec 32 := Scalar.addi v190 c384_i32_104
  v191
def k0_off167 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v198 : Index := Scalar.indexCast v13
  let c1_109 : Index := 1#32
  let c3_110 : Index := 3#32
  let c0_111 : Index := 0#32
  let c0_112 : Index := 0#32
  ![v198.toNat, 1, 3, 0, 0]
def k0_mult19 (k0_t2 : Fin k0_t2_loop.trips) : BitVec 32 :=
  let c0_i32_118 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_117 : BitVec 32 := 1024#32
  let v214 : BitVec 32 := Scalar.muli v13 c1024_i32_117
  let v215 : BitVec 32 := Scalar.addi c0_i32_118 v214
  let c512_i32 : BitVec 32 := 512#32
  let v216 : BitVec 32 := Scalar.addi v215 c512_i32
  v216
def k0_off168 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v223 : Index := Scalar.indexCast v13
  let c0_122 : Index := 0#32
  let c4 : Index := 4#32
  let c0_123 : Index := 0#32
  let c0_124 : Index := 0#32
  ![v223.toNat, 0, 4, 0, 0]
def k0_mult20 (k0_t2 : Fin k0_t2_loop.trips) : BitVec 32 :=
  let c8192_i32_130 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_129 : BitVec 32 := 1024#32
  let v239 : BitVec 32 := Scalar.muli v13 c1024_i32_129
  let v240 : BitVec 32 := Scalar.addi c8192_i32_130 v239
  let c512_i32_131 : BitVec 32 := 512#32
  let v241 : BitVec 32 := Scalar.addi v240 c512_i32_131
  v241
def k0_off169 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v248 : Index := Scalar.indexCast v13
  let c1_136 : Index := 1#32
  let c4_137 : Index := 4#32
  let c0_138 : Index := 0#32
  let c0_139 : Index := 0#32
  ![v248.toNat, 1, 4, 0, 0]
def k0_mult21 (k0_t2 : Fin k0_t2_loop.trips) : BitVec 32 :=
  let c0_i32_145 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_144 : BitVec 32 := 1024#32
  let v264 : BitVec 32 := Scalar.muli v13 c1024_i32_144
  let v265 : BitVec 32 := Scalar.addi c0_i32_145 v264
  let c640_i32 : BitVec 32 := 640#32
  let v266 : BitVec 32 := Scalar.addi v265 c640_i32
  v266
def k0_off170 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v273 : Index := Scalar.indexCast v13
  let c0_149 : Index := 0#32
  let c5 : Index := 5#32
  let c0_150 : Index := 0#32
  let c0_151 : Index := 0#32
  ![v273.toNat, 0, 5, 0, 0]
def k0_mult22 (k0_t2 : Fin k0_t2_loop.trips) : BitVec 32 :=
  let c8192_i32_157 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_156 : BitVec 32 := 1024#32
  let v289 : BitVec 32 := Scalar.muli v13 c1024_i32_156
  let v290 : BitVec 32 := Scalar.addi c8192_i32_157 v289
  let c640_i32_158 : BitVec 32 := 640#32
  let v291 : BitVec 32 := Scalar.addi v290 c640_i32_158
  v291
def k0_off171 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v298 : Index := Scalar.indexCast v13
  let c1_163 : Index := 1#32
  let c5_164 : Index := 5#32
  let c0_165 : Index := 0#32
  let c0_166 : Index := 0#32
  ![v298.toNat, 1, 5, 0, 0]
def k0_mult23 (k0_t2 : Fin k0_t2_loop.trips) : BitVec 32 :=
  let c0_i32_172 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_171 : BitVec 32 := 1024#32
  let v314 : BitVec 32 := Scalar.muli v13 c1024_i32_171
  let v315 : BitVec 32 := Scalar.addi c0_i32_172 v314
  let c768_i32 : BitVec 32 := 768#32
  let v316 : BitVec 32 := Scalar.addi v315 c768_i32
  v316
def k0_off172 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v323 : Index := Scalar.indexCast v13
  let c0_176 : Index := 0#32
  let c6 : Index := 6#32
  let c0_177 : Index := 0#32
  let c0_178 : Index := 0#32
  ![v323.toNat, 0, 6, 0, 0]
def k0_mult24 (k0_t2 : Fin k0_t2_loop.trips) : BitVec 32 :=
  let c8192_i32_184 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_183 : BitVec 32 := 1024#32
  let v339 : BitVec 32 := Scalar.muli v13 c1024_i32_183
  let v340 : BitVec 32 := Scalar.addi c8192_i32_184 v339
  let c768_i32_185 : BitVec 32 := 768#32
  let v341 : BitVec 32 := Scalar.addi v340 c768_i32_185
  v341
def k0_off173 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v348 : Index := Scalar.indexCast v13
  let c1_190 : Index := 1#32
  let c6_191 : Index := 6#32
  let c0_192 : Index := 0#32
  let c0_193 : Index := 0#32
  ![v348.toNat, 1, 6, 0, 0]
def k0_mult25 (k0_t2 : Fin k0_t2_loop.trips) : BitVec 32 :=
  let c0_i32_199 : BitVec 32 := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_198 : BitVec 32 := 1024#32
  let v364 : BitVec 32 := Scalar.muli v13 c1024_i32_198
  let v365 : BitVec 32 := Scalar.addi c0_i32_199 v364
  let c896_i32 : BitVec 32 := 896#32
  let v366 : BitVec 32 := Scalar.addi v365 c896_i32
  v366
def k0_off174 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v373 : Index := Scalar.indexCast v13
  let c0_203 : Index := 0#32
  let c7 : Index := 7#32
  let c0_204 : Index := 0#32
  let c0_205 : Index := 0#32
  ![v373.toNat, 0, 7, 0, 0]
def k0_mult26 (k0_t2 : Fin k0_t2_loop.trips) : BitVec 32 :=
  let c8192_i32_211 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_210 : BitVec 32 := 1024#32
  let v389 : BitVec 32 := Scalar.muli v13 c1024_i32_210
  let v390 : BitVec 32 := Scalar.addi c8192_i32_211 v389
  let c896_i32_212 : BitVec 32 := 896#32
  let v391 : BitVec 32 := Scalar.addi v390 c896_i32_212
  v391
def k0_off175 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v398 : Index := Scalar.indexCast v13
  let c1_217 : Index := 1#32
  let c7_218 : Index := 7#32
  let c0_219 : Index := 0#32
  let c0_220 : Index := 0#32
  ![v398.toNat, 1, 7, 0, 0]
def k0_mult27 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c0_i32_225 : BitVec 32 := 0#32
  let v414 : BitVec 1 := Scalar.cmpi .eq v13 c0_i32_225
  let c7_i32_229 : BitVec 32 := 7#32
  let c1_i32_228 : BitVec 32 := 1#32
  let v418 : BitVec 32 := Scalar.subi v13 c1_i32_228
  let v419 : BitVec 32 := Scalar.select v414 c7_i32_229 v418
  let c8_i32_278 : BitVec 32 := 8#32
  let v531 : BitVec 32 := Scalar.muli v419 c8_i32_278
  v531
def k0_off176 (k0_t2 : Fin k0_t2_loop.trips) : Fin 3 → Nat :=
  let c0_279 : Index := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c0_i32_225 : BitVec 32 := 0#32
  let v414 : BitVec 1 := Scalar.cmpi .eq v13 c0_i32_225
  let c7_i32_229 : BitVec 32 := 7#32
  let c1_i32_228 : BitVec 32 := 1#32
  let v418 : BitVec 32 := Scalar.subi v13 c1_i32_228
  let v419 : BitVec 32 := Scalar.select v414 c7_i32_229 v418
  let c8_i32_278 : BitVec 32 := 8#32
  let v531 : BitVec 32 := Scalar.muli v419 c8_i32_278
  let v532 : BitVec 32 := v531
  let v533 : Index := Scalar.indexCast v532
  let c0_280 : Index := 0#32
  ![0, v533.toNat, 0]
def k0_mult28 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c0_i32_225 : BitVec 32 := 0#32
  let v414 : BitVec 1 := Scalar.cmpi .eq v13 c0_i32_225
  let c7_i32_229 : BitVec 32 := 7#32
  let c1_i32_228 : BitVec 32 := 1#32
  let v418 : BitVec 32 := Scalar.subi v13 c1_i32_228
  let v419 : BitVec 32 := Scalar.select v414 c7_i32_229 v418
  let c8_i32_335 : BitVec 32 := 8#32
  let v650 : BitVec 32 := Scalar.muli v419 c8_i32_335
  v650
def k0_off177 (k0_t2 : Fin k0_t2_loop.trips) : Fin 3 → Nat :=
  let c1_336 : Index := 1#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c0_i32_225 : BitVec 32 := 0#32
  let v414 : BitVec 1 := Scalar.cmpi .eq v13 c0_i32_225
  let c7_i32_229 : BitVec 32 := 7#32
  let c1_i32_228 : BitVec 32 := 1#32
  let v418 : BitVec 32 := Scalar.subi v13 c1_i32_228
  let v419 : BitVec 32 := Scalar.select v414 c7_i32_229 v418
  let c8_i32_335 : BitVec 32 := 8#32
  let v650 : BitVec 32 := Scalar.muli v419 c8_i32_335
  let v651 : BitVec 32 := v650
  let v652 : Index := Scalar.indexCast v651
  let c0_337 : Index := 0#32
  ![1, v652.toNat, 0]
def k0_off178 (i : grid0.Coords) (k0_t2 : Fin k0_t2_loop.trips) : Fin 2 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c0_i32_225 : BitVec 32 := 0#32
  let v414 : BitVec 1 := Scalar.cmpi .eq v13 c0_i32_225
  let arg0 : BitVec 32 := BitVec.ofNat 32 (i 0).val
  let c1_i32_226 : BitVec 32 := 1#32
  let v415 : BitVec 32 := Scalar.subi arg0 c1_i32_226
  let c0_i32_227 : BitVec 32 := 0#32
  let v416 : BitVec 32 := Scalar.maxsi v415 c0_i32_227
  let v417 : BitVec 32 := Scalar.select v414 v416 arg0
  let v669 : Index := Scalar.indexCast v417
  let c0_344 : Index := 0#32
  ![v669.toNat, 0]
def k0_mult29 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let c0_i32_346 : BitVec 32 := 0#32
  let v672 : BitVec 32 := Scalar.addi v671 c0_i32_346
  v672
def k0_off179 (k0_t2 : Fin k0_t2_loop.trips) (c0_i32_346 : BitVec 32) : Fin 2 → Nat :=
  let c0_347 : Index := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v674 : Index := Scalar.indexCast v673
  ![0, v674.toNat]
def k0_off180 (k0_t2 : Fin k0_t2_loop.trips) (c0_i32_346 : BitVec 32) : Fin 2 → Nat :=
  let c0_349 : Index := 0#32
  let c8192_i32_348 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v677 : BitVec 32 := Scalar.addi c8192_i32_348 v673
  let v678 : Index := Scalar.indexCast v677
  ![0, v678.toNat]
def k0_off181 (k0_t2 : Fin k0_t2_loop.trips) (c0_i32_346 : BitVec 32) : Fin 2 → Nat :=
  let c0_350 : Index := 0#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v681 : Index := Scalar.indexCast v673
  ![0, v681.toNat]
def k0_off182 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v695 : Index := Scalar.indexCast v13
  let c0_352 : Index := 0#32
  let c0_353 : Index := 0#32
  let c0_354 : Index := 0#32
  let c0_355 : Index := 0#32
  ![v695.toNat, 0, 0, 0, 0]
def k0_off183 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v699 : Index := Scalar.indexCast v13
  let c1_356 : Index := 1#32
  let c0_357 : Index := 0#32
  let c0_358 : Index := 0#32
  let c0_359 : Index := 0#32
  ![v699.toNat, 1, 0, 0, 0]
def k0_off184 (k0_t2 : Fin k0_t2_loop.trips) (c0_i32_346 : BitVec 32) : Fin 2 → Nat :=
  let c16 : Index := 16#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v711 : Index := Scalar.indexCast v673
  ![16, v711.toNat]
def k0_off185 (k0_t2 : Fin k0_t2_loop.trips) (c0_i32_346 : BitVec 32) : Fin 2 → Nat :=
  let c16_361 : Index := 16#32
  let c8192_i32_360 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v714 : BitVec 32 := Scalar.addi c8192_i32_360 v673
  let v715 : Index := Scalar.indexCast v714
  ![16, v715.toNat]
def k0_off186 (k0_t2 : Fin k0_t2_loop.trips) (c0_i32_346 : BitVec 32) : Fin 2 → Nat :=
  let c16_362 : Index := 16#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v718 : Index := Scalar.indexCast v673
  ![16, v718.toNat]
def k0_off187 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v732 : Index := Scalar.indexCast v13
  let c0_364 : Index := 0#32
  let c0_365 : Index := 0#32
  let c16_366 : Index := 16#32
  let c0_367 : Index := 0#32
  ![v732.toNat, 0, 0, 16, 0]
def k0_off188 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v736 : Index := Scalar.indexCast v13
  let c1_368 : Index := 1#32
  let c0_369 : Index := 0#32
  let c16_370 : Index := 16#32
  let c0_371 : Index := 0#32
  ![v736.toNat, 1, 0, 16, 0]
def k0_off189 (k0_t2 : Fin k0_t2_loop.trips) (c0_i32_346 : BitVec 32) : Fin 2 → Nat :=
  let c32 : Index := 32#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v750 : Index := Scalar.indexCast v673
  ![32, v750.toNat]
def k0_off190 (k0_t2 : Fin k0_t2_loop.trips) (c0_i32_346 : BitVec 32) : Fin 2 → Nat :=
  let c32_373 : Index := 32#32
  let c8192_i32_372 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v753 : BitVec 32 := Scalar.addi c8192_i32_372 v673
  let v754 : Index := Scalar.indexCast v753
  ![32, v754.toNat]
def k0_off191 (k0_t2 : Fin k0_t2_loop.trips) (c0_i32_346 : BitVec 32) : Fin 2 → Nat :=
  let c32_374 : Index := 32#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v757 : Index := Scalar.indexCast v673
  ![32, v757.toNat]
def k0_off192 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v771 : Index := Scalar.indexCast v13
  let c0_376 : Index := 0#32
  let c0_377 : Index := 0#32
  let c32_378 : Index := 32#32
  let c0_379 : Index := 0#32
  ![v771.toNat, 0, 0, 32, 0]
def k0_off193 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v775 : Index := Scalar.indexCast v13
  let c1_380 : Index := 1#32
  let c0_381 : Index := 0#32
  let c32_382 : Index := 32#32
  let c0_383 : Index := 0#32
  ![v775.toNat, 1, 0, 32, 0]
def k0_off194 (k0_t2 : Fin k0_t2_loop.trips) (c0_i32_346 : BitVec 32) : Fin 2 → Nat :=
  let c48 : Index := 48#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v789 : Index := Scalar.indexCast v673
  ![48, v789.toNat]
def k0_off195 (k0_t2 : Fin k0_t2_loop.trips) (c0_i32_346 : BitVec 32) : Fin 2 → Nat :=
  let c48_385 : Index := 48#32
  let c8192_i32_384 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v792 : BitVec 32 := Scalar.addi c8192_i32_384 v673
  let v793 : Index := Scalar.indexCast v792
  ![48, v793.toNat]
def k0_off196 (k0_t2 : Fin k0_t2_loop.trips) (c0_i32_346 : BitVec 32) : Fin 2 → Nat :=
  let c48_386 : Index := 48#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v796 : Index := Scalar.indexCast v673
  ![48, v796.toNat]
def k0_off197 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v810 : Index := Scalar.indexCast v13
  let c0_388 : Index := 0#32
  let c0_389 : Index := 0#32
  let c48_390 : Index := 48#32
  let c0_391 : Index := 0#32
  ![v810.toNat, 0, 0, 48, 0]
def k0_off198 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v814 : Index := Scalar.indexCast v13
  let c1_392 : Index := 1#32
  let c0_393 : Index := 0#32
  let c48_394 : Index := 48#32
  let c0_395 : Index := 0#32
  ![v814.toNat, 1, 0, 48, 0]
def k0_off199 (k0_t2 : Fin k0_t2_loop.trips) (c0_i32_346 : BitVec 32) : Fin 2 → Nat :=
  let c64 : Index := 64#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v828 : Index := Scalar.indexCast v673
  ![64, v828.toNat]
def k0_off200 (k0_t2 : Fin k0_t2_loop.trips) (c0_i32_346 : BitVec 32) : Fin 2 → Nat :=
  let c64_397 : Index := 64#32
  let c8192_i32_396 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v831 : BitVec 32 := Scalar.addi c8192_i32_396 v673
  let v832 : Index := Scalar.indexCast v831
  ![64, v832.toNat]
def k0_off201 (k0_t2 : Fin k0_t2_loop.trips) (c0_i32_346 : BitVec 32) : Fin 2 → Nat :=
  let c64_398 : Index := 64#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v835 : Index := Scalar.indexCast v673
  ![64, v835.toNat]
def k0_off202 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v849 : Index := Scalar.indexCast v13
  let c0_400 : Index := 0#32
  let c0_401 : Index := 0#32
  let c64_402 : Index := 64#32
  let c0_403 : Index := 0#32
  ![v849.toNat, 0, 0, 64, 0]
def k0_off203 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v853 : Index := Scalar.indexCast v13
  let c1_404 : Index := 1#32
  let c0_405 : Index := 0#32
  let c64_406 : Index := 64#32
  let c0_407 : Index := 0#32
  ![v853.toNat, 1, 0, 64, 0]
def k0_off204 (k0_t2 : Fin k0_t2_loop.trips) (c0_i32_346 : BitVec 32) : Fin 2 → Nat :=
  let c80 : Index := 80#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v867 : Index := Scalar.indexCast v673
  ![80, v867.toNat]
def k0_off205 (k0_t2 : Fin k0_t2_loop.trips) (c0_i32_346 : BitVec 32) : Fin 2 → Nat :=
  let c80_409 : Index := 80#32
  let c8192_i32_408 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v870 : BitVec 32 := Scalar.addi c8192_i32_408 v673
  let v871 : Index := Scalar.indexCast v870
  ![80, v871.toNat]
def k0_off206 (k0_t2 : Fin k0_t2_loop.trips) (c0_i32_346 : BitVec 32) : Fin 2 → Nat :=
  let c80_410 : Index := 80#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v874 : Index := Scalar.indexCast v673
  ![80, v874.toNat]
def k0_off207 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v888 : Index := Scalar.indexCast v13
  let c0_412 : Index := 0#32
  let c0_413 : Index := 0#32
  let c80_414 : Index := 80#32
  let c0_415 : Index := 0#32
  ![v888.toNat, 0, 0, 80, 0]
def k0_off208 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v892 : Index := Scalar.indexCast v13
  let c1_416 : Index := 1#32
  let c0_417 : Index := 0#32
  let c80_418 : Index := 80#32
  let c0_419 : Index := 0#32
  ![v892.toNat, 1, 0, 80, 0]
def k0_off209 (k0_t2 : Fin k0_t2_loop.trips) (c0_i32_346 : BitVec 32) : Fin 2 → Nat :=
  let c96 : Index := 96#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v906 : Index := Scalar.indexCast v673
  ![96, v906.toNat]
def k0_off210 (k0_t2 : Fin k0_t2_loop.trips) (c0_i32_346 : BitVec 32) : Fin 2 → Nat :=
  let c96_421 : Index := 96#32
  let c8192_i32_420 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v909 : BitVec 32 := Scalar.addi c8192_i32_420 v673
  let v910 : Index := Scalar.indexCast v909
  ![96, v910.toNat]
def k0_off211 (k0_t2 : Fin k0_t2_loop.trips) (c0_i32_346 : BitVec 32) : Fin 2 → Nat :=
  let c96_422 : Index := 96#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v913 : Index := Scalar.indexCast v673
  ![96, v913.toNat]
def k0_off212 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v927 : Index := Scalar.indexCast v13
  let c0_424 : Index := 0#32
  let c0_425 : Index := 0#32
  let c96_426 : Index := 96#32
  let c0_427 : Index := 0#32
  ![v927.toNat, 0, 0, 96, 0]
def k0_off213 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v931 : Index := Scalar.indexCast v13
  let c1_428 : Index := 1#32
  let c0_429 : Index := 0#32
  let c96_430 : Index := 96#32
  let c0_431 : Index := 0#32
  ![v931.toNat, 1, 0, 96, 0]
def k0_off214 (k0_t2 : Fin k0_t2_loop.trips) (c0_i32_346 : BitVec 32) : Fin 2 → Nat :=
  let c112 : Index := 112#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v945 : Index := Scalar.indexCast v673
  ![112, v945.toNat]
def k0_off215 (k0_t2 : Fin k0_t2_loop.trips) (c0_i32_346 : BitVec 32) : Fin 2 → Nat :=
  let c112_433 : Index := 112#32
  let c8192_i32_432 : BitVec 32 := 8192#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v948 : BitVec 32 := Scalar.addi c8192_i32_432 v673
  let v949 : Index := Scalar.indexCast v948
  ![112, v949.toNat]
def k0_off216 (k0_t2 : Fin k0_t2_loop.trips) (c0_i32_346 : BitVec 32) : Fin 2 → Nat :=
  let c112_434 : Index := 112#32
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_345 : BitVec 32 := 1024#32
  let v671 : BitVec 32 := Scalar.muli v13 c1024_i32_345
  let v672 : BitVec 32 := Scalar.addi v671 c0_i32_346
  let v673 : BitVec 32 := v672
  let v952 : Index := Scalar.indexCast v673
  ![112, v952.toNat]
def k0_off217 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v966 : Index := Scalar.indexCast v13
  let c0_436 : Index := 0#32
  let c0_437 : Index := 0#32
  let c112_438 : Index := 112#32
  let c0_439 : Index := 0#32
  ![v966.toNat, 0, 0, 112, 0]
def k0_off218 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v970 : Index := Scalar.indexCast v13
  let c1_440 : Index := 1#32
  let c0_441 : Index := 0#32
  let c112_442 : Index := 112#32
  let c0_443 : Index := 0#32
  ![v970.toNat, 1, 0, 112, 0]
def k0_mult30 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_450 : BitVec 32 := 1024#32
  let v990 : BitVec 32 := Scalar.muli v13 c1024_i32_450
  let c128_i32_451 : BitVec 32 := 128#32
  let v991 : BitVec 32 := Scalar.addi v990 c128_i32_451
  v991
def k0_off219 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1014 : Index := Scalar.indexCast v13
  let c0_457 : Index := 0#32
  let c1_458 : Index := 1#32
  let c0_459 : Index := 0#32
  let c0_460 : Index := 0#32
  ![v1014.toNat, 0, 1, 0, 0]
def k0_off220 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1018 : Index := Scalar.indexCast v13
  let c1_461 : Index := 1#32
  let c1_462 : Index := 1#32
  let c0_463 : Index := 0#32
  let c0_464 : Index := 0#32
  ![v1018.toNat, 1, 1, 0, 0]
def k0_off221 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1051 : Index := Scalar.indexCast v13
  let c0_470 : Index := 0#32
  let c1_471 : Index := 1#32
  let c16_472 : Index := 16#32
  let c0_473 : Index := 0#32
  ![v1051.toNat, 0, 1, 16, 0]
def k0_off222 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1055 : Index := Scalar.indexCast v13
  let c1_474 : Index := 1#32
  let c1_475 : Index := 1#32
  let c16_476 : Index := 16#32
  let c0_477 : Index := 0#32
  ![v1055.toNat, 1, 1, 16, 0]
def k0_off223 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1090 : Index := Scalar.indexCast v13
  let c0_483 : Index := 0#32
  let c1_484 : Index := 1#32
  let c32_485 : Index := 32#32
  let c0_486 : Index := 0#32
  ![v1090.toNat, 0, 1, 32, 0]
def k0_off224 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1094 : Index := Scalar.indexCast v13
  let c1_487 : Index := 1#32
  let c1_488 : Index := 1#32
  let c32_489 : Index := 32#32
  let c0_490 : Index := 0#32
  ![v1094.toNat, 1, 1, 32, 0]
def k0_off225 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1129 : Index := Scalar.indexCast v13
  let c0_496 : Index := 0#32
  let c1_497 : Index := 1#32
  let c48_498 : Index := 48#32
  let c0_499 : Index := 0#32
  ![v1129.toNat, 0, 1, 48, 0]
def k0_off226 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1133 : Index := Scalar.indexCast v13
  let c1_500 : Index := 1#32
  let c1_501 : Index := 1#32
  let c48_502 : Index := 48#32
  let c0_503 : Index := 0#32
  ![v1133.toNat, 1, 1, 48, 0]
def k0_off227 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1168 : Index := Scalar.indexCast v13
  let c0_509 : Index := 0#32
  let c1_510 : Index := 1#32
  let c64_511 : Index := 64#32
  let c0_512 : Index := 0#32
  ![v1168.toNat, 0, 1, 64, 0]
def k0_off228 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1172 : Index := Scalar.indexCast v13
  let c1_513 : Index := 1#32
  let c1_514 : Index := 1#32
  let c64_515 : Index := 64#32
  let c0_516 : Index := 0#32
  ![v1172.toNat, 1, 1, 64, 0]
def k0_off229 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1207 : Index := Scalar.indexCast v13
  let c0_522 : Index := 0#32
  let c1_523 : Index := 1#32
  let c80_524 : Index := 80#32
  let c0_525 : Index := 0#32
  ![v1207.toNat, 0, 1, 80, 0]
def k0_off230 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1211 : Index := Scalar.indexCast v13
  let c1_526 : Index := 1#32
  let c1_527 : Index := 1#32
  let c80_528 : Index := 80#32
  let c0_529 : Index := 0#32
  ![v1211.toNat, 1, 1, 80, 0]
def k0_off231 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1246 : Index := Scalar.indexCast v13
  let c0_535 : Index := 0#32
  let c1_536 : Index := 1#32
  let c96_537 : Index := 96#32
  let c0_538 : Index := 0#32
  ![v1246.toNat, 0, 1, 96, 0]
def k0_off232 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1250 : Index := Scalar.indexCast v13
  let c1_539 : Index := 1#32
  let c1_540 : Index := 1#32
  let c96_541 : Index := 96#32
  let c0_542 : Index := 0#32
  ![v1250.toNat, 1, 1, 96, 0]
def k0_off233 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1285 : Index := Scalar.indexCast v13
  let c0_548 : Index := 0#32
  let c1_549 : Index := 1#32
  let c112_550 : Index := 112#32
  let c0_551 : Index := 0#32
  ![v1285.toNat, 0, 1, 112, 0]
def k0_off234 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1289 : Index := Scalar.indexCast v13
  let c1_552 : Index := 1#32
  let c1_553 : Index := 1#32
  let c112_554 : Index := 112#32
  let c0_555 : Index := 0#32
  ![v1289.toNat, 1, 1, 112, 0]
def k0_mult31 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_561 : BitVec 32 := 1024#32
  let v1309 : BitVec 32 := Scalar.muli v13 c1024_i32_561
  let c256_i32_562 : BitVec 32 := 256#32
  let v1310 : BitVec 32 := Scalar.addi v1309 c256_i32_562
  v1310
def k0_off235 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1333 : Index := Scalar.indexCast v13
  let c0_568 : Index := 0#32
  let c2_569 : Index := 2#32
  let c0_570 : Index := 0#32
  let c0_571 : Index := 0#32
  ![v1333.toNat, 0, 2, 0, 0]
def k0_off236 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1337 : Index := Scalar.indexCast v13
  let c1_572 : Index := 1#32
  let c2_573 : Index := 2#32
  let c0_574 : Index := 0#32
  let c0_575 : Index := 0#32
  ![v1337.toNat, 1, 2, 0, 0]
def k0_off237 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1370 : Index := Scalar.indexCast v13
  let c0_581 : Index := 0#32
  let c2_582 : Index := 2#32
  let c16_583 : Index := 16#32
  let c0_584 : Index := 0#32
  ![v1370.toNat, 0, 2, 16, 0]
def k0_off238 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1374 : Index := Scalar.indexCast v13
  let c1_585 : Index := 1#32
  let c2_586 : Index := 2#32
  let c16_587 : Index := 16#32
  let c0_588 : Index := 0#32
  ![v1374.toNat, 1, 2, 16, 0]
def k0_off239 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1409 : Index := Scalar.indexCast v13
  let c0_594 : Index := 0#32
  let c2_595 : Index := 2#32
  let c32_596 : Index := 32#32
  let c0_597 : Index := 0#32
  ![v1409.toNat, 0, 2, 32, 0]
def k0_off240 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1413 : Index := Scalar.indexCast v13
  let c1_598 : Index := 1#32
  let c2_599 : Index := 2#32
  let c32_600 : Index := 32#32
  let c0_601 : Index := 0#32
  ![v1413.toNat, 1, 2, 32, 0]
def k0_off241 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1448 : Index := Scalar.indexCast v13
  let c0_607 : Index := 0#32
  let c2_608 : Index := 2#32
  let c48_609 : Index := 48#32
  let c0_610 : Index := 0#32
  ![v1448.toNat, 0, 2, 48, 0]
def k0_off242 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1452 : Index := Scalar.indexCast v13
  let c1_611 : Index := 1#32
  let c2_612 : Index := 2#32
  let c48_613 : Index := 48#32
  let c0_614 : Index := 0#32
  ![v1452.toNat, 1, 2, 48, 0]
def k0_off243 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1487 : Index := Scalar.indexCast v13
  let c0_620 : Index := 0#32
  let c2_621 : Index := 2#32
  let c64_622 : Index := 64#32
  let c0_623 : Index := 0#32
  ![v1487.toNat, 0, 2, 64, 0]
def k0_off244 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1491 : Index := Scalar.indexCast v13
  let c1_624 : Index := 1#32
  let c2_625 : Index := 2#32
  let c64_626 : Index := 64#32
  let c0_627 : Index := 0#32
  ![v1491.toNat, 1, 2, 64, 0]
def k0_off245 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1526 : Index := Scalar.indexCast v13
  let c0_633 : Index := 0#32
  let c2_634 : Index := 2#32
  let c80_635 : Index := 80#32
  let c0_636 : Index := 0#32
  ![v1526.toNat, 0, 2, 80, 0]
def k0_off246 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1530 : Index := Scalar.indexCast v13
  let c1_637 : Index := 1#32
  let c2_638 : Index := 2#32
  let c80_639 : Index := 80#32
  let c0_640 : Index := 0#32
  ![v1530.toNat, 1, 2, 80, 0]
def k0_off247 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1565 : Index := Scalar.indexCast v13
  let c0_646 : Index := 0#32
  let c2_647 : Index := 2#32
  let c96_648 : Index := 96#32
  let c0_649 : Index := 0#32
  ![v1565.toNat, 0, 2, 96, 0]
def k0_off248 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1569 : Index := Scalar.indexCast v13
  let c1_650 : Index := 1#32
  let c2_651 : Index := 2#32
  let c96_652 : Index := 96#32
  let c0_653 : Index := 0#32
  ![v1569.toNat, 1, 2, 96, 0]
def k0_off249 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1604 : Index := Scalar.indexCast v13
  let c0_659 : Index := 0#32
  let c2_660 : Index := 2#32
  let c112_661 : Index := 112#32
  let c0_662 : Index := 0#32
  ![v1604.toNat, 0, 2, 112, 0]
def k0_off250 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1608 : Index := Scalar.indexCast v13
  let c1_663 : Index := 1#32
  let c2_664 : Index := 2#32
  let c112_665 : Index := 112#32
  let c0_666 : Index := 0#32
  ![v1608.toNat, 1, 2, 112, 0]
def k0_mult32 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_673 : BitVec 32 := 1024#32
  let v1628 : BitVec 32 := Scalar.muli v13 c1024_i32_673
  let c384_i32_674 : BitVec 32 := 384#32
  let v1629 : BitVec 32 := Scalar.addi v1628 c384_i32_674
  v1629
def k0_off251 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1652 : Index := Scalar.indexCast v13
  let c0_680 : Index := 0#32
  let c3_681 : Index := 3#32
  let c0_682 : Index := 0#32
  let c0_683 : Index := 0#32
  ![v1652.toNat, 0, 3, 0, 0]
def k0_off252 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1656 : Index := Scalar.indexCast v13
  let c1_684 : Index := 1#32
  let c3_685 : Index := 3#32
  let c0_686 : Index := 0#32
  let c0_687 : Index := 0#32
  ![v1656.toNat, 1, 3, 0, 0]
def k0_off253 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1689 : Index := Scalar.indexCast v13
  let c0_693 : Index := 0#32
  let c3_694 : Index := 3#32
  let c16_695 : Index := 16#32
  let c0_696 : Index := 0#32
  ![v1689.toNat, 0, 3, 16, 0]
def k0_off254 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1693 : Index := Scalar.indexCast v13
  let c1_697 : Index := 1#32
  let c3_698 : Index := 3#32
  let c16_699 : Index := 16#32
  let c0_700 : Index := 0#32
  ![v1693.toNat, 1, 3, 16, 0]
def k0_off255 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1728 : Index := Scalar.indexCast v13
  let c0_706 : Index := 0#32
  let c3_707 : Index := 3#32
  let c32_708 : Index := 32#32
  let c0_709 : Index := 0#32
  ![v1728.toNat, 0, 3, 32, 0]
def k0_off256 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1732 : Index := Scalar.indexCast v13
  let c1_710 : Index := 1#32
  let c3_711 : Index := 3#32
  let c32_712 : Index := 32#32
  let c0_713 : Index := 0#32
  ![v1732.toNat, 1, 3, 32, 0]
def k0_off257 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1767 : Index := Scalar.indexCast v13
  let c0_719 : Index := 0#32
  let c3_720 : Index := 3#32
  let c48_721 : Index := 48#32
  let c0_722 : Index := 0#32
  ![v1767.toNat, 0, 3, 48, 0]
def k0_off258 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1771 : Index := Scalar.indexCast v13
  let c1_723 : Index := 1#32
  let c3_724 : Index := 3#32
  let c48_725 : Index := 48#32
  let c0_726 : Index := 0#32
  ![v1771.toNat, 1, 3, 48, 0]
def k0_off259 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1806 : Index := Scalar.indexCast v13
  let c0_732 : Index := 0#32
  let c3_733 : Index := 3#32
  let c64_734 : Index := 64#32
  let c0_735 : Index := 0#32
  ![v1806.toNat, 0, 3, 64, 0]
def k0_off260 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1810 : Index := Scalar.indexCast v13
  let c1_736 : Index := 1#32
  let c3_737 : Index := 3#32
  let c64_738 : Index := 64#32
  let c0_739 : Index := 0#32
  ![v1810.toNat, 1, 3, 64, 0]
def k0_off261 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1845 : Index := Scalar.indexCast v13
  let c0_745 : Index := 0#32
  let c3_746 : Index := 3#32
  let c80_747 : Index := 80#32
  let c0_748 : Index := 0#32
  ![v1845.toNat, 0, 3, 80, 0]
def k0_off262 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1849 : Index := Scalar.indexCast v13
  let c1_749 : Index := 1#32
  let c3_750 : Index := 3#32
  let c80_751 : Index := 80#32
  let c0_752 : Index := 0#32
  ![v1849.toNat, 1, 3, 80, 0]
def k0_off263 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1884 : Index := Scalar.indexCast v13
  let c0_758 : Index := 0#32
  let c3_759 : Index := 3#32
  let c96_760 : Index := 96#32
  let c0_761 : Index := 0#32
  ![v1884.toNat, 0, 3, 96, 0]
def k0_off264 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1888 : Index := Scalar.indexCast v13
  let c1_762 : Index := 1#32
  let c3_763 : Index := 3#32
  let c96_764 : Index := 96#32
  let c0_765 : Index := 0#32
  ![v1888.toNat, 1, 3, 96, 0]
def k0_off265 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1923 : Index := Scalar.indexCast v13
  let c0_771 : Index := 0#32
  let c3_772 : Index := 3#32
  let c112_773 : Index := 112#32
  let c0_774 : Index := 0#32
  ![v1923.toNat, 0, 3, 112, 0]
def k0_off266 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1927 : Index := Scalar.indexCast v13
  let c1_775 : Index := 1#32
  let c3_776 : Index := 3#32
  let c112_777 : Index := 112#32
  let c0_778 : Index := 0#32
  ![v1927.toNat, 1, 3, 112, 0]
def k0_mult33 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_784 : BitVec 32 := 1024#32
  let v1947 : BitVec 32 := Scalar.muli v13 c1024_i32_784
  let c512_i32_785 : BitVec 32 := 512#32
  let v1948 : BitVec 32 := Scalar.addi v1947 c512_i32_785
  v1948
def k0_off267 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1971 : Index := Scalar.indexCast v13
  let c0_791 : Index := 0#32
  let c4_792 : Index := 4#32
  let c0_793 : Index := 0#32
  let c0_794 : Index := 0#32
  ![v1971.toNat, 0, 4, 0, 0]
def k0_off268 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v1975 : Index := Scalar.indexCast v13
  let c1_795 : Index := 1#32
  let c4_796 : Index := 4#32
  let c0_797 : Index := 0#32
  let c0_798 : Index := 0#32
  ![v1975.toNat, 1, 4, 0, 0]
def k0_off269 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2008 : Index := Scalar.indexCast v13
  let c0_804 : Index := 0#32
  let c4_805 : Index := 4#32
  let c16_806 : Index := 16#32
  let c0_807 : Index := 0#32
  ![v2008.toNat, 0, 4, 16, 0]
def k0_off270 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2012 : Index := Scalar.indexCast v13
  let c1_808 : Index := 1#32
  let c4_809 : Index := 4#32
  let c16_810 : Index := 16#32
  let c0_811 : Index := 0#32
  ![v2012.toNat, 1, 4, 16, 0]
def k0_off271 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2047 : Index := Scalar.indexCast v13
  let c0_817 : Index := 0#32
  let c4_818 : Index := 4#32
  let c32_819 : Index := 32#32
  let c0_820 : Index := 0#32
  ![v2047.toNat, 0, 4, 32, 0]
def k0_off272 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2051 : Index := Scalar.indexCast v13
  let c1_821 : Index := 1#32
  let c4_822 : Index := 4#32
  let c32_823 : Index := 32#32
  let c0_824 : Index := 0#32
  ![v2051.toNat, 1, 4, 32, 0]
def k0_off273 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2086 : Index := Scalar.indexCast v13
  let c0_830 : Index := 0#32
  let c4_831 : Index := 4#32
  let c48_832 : Index := 48#32
  let c0_833 : Index := 0#32
  ![v2086.toNat, 0, 4, 48, 0]
def k0_off274 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2090 : Index := Scalar.indexCast v13
  let c1_834 : Index := 1#32
  let c4_835 : Index := 4#32
  let c48_836 : Index := 48#32
  let c0_837 : Index := 0#32
  ![v2090.toNat, 1, 4, 48, 0]
def k0_off275 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2125 : Index := Scalar.indexCast v13
  let c0_843 : Index := 0#32
  let c4_844 : Index := 4#32
  let c64_845 : Index := 64#32
  let c0_846 : Index := 0#32
  ![v2125.toNat, 0, 4, 64, 0]
def k0_off276 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2129 : Index := Scalar.indexCast v13
  let c1_847 : Index := 1#32
  let c4_848 : Index := 4#32
  let c64_849 : Index := 64#32
  let c0_850 : Index := 0#32
  ![v2129.toNat, 1, 4, 64, 0]
def k0_off277 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2164 : Index := Scalar.indexCast v13
  let c0_856 : Index := 0#32
  let c4_857 : Index := 4#32
  let c80_858 : Index := 80#32
  let c0_859 : Index := 0#32
  ![v2164.toNat, 0, 4, 80, 0]
def k0_off278 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2168 : Index := Scalar.indexCast v13
  let c1_860 : Index := 1#32
  let c4_861 : Index := 4#32
  let c80_862 : Index := 80#32
  let c0_863 : Index := 0#32
  ![v2168.toNat, 1, 4, 80, 0]
def k0_off279 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2203 : Index := Scalar.indexCast v13
  let c0_869 : Index := 0#32
  let c4_870 : Index := 4#32
  let c96_871 : Index := 96#32
  let c0_872 : Index := 0#32
  ![v2203.toNat, 0, 4, 96, 0]
def k0_off280 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2207 : Index := Scalar.indexCast v13
  let c1_873 : Index := 1#32
  let c4_874 : Index := 4#32
  let c96_875 : Index := 96#32
  let c0_876 : Index := 0#32
  ![v2207.toNat, 1, 4, 96, 0]
def k0_off281 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2242 : Index := Scalar.indexCast v13
  let c0_882 : Index := 0#32
  let c4_883 : Index := 4#32
  let c112_884 : Index := 112#32
  let c0_885 : Index := 0#32
  ![v2242.toNat, 0, 4, 112, 0]
def k0_off282 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2246 : Index := Scalar.indexCast v13
  let c1_886 : Index := 1#32
  let c4_887 : Index := 4#32
  let c112_888 : Index := 112#32
  let c0_889 : Index := 0#32
  ![v2246.toNat, 1, 4, 112, 0]
def k0_mult34 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_896 : BitVec 32 := 1024#32
  let v2266 : BitVec 32 := Scalar.muli v13 c1024_i32_896
  let c640_i32_897 : BitVec 32 := 640#32
  let v2267 : BitVec 32 := Scalar.addi v2266 c640_i32_897
  v2267
def k0_off283 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2290 : Index := Scalar.indexCast v13
  let c0_903 : Index := 0#32
  let c5_904 : Index := 5#32
  let c0_905 : Index := 0#32
  let c0_906 : Index := 0#32
  ![v2290.toNat, 0, 5, 0, 0]
def k0_off284 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2294 : Index := Scalar.indexCast v13
  let c1_907 : Index := 1#32
  let c5_908 : Index := 5#32
  let c0_909 : Index := 0#32
  let c0_910 : Index := 0#32
  ![v2294.toNat, 1, 5, 0, 0]
def k0_off285 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2327 : Index := Scalar.indexCast v13
  let c0_916 : Index := 0#32
  let c5_917 : Index := 5#32
  let c16_918 : Index := 16#32
  let c0_919 : Index := 0#32
  ![v2327.toNat, 0, 5, 16, 0]
def k0_off286 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2331 : Index := Scalar.indexCast v13
  let c1_920 : Index := 1#32
  let c5_921 : Index := 5#32
  let c16_922 : Index := 16#32
  let c0_923 : Index := 0#32
  ![v2331.toNat, 1, 5, 16, 0]
def k0_off287 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2366 : Index := Scalar.indexCast v13
  let c0_929 : Index := 0#32
  let c5_930 : Index := 5#32
  let c32_931 : Index := 32#32
  let c0_932 : Index := 0#32
  ![v2366.toNat, 0, 5, 32, 0]
def k0_off288 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2370 : Index := Scalar.indexCast v13
  let c1_933 : Index := 1#32
  let c5_934 : Index := 5#32
  let c32_935 : Index := 32#32
  let c0_936 : Index := 0#32
  ![v2370.toNat, 1, 5, 32, 0]
def k0_off289 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2405 : Index := Scalar.indexCast v13
  let c0_942 : Index := 0#32
  let c5_943 : Index := 5#32
  let c48_944 : Index := 48#32
  let c0_945 : Index := 0#32
  ![v2405.toNat, 0, 5, 48, 0]
def k0_off290 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2409 : Index := Scalar.indexCast v13
  let c1_946 : Index := 1#32
  let c5_947 : Index := 5#32
  let c48_948 : Index := 48#32
  let c0_949 : Index := 0#32
  ![v2409.toNat, 1, 5, 48, 0]
def k0_off291 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2444 : Index := Scalar.indexCast v13
  let c0_955 : Index := 0#32
  let c5_956 : Index := 5#32
  let c64_957 : Index := 64#32
  let c0_958 : Index := 0#32
  ![v2444.toNat, 0, 5, 64, 0]
def k0_off292 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2448 : Index := Scalar.indexCast v13
  let c1_959 : Index := 1#32
  let c5_960 : Index := 5#32
  let c64_961 : Index := 64#32
  let c0_962 : Index := 0#32
  ![v2448.toNat, 1, 5, 64, 0]
def k0_off293 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2483 : Index := Scalar.indexCast v13
  let c0_968 : Index := 0#32
  let c5_969 : Index := 5#32
  let c80_970 : Index := 80#32
  let c0_971 : Index := 0#32
  ![v2483.toNat, 0, 5, 80, 0]
def k0_off294 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2487 : Index := Scalar.indexCast v13
  let c1_972 : Index := 1#32
  let c5_973 : Index := 5#32
  let c80_974 : Index := 80#32
  let c0_975 : Index := 0#32
  ![v2487.toNat, 1, 5, 80, 0]
def k0_off295 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2522 : Index := Scalar.indexCast v13
  let c0_981 : Index := 0#32
  let c5_982 : Index := 5#32
  let c96_983 : Index := 96#32
  let c0_984 : Index := 0#32
  ![v2522.toNat, 0, 5, 96, 0]
def k0_off296 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2526 : Index := Scalar.indexCast v13
  let c1_985 : Index := 1#32
  let c5_986 : Index := 5#32
  let c96_987 : Index := 96#32
  let c0_988 : Index := 0#32
  ![v2526.toNat, 1, 5, 96, 0]
def k0_off297 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2561 : Index := Scalar.indexCast v13
  let c0_994 : Index := 0#32
  let c5_995 : Index := 5#32
  let c112_996 : Index := 112#32
  let c0_997 : Index := 0#32
  ![v2561.toNat, 0, 5, 112, 0]
def k0_off298 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2565 : Index := Scalar.indexCast v13
  let c1_998 : Index := 1#32
  let c5_999 : Index := 5#32
  let c112_1000 : Index := 112#32
  let c0_1001 : Index := 0#32
  ![v2565.toNat, 1, 5, 112, 0]
def k0_mult35 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_1007 : BitVec 32 := 1024#32
  let v2585 : BitVec 32 := Scalar.muli v13 c1024_i32_1007
  let c768_i32_1008 : BitVec 32 := 768#32
  let v2586 : BitVec 32 := Scalar.addi v2585 c768_i32_1008
  v2586
def k0_off299 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2609 : Index := Scalar.indexCast v13
  let c0_1014 : Index := 0#32
  let c6_1015 : Index := 6#32
  let c0_1016 : Index := 0#32
  let c0_1017 : Index := 0#32
  ![v2609.toNat, 0, 6, 0, 0]
def k0_off300 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2613 : Index := Scalar.indexCast v13
  let c1_1018 : Index := 1#32
  let c6_1019 : Index := 6#32
  let c0_1020 : Index := 0#32
  let c0_1021 : Index := 0#32
  ![v2613.toNat, 1, 6, 0, 0]
def k0_off301 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2646 : Index := Scalar.indexCast v13
  let c0_1027 : Index := 0#32
  let c6_1028 : Index := 6#32
  let c16_1029 : Index := 16#32
  let c0_1030 : Index := 0#32
  ![v2646.toNat, 0, 6, 16, 0]
def k0_off302 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2650 : Index := Scalar.indexCast v13
  let c1_1031 : Index := 1#32
  let c6_1032 : Index := 6#32
  let c16_1033 : Index := 16#32
  let c0_1034 : Index := 0#32
  ![v2650.toNat, 1, 6, 16, 0]
def k0_off303 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2685 : Index := Scalar.indexCast v13
  let c0_1040 : Index := 0#32
  let c6_1041 : Index := 6#32
  let c32_1042 : Index := 32#32
  let c0_1043 : Index := 0#32
  ![v2685.toNat, 0, 6, 32, 0]
def k0_off304 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2689 : Index := Scalar.indexCast v13
  let c1_1044 : Index := 1#32
  let c6_1045 : Index := 6#32
  let c32_1046 : Index := 32#32
  let c0_1047 : Index := 0#32
  ![v2689.toNat, 1, 6, 32, 0]
def k0_off305 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2724 : Index := Scalar.indexCast v13
  let c0_1053 : Index := 0#32
  let c6_1054 : Index := 6#32
  let c48_1055 : Index := 48#32
  let c0_1056 : Index := 0#32
  ![v2724.toNat, 0, 6, 48, 0]
def k0_off306 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2728 : Index := Scalar.indexCast v13
  let c1_1057 : Index := 1#32
  let c6_1058 : Index := 6#32
  let c48_1059 : Index := 48#32
  let c0_1060 : Index := 0#32
  ![v2728.toNat, 1, 6, 48, 0]
def k0_off307 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2763 : Index := Scalar.indexCast v13
  let c0_1066 : Index := 0#32
  let c6_1067 : Index := 6#32
  let c64_1068 : Index := 64#32
  let c0_1069 : Index := 0#32
  ![v2763.toNat, 0, 6, 64, 0]
def k0_off308 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2767 : Index := Scalar.indexCast v13
  let c1_1070 : Index := 1#32
  let c6_1071 : Index := 6#32
  let c64_1072 : Index := 64#32
  let c0_1073 : Index := 0#32
  ![v2767.toNat, 1, 6, 64, 0]
def k0_off309 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2802 : Index := Scalar.indexCast v13
  let c0_1079 : Index := 0#32
  let c6_1080 : Index := 6#32
  let c80_1081 : Index := 80#32
  let c0_1082 : Index := 0#32
  ![v2802.toNat, 0, 6, 80, 0]
def k0_off310 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2806 : Index := Scalar.indexCast v13
  let c1_1083 : Index := 1#32
  let c6_1084 : Index := 6#32
  let c80_1085 : Index := 80#32
  let c0_1086 : Index := 0#32
  ![v2806.toNat, 1, 6, 80, 0]
def k0_off311 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2841 : Index := Scalar.indexCast v13
  let c0_1092 : Index := 0#32
  let c6_1093 : Index := 6#32
  let c96_1094 : Index := 96#32
  let c0_1095 : Index := 0#32
  ![v2841.toNat, 0, 6, 96, 0]
def k0_off312 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2845 : Index := Scalar.indexCast v13
  let c1_1096 : Index := 1#32
  let c6_1097 : Index := 6#32
  let c96_1098 : Index := 96#32
  let c0_1099 : Index := 0#32
  ![v2845.toNat, 1, 6, 96, 0]
def k0_off313 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2880 : Index := Scalar.indexCast v13
  let c0_1105 : Index := 0#32
  let c6_1106 : Index := 6#32
  let c112_1107 : Index := 112#32
  let c0_1108 : Index := 0#32
  ![v2880.toNat, 0, 6, 112, 0]
def k0_off314 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2884 : Index := Scalar.indexCast v13
  let c1_1109 : Index := 1#32
  let c6_1110 : Index := 6#32
  let c112_1111 : Index := 112#32
  let c0_1112 : Index := 0#32
  ![v2884.toNat, 1, 6, 112, 0]
def k0_mult36 (k0_t2 : Fin k0_t2_loop.trips) : BitVec 32 :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let c1024_i32_1119 : BitVec 32 := 1024#32
  let v2904 : BitVec 32 := Scalar.muli v13 c1024_i32_1119
  let c896_i32_1120 : BitVec 32 := 896#32
  let v2905 : BitVec 32 := Scalar.addi v2904 c896_i32_1120
  v2905
def k0_off315 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2928 : Index := Scalar.indexCast v13
  let c0_1126 : Index := 0#32
  let c7_1127 : Index := 7#32
  let c0_1128 : Index := 0#32
  let c0_1129 : Index := 0#32
  ![v2928.toNat, 0, 7, 0, 0]
def k0_off316 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2932 : Index := Scalar.indexCast v13
  let c1_1130 : Index := 1#32
  let c7_1131 : Index := 7#32
  let c0_1132 : Index := 0#32
  let c0_1133 : Index := 0#32
  ![v2932.toNat, 1, 7, 0, 0]
def k0_off317 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2965 : Index := Scalar.indexCast v13
  let c0_1139 : Index := 0#32
  let c7_1140 : Index := 7#32
  let c16_1141 : Index := 16#32
  let c0_1142 : Index := 0#32
  ![v2965.toNat, 0, 7, 16, 0]
def k0_off318 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v2969 : Index := Scalar.indexCast v13
  let c1_1143 : Index := 1#32
  let c7_1144 : Index := 7#32
  let c16_1145 : Index := 16#32
  let c0_1146 : Index := 0#32
  ![v2969.toNat, 1, 7, 16, 0]
def k0_off319 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3004 : Index := Scalar.indexCast v13
  let c0_1152 : Index := 0#32
  let c7_1153 : Index := 7#32
  let c32_1154 : Index := 32#32
  let c0_1155 : Index := 0#32
  ![v3004.toNat, 0, 7, 32, 0]
def k0_off320 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3008 : Index := Scalar.indexCast v13
  let c1_1156 : Index := 1#32
  let c7_1157 : Index := 7#32
  let c32_1158 : Index := 32#32
  let c0_1159 : Index := 0#32
  ![v3008.toNat, 1, 7, 32, 0]
def k0_off321 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3043 : Index := Scalar.indexCast v13
  let c0_1165 : Index := 0#32
  let c7_1166 : Index := 7#32
  let c48_1167 : Index := 48#32
  let c0_1168 : Index := 0#32
  ![v3043.toNat, 0, 7, 48, 0]
def k0_off322 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3047 : Index := Scalar.indexCast v13
  let c1_1169 : Index := 1#32
  let c7_1170 : Index := 7#32
  let c48_1171 : Index := 48#32
  let c0_1172 : Index := 0#32
  ![v3047.toNat, 1, 7, 48, 0]
def k0_off323 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3082 : Index := Scalar.indexCast v13
  let c0_1178 : Index := 0#32
  let c7_1179 : Index := 7#32
  let c64_1180 : Index := 64#32
  let c0_1181 : Index := 0#32
  ![v3082.toNat, 0, 7, 64, 0]
def k0_off324 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3086 : Index := Scalar.indexCast v13
  let c1_1182 : Index := 1#32
  let c7_1183 : Index := 7#32
  let c64_1184 : Index := 64#32
  let c0_1185 : Index := 0#32
  ![v3086.toNat, 1, 7, 64, 0]
def k0_off325 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3121 : Index := Scalar.indexCast v13
  let c0_1191 : Index := 0#32
  let c7_1192 : Index := 7#32
  let c80_1193 : Index := 80#32
  let c0_1194 : Index := 0#32
  ![v3121.toNat, 0, 7, 80, 0]
def k0_off326 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3125 : Index := Scalar.indexCast v13
  let c1_1195 : Index := 1#32
  let c7_1196 : Index := 7#32
  let c80_1197 : Index := 80#32
  let c0_1198 : Index := 0#32
  ![v3125.toNat, 1, 7, 80, 0]
def k0_off327 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3160 : Index := Scalar.indexCast v13
  let c0_1204 : Index := 0#32
  let c7_1205 : Index := 7#32
  let c96_1206 : Index := 96#32
  let c0_1207 : Index := 0#32
  ![v3160.toNat, 0, 7, 96, 0]
def k0_off328 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3164 : Index := Scalar.indexCast v13
  let c1_1208 : Index := 1#32
  let c7_1209 : Index := 7#32
  let c96_1210 : Index := 96#32
  let c0_1211 : Index := 0#32
  ![v3164.toNat, 1, 7, 96, 0]
def k0_off329 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3199 : Index := Scalar.indexCast v13
  let c0_1217 : Index := 0#32
  let c7_1218 : Index := 7#32
  let c112_1219 : Index := 112#32
  let c0_1220 : Index := 0#32
  ![v3199.toNat, 0, 7, 112, 0]
def k0_off330 (k0_t2 : Fin k0_t2_loop.trips) : Fin 5 → Nat :=
  let c0_i32_8 : BitVec 32 := 0#32
  let c0_i32_5 : BitVec 32 := 0#32
  let c1_i32 : BitVec 32 := 1#32
  let arg10 : BitVec 32 := Scf.iv c0_i32_5 c1_i32 k0_t2
  let c1_i32_7 : BitVec 32 := 1#32
  let v12 : BitVec 32 := Scalar.muli arg10 c1_i32_7
  let v13 : BitVec 32 := Scalar.addi c0_i32_8 v12
  let v3203 : Index := Scalar.indexCast v13
  let c1_1221 : Index := 1#32
  let c7_1222 : Index := 7#32
  let c112_1223 : Index := 112#32
  let c0_1224 : Index := 0#32
  ![v3203.toNat, 1, 7, 112, 0]
def k0_cond3 (i : grid0.Coords) : BitVec 1 :=
  let arg0 : BitVec 32 := BitVec.ofNat 32 (i 0).val
  let c56_i32_3 : BitVec 32 := 56#32
  let v8 : BitVec 1 := Scalar.cmpi .eq arg0 c56_i32_3
  let v9 : BitVec 32 := Scalar.extui v8
  let c0_i32_4 : BitVec 32 := 0#32
  let v10 : BitVec 1 := Scalar.cmpi .ne v9 c0_i32_4
  v10

def k0_mult37 : BitVec 32 :=
  let c56_i32_39 : BitVec 32 := 56#32
  c56_i32_39
def k0_mult38 : BitVec 32 :=
  let c56_i32_95 : BitVec 32 := 56#32
  c56_i32_95
def k0_off331 (i : grid0.Coords) : Fin 2 → Nat :=
  let arg0 : BitVec 32 := BitVec.ofNat 32 (i 0).val
  let c1_i32 : BitVec 32 := 1#32
  let v11 : BitVec 32 := Scalar.subi arg0 c1_i32
  let v254 : Index := Scalar.indexCast v11
  let c0_102 : Index := 0#32
  ![v254.toNat, 0]
@[reducible] def k0_t3_loop : Scf.Loop 32 :=
  let c0_i32_103 : BitVec 32 := 0#32
  let c8_i32_104 : BitVec 32 := 8#32
  let v256 : BitVec 32 := Scalar.addi c0_i32_103 c8_i32_104
  let c1_i32_105 : BitVec 32 := 1#32
  ⟨c0_i32_103, v256, c1_i32_105⟩
def k0_mult39 (k0_t3 : Fin k0_t3_loop.trips) : BitVec 32 :=
  let c0_i32_109 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32 : BitVec 32 := 1024#32
  let v259 : BitVec 32 := Scalar.muli v258 c1024_i32
  let v260 : BitVec 32 := Scalar.addi c0_i32_109 v259
  let c0_i32_110 : BitVec 32 := 0#32
  let v261 : BitVec 32 := Scalar.addi v260 c0_i32_110
  v261
def k0_off332 (k0_t3 : Fin k0_t3_loop.trips) (c0_i32_112 : BitVec 32) : Fin 3 → Nat :=
  let c0_113 : Index := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c8_i32_111 : BitVec 32 := 8#32
  let v263 : BitVec 32 := Scalar.muli v258 c8_i32_111
  let v264 : BitVec 32 := Scalar.addi v263 c0_i32_112
  let v265 : Index := Scalar.indexCast v264
  let c0_114 : Index := 0#32
  ![0, v265.toNat, 0]
def k0_off333 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v268 : Index := Scalar.indexCast v258
  let c0_115 : Index := 0#32
  let c0_116 : Index := 0#32
  let c0_117 : Index := 0#32
  let c0_118 : Index := 0#32
  ![v268.toNat, 0, 0, 0, 0]
def k0_off334 (k0_t3 : Fin k0_t3_loop.trips) (c0_i32_109 : BitVec 32) (c0_i32_110 : BitVec 32) : Fin 2 → Nat :=
  let c0_121 : Index := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32 : BitVec 32 := 1024#32
  let v259 : BitVec 32 := Scalar.muli v258 c1024_i32
  let v260 : BitVec 32 := Scalar.addi c0_i32_109 v259
  let v261 : BitVec 32 := Scalar.addi v260 c0_i32_110
  let v262 : BitVec 32 := v261
  let v278 : Index := Scalar.indexCast v262
  ![0, v278.toNat]
def k0_off335 (k0_t3 : Fin k0_t3_loop.trips) (c0_i32_109 : BitVec 32) (c0_i32_110 : BitVec 32) : Fin 2 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32 : BitVec 32 := 1024#32
  let v259 : BitVec 32 := Scalar.muli v258 c1024_i32
  let v260 : BitVec 32 := Scalar.addi c0_i32_109 v259
  let v261 : BitVec 32 := Scalar.addi v260 c0_i32_110
  let v262 : BitVec 32 := v261
  let v282 : Index := Scalar.indexCast v262
  let c0_122 : Index := 0#32
  ![v282.toNat, 0]
def k0_mult40 (k0_t3 : Fin k0_t3_loop.trips) : BitVec 32 :=
  let c8192_i32 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_123 : BitVec 32 := 1024#32
  let v284 : BitVec 32 := Scalar.muli v258 c1024_i32_123
  let v285 : BitVec 32 := Scalar.addi c8192_i32 v284
  let c0_i32_124 : BitVec 32 := 0#32
  let v286 : BitVec 32 := Scalar.addi v285 c0_i32_124
  v286
def k0_off336 (k0_t3 : Fin k0_t3_loop.trips) (c0_i32_126 : BitVec 32) : Fin 3 → Nat :=
  let c1_127 : Index := 1#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c8_i32_125 : BitVec 32 := 8#32
  let v288 : BitVec 32 := Scalar.muli v258 c8_i32_125
  let v289 : BitVec 32 := Scalar.addi v288 c0_i32_126
  let v290 : Index := Scalar.indexCast v289
  let c0_128 : Index := 0#32
  ![1, v290.toNat, 0]
def k0_off337 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v293 : Index := Scalar.indexCast v258
  let c1_129 : Index := 1#32
  let c0_130 : Index := 0#32
  let c0_131 : Index := 0#32
  let c0_132 : Index := 0#32
  ![v293.toNat, 1, 0, 0, 0]
def k0_mult41 (k0_t3 : Fin k0_t3_loop.trips) : BitVec 32 :=
  let c0_i32_138 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_137 : BitVec 32 := 1024#32
  let v309 : BitVec 32 := Scalar.muli v258 c1024_i32_137
  let v310 : BitVec 32 := Scalar.addi c0_i32_138 v309
  let c128_i32_139 : BitVec 32 := 128#32
  let v311 : BitVec 32 := Scalar.addi v310 c128_i32_139
  v311
def k0_off338 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v318 : Index := Scalar.indexCast v258
  let c0_144 : Index := 0#32
  let c1_145 : Index := 1#32
  let c0_146 : Index := 0#32
  let c0_147 : Index := 0#32
  ![v318.toNat, 0, 1, 0, 0]
def k0_mult42 (k0_t3 : Fin k0_t3_loop.trips) : BitVec 32 :=
  let c8192_i32_153 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_152 : BitVec 32 := 1024#32
  let v334 : BitVec 32 := Scalar.muli v258 c1024_i32_152
  let v335 : BitVec 32 := Scalar.addi c8192_i32_153 v334
  let c128_i32_154 : BitVec 32 := 128#32
  let v336 : BitVec 32 := Scalar.addi v335 c128_i32_154
  v336
def k0_off339 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v343 : Index := Scalar.indexCast v258
  let c1_159 : Index := 1#32
  let c1_160 : Index := 1#32
  let c0_161 : Index := 0#32
  let c0_162 : Index := 0#32
  ![v343.toNat, 1, 1, 0, 0]
def k0_mult43 (k0_t3 : Fin k0_t3_loop.trips) : BitVec 32 :=
  let c0_i32_168 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_167 : BitVec 32 := 1024#32
  let v359 : BitVec 32 := Scalar.muli v258 c1024_i32_167
  let v360 : BitVec 32 := Scalar.addi c0_i32_168 v359
  let c256_i32 : BitVec 32 := 256#32
  let v361 : BitVec 32 := Scalar.addi v360 c256_i32
  v361
def k0_off340 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v368 : Index := Scalar.indexCast v258
  let c0_173 : Index := 0#32
  let c2_174 : Index := 2#32
  let c0_175 : Index := 0#32
  let c0_176 : Index := 0#32
  ![v368.toNat, 0, 2, 0, 0]
def k0_mult44 (k0_t3 : Fin k0_t3_loop.trips) : BitVec 32 :=
  let c8192_i32_182 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_181 : BitVec 32 := 1024#32
  let v384 : BitVec 32 := Scalar.muli v258 c1024_i32_181
  let v385 : BitVec 32 := Scalar.addi c8192_i32_182 v384
  let c256_i32_183 : BitVec 32 := 256#32
  let v386 : BitVec 32 := Scalar.addi v385 c256_i32_183
  v386
def k0_off341 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v393 : Index := Scalar.indexCast v258
  let c1_188 : Index := 1#32
  let c2_189 : Index := 2#32
  let c0_190 : Index := 0#32
  let c0_191 : Index := 0#32
  ![v393.toNat, 1, 2, 0, 0]
def k0_mult45 (k0_t3 : Fin k0_t3_loop.trips) : BitVec 32 :=
  let c0_i32_197 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_196 : BitVec 32 := 1024#32
  let v409 : BitVec 32 := Scalar.muli v258 c1024_i32_196
  let v410 : BitVec 32 := Scalar.addi c0_i32_197 v409
  let c384_i32 : BitVec 32 := 384#32
  let v411 : BitVec 32 := Scalar.addi v410 c384_i32
  v411
def k0_off342 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v418 : Index := Scalar.indexCast v258
  let c0_201 : Index := 0#32
  let c3_202 : Index := 3#32
  let c0_203 : Index := 0#32
  let c0_204 : Index := 0#32
  ![v418.toNat, 0, 3, 0, 0]
def k0_mult46 (k0_t3 : Fin k0_t3_loop.trips) : BitVec 32 :=
  let c8192_i32_210 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_209 : BitVec 32 := 1024#32
  let v434 : BitVec 32 := Scalar.muli v258 c1024_i32_209
  let v435 : BitVec 32 := Scalar.addi c8192_i32_210 v434
  let c384_i32_211 : BitVec 32 := 384#32
  let v436 : BitVec 32 := Scalar.addi v435 c384_i32_211
  v436
def k0_off343 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v443 : Index := Scalar.indexCast v258
  let c1_216 : Index := 1#32
  let c3_217 : Index := 3#32
  let c0_218 : Index := 0#32
  let c0_219 : Index := 0#32
  ![v443.toNat, 1, 3, 0, 0]
def k0_mult47 (k0_t3 : Fin k0_t3_loop.trips) : BitVec 32 :=
  let c0_i32_225 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_224 : BitVec 32 := 1024#32
  let v459 : BitVec 32 := Scalar.muli v258 c1024_i32_224
  let v460 : BitVec 32 := Scalar.addi c0_i32_225 v459
  let c512_i32 : BitVec 32 := 512#32
  let v461 : BitVec 32 := Scalar.addi v460 c512_i32
  v461
def k0_off344 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v468 : Index := Scalar.indexCast v258
  let c0_230 : Index := 0#32
  let c4_231 : Index := 4#32
  let c0_232 : Index := 0#32
  let c0_233 : Index := 0#32
  ![v468.toNat, 0, 4, 0, 0]
def k0_mult48 (k0_t3 : Fin k0_t3_loop.trips) : BitVec 32 :=
  let c8192_i32_239 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_238 : BitVec 32 := 1024#32
  let v484 : BitVec 32 := Scalar.muli v258 c1024_i32_238
  let v485 : BitVec 32 := Scalar.addi c8192_i32_239 v484
  let c512_i32_240 : BitVec 32 := 512#32
  let v486 : BitVec 32 := Scalar.addi v485 c512_i32_240
  v486
def k0_off345 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v493 : Index := Scalar.indexCast v258
  let c1_245 : Index := 1#32
  let c4_246 : Index := 4#32
  let c0_247 : Index := 0#32
  let c0_248 : Index := 0#32
  ![v493.toNat, 1, 4, 0, 0]
def k0_mult49 (k0_t3 : Fin k0_t3_loop.trips) : BitVec 32 :=
  let c0_i32_254 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_253 : BitVec 32 := 1024#32
  let v509 : BitVec 32 := Scalar.muli v258 c1024_i32_253
  let v510 : BitVec 32 := Scalar.addi c0_i32_254 v509
  let c640_i32 : BitVec 32 := 640#32
  let v511 : BitVec 32 := Scalar.addi v510 c640_i32
  v511
def k0_off346 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v518 : Index := Scalar.indexCast v258
  let c0_258 : Index := 0#32
  let c5_259 : Index := 5#32
  let c0_260 : Index := 0#32
  let c0_261 : Index := 0#32
  ![v518.toNat, 0, 5, 0, 0]
def k0_mult50 (k0_t3 : Fin k0_t3_loop.trips) : BitVec 32 :=
  let c8192_i32_267 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_266 : BitVec 32 := 1024#32
  let v534 : BitVec 32 := Scalar.muli v258 c1024_i32_266
  let v535 : BitVec 32 := Scalar.addi c8192_i32_267 v534
  let c640_i32_268 : BitVec 32 := 640#32
  let v536 : BitVec 32 := Scalar.addi v535 c640_i32_268
  v536
def k0_off347 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v543 : Index := Scalar.indexCast v258
  let c1_273 : Index := 1#32
  let c5_274 : Index := 5#32
  let c0_275 : Index := 0#32
  let c0_276 : Index := 0#32
  ![v543.toNat, 1, 5, 0, 0]
def k0_mult51 (k0_t3 : Fin k0_t3_loop.trips) : BitVec 32 :=
  let c0_i32_282 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_281 : BitVec 32 := 1024#32
  let v559 : BitVec 32 := Scalar.muli v258 c1024_i32_281
  let v560 : BitVec 32 := Scalar.addi c0_i32_282 v559
  let c768_i32 : BitVec 32 := 768#32
  let v561 : BitVec 32 := Scalar.addi v560 c768_i32
  v561
def k0_off348 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v568 : Index := Scalar.indexCast v258
  let c0_286 : Index := 0#32
  let c6_287 : Index := 6#32
  let c0_288 : Index := 0#32
  let c0_289 : Index := 0#32
  ![v568.toNat, 0, 6, 0, 0]
def k0_mult52 (k0_t3 : Fin k0_t3_loop.trips) : BitVec 32 :=
  let c8192_i32_295 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_294 : BitVec 32 := 1024#32
  let v584 : BitVec 32 := Scalar.muli v258 c1024_i32_294
  let v585 : BitVec 32 := Scalar.addi c8192_i32_295 v584
  let c768_i32_296 : BitVec 32 := 768#32
  let v586 : BitVec 32 := Scalar.addi v585 c768_i32_296
  v586
def k0_off349 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v593 : Index := Scalar.indexCast v258
  let c1_301 : Index := 1#32
  let c6_302 : Index := 6#32
  let c0_303 : Index := 0#32
  let c0_304 : Index := 0#32
  ![v593.toNat, 1, 6, 0, 0]
def k0_mult53 (k0_t3 : Fin k0_t3_loop.trips) : BitVec 32 :=
  let c0_i32_310 : BitVec 32 := 0#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_309 : BitVec 32 := 1024#32
  let v609 : BitVec 32 := Scalar.muli v258 c1024_i32_309
  let v610 : BitVec 32 := Scalar.addi c0_i32_310 v609
  let c896_i32 : BitVec 32 := 896#32
  let v611 : BitVec 32 := Scalar.addi v610 c896_i32
  v611
def k0_off350 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v618 : Index := Scalar.indexCast v258
  let c0_314 : Index := 0#32
  let c7_315 : Index := 7#32
  let c0_316 : Index := 0#32
  let c0_317 : Index := 0#32
  ![v618.toNat, 0, 7, 0, 0]
def k0_mult54 (k0_t3 : Fin k0_t3_loop.trips) : BitVec 32 :=
  let c8192_i32_323 : BitVec 32 := 8192#32
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let c1024_i32_322 : BitVec 32 := 1024#32
  let v634 : BitVec 32 := Scalar.muli v258 c1024_i32_322
  let v635 : BitVec 32 := Scalar.addi c8192_i32_323 v634
  let c896_i32_324 : BitVec 32 := 896#32
  let v636 : BitVec 32 := Scalar.addi v635 c896_i32_324
  v636
def k0_off351 (k0_t3 : Fin k0_t3_loop.trips) : Fin 5 → Nat :=
  let c0_i32_108 : BitVec 32 := 0#32
  let c0_i32_103 : BitVec 32 := 0#32
  let c1_i32_105 : BitVec 32 := 1#32
  let arg10 : BitVec 32 := Scf.iv c0_i32_103 c1_i32_105 k0_t3
  let c1_i32_107 : BitVec 32 := 1#32
  let v257 : BitVec 32 := Scalar.muli arg10 c1_i32_107
  let v258 : BitVec 32 := Scalar.addi c0_i32_108 v257
  let v643 : Index := Scalar.indexCast v258
  let c1_329 : Index := 1#32
  let c7_330 : Index := 7#32
  let c0_331 : Index := 0#32
  let c0_332 : Index := 0#32
  ![v643.toNat, 1, 7, 0, 0]
def cc0_transform_0 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S7x1024x16384 : Shape := ⟨3, ![7, 1024, 16384]⟩
abbrev S7x1024x8192 : Shape := ⟨3, ![7, 1024, 8192]⟩
abbrev S7168x16384 : Shape := ⟨2, ![7168, 16384]⟩
abbrev S7168x8192 : Shape := ⟨2, ![7168, 8192]⟩
abbrev S_ : Shape := ⟨0, ![]⟩
abbrev S56x128x128x128 : Shape := ⟨4, ![56, 128, 128, 128]⟩
abbrev S56x128 : Shape := ⟨2, ![56, 128]⟩
abbrev S56x1x128x1 : Shape := ⟨4, ![56, 1, 128, 1]⟩
abbrev S16384x7168 : Shape := ⟨2, ![16384, 7168]⟩

abbrev nBuf : Space → Nat
  | .hbm => 73
  | .vmem => 3
  | .smem => 0
  | _ => 0

abbrev bufTy : (tb : Table) → Fin (tcTables nBuf tb) → BufTy
  | .hbm, ⟨0, _⟩ => ⟨S7x1024x16384, .bf16⟩
  | .hbm, ⟨1, _⟩ => ⟨S7x1024x8192, .bf16⟩
  | .hbm, ⟨2, _⟩ => ⟨S7168x16384, .bf16⟩
  | .hbm, ⟨3, _⟩ => ⟨S7168x16384, .f32⟩
  | .hbm, ⟨4, _⟩ => ⟨S7168x8192, .bf16⟩
  | .hbm, ⟨5, _⟩ => ⟨S7168x8192, .f32⟩
  | .hbm, ⟨6, _⟩ => ⟨S7168x8192, .f32⟩
  | .hbm, ⟨7, _⟩ => ⟨S7168x8192, .f32⟩
  | .hbm, ⟨8, _⟩ => ⟨S7168x8192, .f32⟩
  | .hbm, ⟨9, _⟩ => ⟨S7168x8192, .f32⟩
  | .hbm, ⟨10, _⟩ => ⟨S_, .f32⟩
  | .hbm, ⟨11, _⟩ => ⟨S7168x8192, .f32⟩
  | .hbm, ⟨12, _⟩ => ⟨S7168x8192, .f32⟩
  | .hbm, ⟨13, _⟩ => ⟨S_, .f32⟩
  | .hbm, ⟨14, _⟩ => ⟨S7168x8192, .f32⟩
  | .hbm, ⟨15, _⟩ => ⟨S7168x8192, .f32⟩
  | .hbm, ⟨16, _⟩ => ⟨S7168x8192, .f32⟩
  | .hbm, ⟨17, _⟩ => ⟨S7168x8192, .f32⟩
  | .hbm, ⟨18, _⟩ => ⟨S_, .f32⟩
  | .hbm, ⟨19, _⟩ => ⟨S7168x8192, .f32⟩
  | .hbm, ⟨20, _⟩ => ⟨S7168x8192, .f32⟩
  | .hbm, ⟨21, _⟩ => ⟨S7168x8192, .f32⟩
  | .hbm, ⟨22, _⟩ => ⟨S_, .f32⟩
  | .hbm, ⟨23, _⟩ => ⟨S7168x8192, .f32⟩
  | .hbm, ⟨24, _⟩ => ⟨S7168x8192, .f32⟩
  | .hbm, ⟨25, _⟩ => ⟨S7168x8192, .f32⟩
  | .hbm, ⟨26, _⟩ => ⟨S7168x8192, .f32⟩
  | .hbm, ⟨27, _⟩ => ⟨S7168x8192, .f32⟩
  | .hbm, ⟨28, _⟩ => ⟨S7168x16384, .f32⟩
  | .hbm, ⟨29, _⟩ => ⟨S56x128x128x128, .f32⟩
  | .hbm, ⟨30, _⟩ => ⟨S56x128x128x128, .f32⟩
  | .hbm, ⟨31, _⟩ => ⟨S_, .f32⟩
  | .hbm, ⟨32, _⟩ => ⟨S56x128, .f32⟩
  | .hbm, ⟨33, _⟩ => ⟨S_, .f32⟩
  | .hbm, ⟨34, _⟩ => ⟨S56x128, .f32⟩
  | .hbm, ⟨35, _⟩ => ⟨S56x128, .f32⟩
  | .hbm, ⟨36, _⟩ => ⟨S56x128, .f32⟩
  | .hbm, ⟨37, _⟩ => ⟨S_, .f32⟩
  | .hbm, ⟨38, _⟩ => ⟨S_, .f32⟩
  | .hbm, ⟨39, _⟩ => ⟨S56x128, .f32⟩
  | .hbm, ⟨40, _⟩ => ⟨S56x128, .f32⟩
  | .hbm, ⟨41, _⟩ => ⟨S56x128, .f32⟩
  | .hbm, ⟨42, _⟩ => ⟨S_, .f32⟩
  | .hbm, ⟨43, _⟩ => ⟨S56x128, .f32⟩
  | .hbm, ⟨44, _⟩ => ⟨S56x128, .f32⟩
  | .hbm, ⟨45, _⟩ => ⟨S_, .f32⟩
  | .hbm, ⟨46, _⟩ => ⟨S56x128, .f32⟩
  | .hbm, ⟨47, _⟩ => ⟨S56x128, .i1⟩
  | .hbm, ⟨48, _⟩ => ⟨S_, .f32⟩
  | .hbm, ⟨49, _⟩ => ⟨S_, .f32⟩
  | .hbm, ⟨50, _⟩ => ⟨S56x128, .f32⟩
  | .hbm, ⟨51, _⟩ => ⟨S56x128, .f32⟩
  | .hbm, ⟨52, _⟩ => ⟨S_, .f32⟩
  | .hbm, ⟨53, _⟩ => ⟨S56x128, .f32⟩
  | .hbm, ⟨54, _⟩ => ⟨S56x128, .f32⟩
  | .hbm, ⟨55, _⟩ => ⟨S56x128, .f32⟩
  | .hbm, ⟨56, _⟩ => ⟨S_, .f32⟩
  | .hbm, ⟨57, _⟩ => ⟨S56x128, .f32⟩
  | .hbm, ⟨58, _⟩ => ⟨S56x128, .f32⟩
  | .hbm, ⟨59, _⟩ => ⟨S56x1x128x1, .f32⟩
  | .hbm, ⟨60, _⟩ => ⟨S56x128x128x128, .f32⟩
  | .hbm, ⟨61, _⟩ => ⟨S56x128x128x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S56x128x128x128, .f32⟩
  | .hbm, ⟨66, _⟩ => ⟨S56x128x128x128, .f32⟩
  | .hbm, ⟨67, _⟩ => ⟨S_, .f32⟩
  | .hbm, ⟨68, _⟩ => ⟨S56x128x128x128, .f32⟩
  | .hbm, ⟨69, _⟩ => ⟨S56x128x128x128, .f32⟩
  | .hbm, ⟨70, _⟩ => ⟨S7168x16384, .f32⟩
  | .hbm, ⟨71, _⟩ => ⟨S7168x16384, .fp8e4m3⟩
  | .hbm, ⟨72, _⟩ => ⟨S16384x7168, .fp8e4m3⟩
  | .local _ .vmem, ⟨0, _⟩ => ⟨S7168x16384, .f32⟩
  | .local _ .vmem, ⟨1, _⟩ => ⟨S7168x16384, .fp8e4m3⟩
  | .local _ .vmem, ⟨2, _⟩ => ⟨S16384x7168, .fp8e4m3⟩
  | _, _ => ⟨S7x1024x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_cst_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S7168x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.RefValue.lean ====
/-
  What the reference computes, as the composition of its host operations: the gradients, their largest absolute value
  block by block, the exponents, the scales and their inverses, and the scaled and clipped values.
-/
module

public import proofs.«01_k».proof.Proof.Gen.ReferenceIdeal.Value
public import Idealize.ShloMosaic.Lib.StableHlo.RunRead

@[expose] public section

noncomputable section

namespace Cert.ReferenceIdeal.Of

open Cert.ReferenceIdeal Cert.ReferenceIdeal.Gen Idealize.ShloMosaic Idealize.ShloMosaic.TcCoe Idealize.SL.Sem

variable {F : FTy → Type} [FloatOps F]

section Arrays

variable (x : FVec F S7x1024x16384 .bf16) (d : FVec F S7x1024x8192 .bf16)

/-- A constant everywhere. -/
abbrev splat (s : Shape) (h : S_.BroadcastsInDim s ![]) (b : BitVec 32) : FVec F s .f32 := broadcastInDim s ![] h (constant S_ .f32 b)

/-- The first argument as a matrix, and its two halves; the second argument as a matrix. -/
def xf : FVec F S7168x16384 .f32 := extf .f32 (shapeCast S7168x16384 x shapeCasts_S7x1024x16384_S7168x16384) bitsLt_bf16_f32
def df : FVec F S7168x8192 .f32 := extf .f32 (shapeCast S7168x8192 d shapeCasts_S7x1024x8192_S7168x8192) bitsLt_bf16_f32
def gf : FVec F S7168x8192 .f32 := extractStridedSlice S7168x8192 ![0, 0] (xf x) slices_S7168x16384_S7168x8192_0_0
def uf : FVec F S7168x8192 .f32 := extractStridedSlice S7168x8192 ![0, 8192] (xf x) slices_S7168x16384_S7168x8192_0_8192

/-- The logistic function of the gate. -/
def sg : FVec F S7168x8192 .f32 :=
  Host.divf (splat S7168x8192 bcast_S_S7168x8192 0x3F800000#32) (addf (splat S7168x8192 bcast_S_S7168x8192 0x3F800000#32) (Host.exp (Host.negf (gf x))))

/-- The two halves of the gradient, and the gradient. -/
def dG : FVec F S7168x8192 .f32 :=
  mulf (mulf (mulf (df d) (uf x)) (sg x)) (addf (splat S7168x8192 bcast_S_S7168x8192 0x3F800000#32)
    (mulf (gf x) (subf (splat S7168x8192 bcast_S_S7168x8192 0x3F800000#32) (sg x))))
def dU : FVec F S7168x8192 .f32 := mulf (mulf (df d) (gf x)) (sg x)
def dxf : FVec F S7168x16384 .f32 :=
  concatenate S7168x16384 1 [⟨S7168x8192, dG x d⟩, ⟨S7168x8192, dU x d⟩] concatenates_S7168x8192_S7168x8192_S7168x16384_d1
def blk : FVec F S56x128x128x128 .f32 := shapeCast S56x128x128x128 (dxf x d) shapeCasts_S7168x16384_S56x128x128x128

/-- Each block's largest absolute value over 448. -/
def stat : FVec F S56x128 .f32 :=
  mulf (Host.reduce FloatOps.maximumf (Host.absf (blk x d)) (constant S_ .f32 0xFF800000#32) reducesTo_S56x128x128x128_S56x128_d1_3 h_S_)
    (splat S56x128 bcast_S_S56x128 0x3B124925#32)

/-- The exponent of a scale. -/
def expo (v : FVec F S56x128 .f32) : FVec F S56x128 .f32 :=
  select (cmpf .olt v (splat S56x128 bcast_S_S56x128 0x00800000#32)) (splat S56x128 bcast_S_S56x128 0x00000000#32)
    (addf (Host.floor (Host.divf (Host.log v) (broadcastInDim S56x128 ![] bcast_S_S56x128 (Host.log (constant S_ .f32 0x40000000#32)))))
      (splat S56x128 bcast_S_S56x128 0x3F800000#32))

/-- The scales and their inverses. -/
def scl : FVec F S56x128 .f32 := Host.powf (splat S56x128 bcast_S_S56x128 0x40000000#32) (expo (stat x d))
def inv : FVec F S56x128 .f32 := Host.powf (splat S56x128 bcast_S_S56x128 0x40000000#32) (Host.negf (expo (stat x d)))

/-- The gradients scaled and clipped. -/
def clipped : FVec F S7168x16384 .f32 :=
  shapeCast S7168x16384 (minimumf (splat S56x128x128x128 bcast_S_S56x128x128x128 0x43E00000#32)
    (maximumf (splat S56x128x128x128 bcast_S_S56x128x128x128 0xC3E00000#32)
      (mulf (blk x d) (broadcastInDim S56x128x128x128 ![0, 1, 2, 3] bcast_S56x1x128x1_S56x128x128x128_0_1_2_3
        (broadcastInDim S56x1x128x1 ![0, 2] bcast_S56x128_S56x1x128x1_0_2 (inv x d)))))) shapeCasts_S56x128x128x128_S7168x16384

end Arrays

variable (m : (ℓ : Loc nD τ sig) → Buf (Elt F) ℓ) (c : Dev nD)

set_option maxHeartbeats 4000000 in
theorem V_scl : V m c main_v39 = scl (m (c, Proc.devRef .tc main_arg0)) (m (c, Proc.devRef .tc main_arg1)) := by
  unfold V
  after_reads_simp
  rfl

set_option maxHeartbeats 4000000 in
theorem V_clipped : V m c main_v47 = clipped (m (c, Proc.devRef .tc main_arg0)) (m (c, Proc.devRef .tc main_arg1)) := by
  unfold V
  after_reads_simp
  rfl

end Cert.ReferenceIdeal.Of

end
-- ==== Proof.Text.lean ====
/-
  The kernel's text, cut into the pieces its author wrote: one strip of sixteen rows, one block of a chunk, one
  chunk, the scales of a chunk, the quantisation of a chunk, one trip of each loop, one grid point. Every piece is
  stated for any floats, any signature and any nine buffers, so that one proof serves every printed program.
-/
module

public import Idealize.ShloMosaic.Lib.Pipeline
public import Idealize.ShloMosaic.Lib.Scf
public import Idealize.ShloMosaic.Lib.Sig
public import Idealize.ShloMosaic.PureOps

@[expose] public section

noncomputable section

namespace Cert.Swiglu

open Idealize.ShloMosaic Idealize.SL.Sem

/-! ## Shapes and the side conditions of the operations on them -/

abbrev S128x16384 : Shape := ⟨2, ![128, 16384]⟩
abbrev S128x8192 : Shape := ⟨2, ![128, 8192]⟩
abbrev S56x128 : Shape := ⟨2, ![56, 128]⟩
abbrev S16384x128 : Shape := ⟨2, ![16384, 128]⟩
abbrev S8x2x8x128x128 : Shape := ⟨5, ![8, 2, 8, 128, 128]⟩
abbrev S2x64x128 : Shape := ⟨3, ![2, 64, 128]⟩
abbrev S8x128 : Shape := ⟨2, ![8, 128]⟩
abbrev S1x8x128 : Shape := ⟨3, ![1, 8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S16x128 : Shape := ⟨2, ![16, 128]⟩
abbrev S1x1x1x16x128 : Shape := ⟨5, ![1, 1, 1, 16, 128]⟩
abbrev S1x1x1x128x128 : Shape := ⟨5, ![1, 1, 1, 128, 128]⟩
abbrev S1x1x128 : Shape := ⟨3, ![1, 1, 128]⟩
abbrev S128x128 : Shape := ⟨2, ![128, 128]⟩

theorem pos_S2x64x128 : 0 < S2x64x128.numel := by decide
theorem pos_S8x128 : 0 < S8x128.numel := by decide
theorem pos_S1x8x128 : 0 < S1x8x128.numel := by decide
theorem pos_S1x128 : 0 < S1x128.numel := by decide
theorem pos_S16x128 : 0 < S16x128.numel := by decide
theorem pos_S1x1x1x16x128 : 0 < S1x1x1x16x128.numel := by decide
theorem pos_S1x1x1x128x128 : 0 < S1x1x1x128x128.numel := by decide
theorem pos_S1x1x128 : 0 < S1x1x128.numel := by decide
theorem pos_S128x128 : 0 < S128x128.numel := by decide

theorem inb2 {m n : Nat} {sz : Fin 2 → Nat} {a b : Nat} (h0 : a + sz 0 ≤ m) (h1 : b + sz 1 ≤ n) :
    ∀ x, (![a, b] : Fin 2 → Nat) x + sz x ≤ (⟨2, ![m, n]⟩ : Shape).size x :=
  Fin.forall_fin_two.mpr ⟨h0, h1⟩

theorem inb3 {l m n : Nat} {sz : Fin 3 → Nat} {a b d : Nat} (h0 : a + sz 0 ≤ l) (h1 : b + sz 1 ≤ m) (h2 : d + sz 2 ≤ n) :
    ∀ x, (![a, b, d] : Fin 3 → Nat) x + sz x ≤ (⟨3, ![l, m, n]⟩ : Shape).size x := by
  intro x
  match x with
  | ⟨0, _⟩ => exact h0
  | ⟨1, _⟩ => exact h1
  | ⟨2, _⟩ => exact h2

theorem inb5 {k l m n o : Nat} {sz : Fin 5 → Nat} {a b d e f : Nat} (h0 : a + sz 0 ≤ k) (h1 : b + sz 1 ≤ l)
    (h2 : d + sz 2 ≤ m) (h3 : e + sz 3 ≤ n) (h4 : f + sz 4 ≤ o) :
    ∀ x, (![a, b, d, e, f] : Fin 5 → Nat) x + sz x ≤ (⟨5, ![k, l, m, n, o]⟩ : Shape).size x := by
  intro x
  match x with
  | ⟨0, _⟩ => exact h0
  | ⟨1, _⟩ => exact h1
  | ⟨2, _⟩ => exact h2
  | ⟨3, _⟩ => exact h3
  | ⟨4, _⟩ => exact h4

/-- The eight rows `k, 8 + k, …, 56 + k` lie in the 64. -/
theorem inbStrided {h k : Nat} (hh : h < 2) (hk : k < 8) : ∀ a, S1x8x128.size a = 0 ∨
    (![h, k, 0] : Fin 3 → Nat) a + (![1, 8, 1] : Fin 3 → Nat) a * (S1x8x128.size a - 1) < S2x64x128.size a := by
  intro a
  right
  match a with
  | ⟨0, _⟩ => show h + 1 * 0 < 2; omega
  | ⟨1, _⟩ => show k + 8 * 7 < 64; omega
  | ⟨2, _⟩ => show 0 + 1 * 127 < 128; omega

theorem eq_ofNat_of_lt {c : BitVec 32} {n : Nat} (h : c.toNat = n) : c = BitVec.ofNat 32 n := by
  subst h; simp

/-- Where chunk `c`'s block `b` starts. -/
abbrev colB (c : BitVec 32) (b : Nat) : BitVec 32 := Scalar.addi (Scalar.muli c 1024#32) (BitVec.ofNat 32 (128 * b))

theorem colB_toNat {c : BitVec 32} {b : Nat} (hc : c.toNat < 8) (hb : b < 8) :
    (Scalar.indexCast (colB c b)).toNat = 1024 * c.toNat + 128 * b := by
  have key : ∀ n b : Fin 8, (Scalar.indexCast (colB (BitVec.ofNat 32 n.val) b.val)).toNat = 1024 * n.val + 128 * b.val := by decide +kernel
  have := key ⟨c.toNat, hc⟩ ⟨b, hb⟩
  rwa [← eq_ofNat_of_lt rfl] at this

theorem colB'_toNat {c : BitVec 32} {b : Nat} (hc : c.toNat < 8) (hb : b < 8) :
    (Scalar.indexCast (Scalar.addi 8192#32 (colB c b))).toNat = 8192 + (1024 * c.toNat + 128 * b) := by
  have key : ∀ n b : Fin 8, (Scalar.indexCast (Scalar.addi 8192#32 (colB (BitVec.ofNat 32 n.val) b.val))).toNat = 8192 + (1024 * n.val + 128 * b.val) := by decide +kernel
  have := key ⟨c.toNat, hc⟩ ⟨b, hb⟩
  rwa [← eq_ofNat_of_lt rfl] at this

theorem idx_toNat {c : BitVec 32} : (Scalar.indexCast c).toNat = c.toNat := rfl

/-- Where half `h`'s chunk `c`'s block `b` starts, as the quantisation computes it. -/
abbrev colQ (c : BitVec 32) (h b : Nat) : BitVec 32 :=
  Scalar.addi (Scalar.addi (BitVec.ofNat 32 (8192 * h)) (Scalar.muli c 1024#32)) (BitVec.ofNat 32 (128 * b))

theorem colQ_toNat {c : BitVec 32} {h b : Nat} (hc : c.toNat < 8) (hh : h < 2) (hb : b < 8) :
    (Scalar.indexCast (colQ c h b)).toNat = 8192 * h + 1024 * c.toNat + 128 * b := by
  have key : ∀ (n : Fin 8) (h : Fin 2) (b : Fin 8), (Scalar.indexCast (colQ (BitVec.ofNat 32 n.val) h.val b.val)).toNat = 8192 * h.val + 1024 * n.val + 128 * b.val := by decide +kernel
  have := key ⟨c.toNat, hc⟩ ⟨h, hh⟩ ⟨b, hb⟩
  rwa [← eq_ofNat_of_lt rfl] at this

/-- Chunk `c`'s row `b` of the inverse scales. -/
abbrev rowQ (c : BitVec 32) (b : Nat) : BitVec 32 := Scalar.addi (Scalar.muli c 8#32) (BitVec.ofNat 32 b)

theorem rowQ_toNat {c : BitVec 32} {b : Nat} (hc : c.toNat < 8) (hb : b < 8) :
    (Scalar.indexCast (rowQ c b)).toNat = 8 * c.toNat + b := by
  have key : ∀ n b : Fin 8, (Scalar.indexCast (rowQ (BitVec.ofNat 32 n.val) b.val)).toNat = 8 * n.val + b.val := by decide +kernel
  have := key ⟨c.toNat, hc⟩ ⟨b, hb⟩
  rwa [← eq_ofNat_of_lt rfl] at this

/-- Chunk `c`'s first row of the inverse scales. -/
abbrev rowS (c : BitVec 32) : BitVec 32 := Scalar.muli c 8#32

theorem rowS_toNat {c : BitVec 32} (hc : c.toNat < 8) : (Scalar.indexCast (rowS c)).toNat = 8 * c.toNat := by
  have key : ∀ n : Fin 8, (Scalar.indexCast (rowS (BitVec.ofNat 32 n.val))).toNat = 8 * n.val := by decide +kernel
  have := key ⟨c.toNat, hc⟩
  rwa [← eq_ofNat_of_lt rfl] at this

variable {nD : Nat} {τ : Topo} {sig : RefSig} {Λ : Labels} {F : FTy → Type} [FloatOps F]

/-! ## The pure parts -/

/-- The gate's gradient and the other factor's, of one strip: `(dxg, dxu)`. -/
def gradU (g d : FVec F S16x128 .bf16) : FVec F S16x128 .f32 :=
  mulf (mulf (extf .f32 d (by decide)) (logistic (extf .f32 g (by decide)))) (extf .f32 g (by decide))

def gradG (g u d : FVec F S16x128 .bf16) : FVec F S16x128 .f32 :=
  mulf (addf (mulf (extf .f32 d (by decide)) (logistic (extf .f32 g (by decide))))
    (mulf (gradU g d) (subf (broadcast S16x128 (Scalar.ofBits .f32 0x3F800000#32)) (logistic (extf .f32 g (by decide))))))
    (extf .f32 u (by decide))

/-- A strip's two groups of eight rows folded by the maximum of the absolute values. -/
def fold2 (v : FVec F S16x128 .f32) : FVec F S8x128 .f32 :=
  maximumf (extractStridedSlice S8x128 ![0, 0] (absf v) (by decide)) (extractStridedSlice S8x128 ![8, 0] (absf v) (by decide))

/-- The largest absolute value of a block over 448, in every lane. -/
def statOf (m : FVec F S8x128 .f32) : FVec F S8x128 .f32 :=
  mulf (broadcastTo S8x128 (shapeCast S8x1 (shapeCast S8x1
      (multiReduction .maximumf [1] S8 m 0xFF800000#32 (by decide) (.inl rfl) rfl) (by decide)) (by decide)) (by decide))
    (broadcast S8x128 (Scalar.ofBits .f32 0x3B124925#32))

/-- One step of the search for the exponent field: `bit` is kept if the power of two it names is not above `v`. -/
def fieldStep (v : FVec F S8x128 .f32) (bit : BitVec 32) (f : IVec S8x128 32) : IVec S8x128 32 :=
  select (cmpf .oge v (bitcastToFloat .f32 (shli (addi f (broadcast S8x128 bit)) (broadcast S8x128 23#32))))
    (addi f (broadcast S8x128 bit)) f

/-- The exponent field of `v`. -/
def fieldOf (v : FVec F S8x128 .f32) : IVec S8x128 32 :=
  fieldStep v 1#32 (fieldStep v 2#32 (fieldStep v 4#32 (fieldStep v 8#32 (fieldStep v 16#32 (fieldStep v 32#32
    (fieldStep v 64#32 (fieldStep v 128#32 (broadcast S8x128 0#32))))))))

/-- The exponent of the scale. -/
def expOf (f : IVec S8x128 32) : IVec S8x128 32 :=
  select (ori (cmpi .eq f (broadcast S8x128 0#32)) (cmpi .eq f (broadcast S8x128 255#32))) (broadcast S8x128 0#32)
    (subi f (broadcast S8x128 126#32))

def scaleOf (e : IVec S8x128 32) : FVec F S8x128 .f32 :=
  bitcastToFloat .f32 (shli (addi (broadcast S8x128 127#32) e) (broadcast S8x128 23#32))

def invOf (e : IVec S8x128 32) : FVec F S8x128 .f32 :=
  bitcastToFloat .f32 (shli (subi (broadcast S8x128 127#32) e) (broadcast S8x128 23#32))

/-- Chunk `ch`'s scales of half `h`, each at its own lane, zero elsewhere. -/
def placeOf (ch : BitVec 32) (h : Nat) (s : FVec F S8x128 .f32) : FVec F S8x128 .f32 :=
  select (cmpi .eq (subi (iota .tc S8x128 32 [1] (by decide))
      (broadcast S8x128 (Scalar.addi (BitVec.ofNat 32 (64 * h)) (Scalar.muli ch 8#32)))) (iota .tc S8x128 32 [0] (by decide)))
    s (broadcast S8x128 (Scalar.ofBits .f32 0x00000000#32))

/-- One block times its inverse scale, clipped. -/
def quantOf (d : FVec F S128x128 .f32) (inv : FVec F S1x128 .f32) : FVec F S128x128 .f32 :=
  minimumf (broadcast S128x128 (Scalar.ofBits .f32 0x43E00000#32))
    (maximumf (broadcast S128x128 (Scalar.ofBits .f32 0xC3E00000#32)) (mulf d (broadcastTo S128x128 inv (by decide))))

/-! ## The programs -/

section Programs

variable (arg1 : Memref sig .tc .vmem S128x16384 .bf16) (arg2 : Memref sig .tc .vmem S128x8192 .bf16)
variable (arg3 : Memref sig .tc .vmem S128x16384 .fp8e4m3) (h3 : arg3.IsWhole) (arg4 : Memref sig .tc .vmem S56x128 .f32)
variable (arg5 : Memref sig .tc .vmem S16384x128 .fp8e4m3) (h5 : arg5.IsWhole)
variable (arg6 : Memref sig .tc .vmem S8x2x8x128x128 .f32) (arg7 : Memref sig .tc .vmem S2x64x128 .f32)
variable (arg8 : Memref sig .tc .vmem S2x64x128 .f32) (arg9 : Memref sig .tc .vmem S8x128 .f32)

abbrev E' (nD : Nat) (τ : Topo) (sig : RefSig) (F : FTy → Type) (Λ : Labels) := TpuEff nD τ sig (Elt F) Λ .tc

/-- Writes one strip of one half of a block's gradients. -/
def putStrip (c : BitVec 32) (hc : c.toNat < 8) (h b r : Nat) (hh : h < 2) (hb : b < 8) (hr : r < 8) (v : FVec F S16x128 .f32) :
    Prog (E' nD τ sig F Λ) PUnit := do
  let _ : Vec F S1x1x1x16x128 .f32 ← Prog.lift (.load arg6 (Rect.unit (s := S8x2x8x128x128) ![(Scalar.indexCast c).toNat, h, b, 16 * r, 0] S1x1x1x16x128.size
    (inb5 (by rw [idx_toNat]; exact hc) hh hb (by show 16 * r + 16 ≤ 128; omega) (by decide))).toLoadRect (View.loadsAt_vmem pos_S1x1x1x16x128))
  Prog.lift (.store arg6 (Rect.unit (s := S8x2x8x128x128) ![(Scalar.indexCast c).toNat, h, b, 16 * r, 0] S1x1x1x16x128.size
    (inb5 (by rw [idx_toNat]; exact hc) hh hb (by show 16 * r + 16 ≤ 128; omega) (by decide)))
    (shapeCast S1x1x1x16x128 v (by decide)) Finset.univ (View.stores_vmem_bits_univ pos_S1x1x1x16x128 rfl) (.inl rfl))

/-- One strip: the gradients of sixteen rows, written, and their folded absolute values returned. -/
def strip (c : BitVec 32) (hc : c.toNat < 8) (b r : Nat) (hb : b < 8) (hr : r < 8) :
    Prog (E' nD τ sig F Λ) (FVec F S8x128 .f32 × FVec F S8x128 .f32) := do
  let g : Vec F S16x128 .bf16 ← Prog.lift (.load arg1 (Rect.unit (s := S128x16384) ![16 * r, (Scalar.indexCast (colB c b)).toNat] S16x128.size
    (inb2 (by show 16 * r + 16 ≤ 128; omega) (by rw [colB_toNat hc hb]; show _ + 128 ≤ 16384; omega))).toLoadRect (View.loadsAt_vmem pos_S16x128))
  let u : Vec F S16x128 .bf16 ← Prog.lift (.load arg1 (Rect.unit (s := S128x16384) ![16 * r, (Scalar.indexCast (Scalar.addi 8192#32 (colB c b))).toNat] S16x128.size
    (inb2 (by show 16 * r + 16 ≤ 128; omega) (by rw [colB'_toNat hc hb]; show _ + 128 ≤ 16384; omega))).toLoadRect (View.loadsAt_vmem pos_S16x128))
  let d : Vec F S16x128 .bf16 ← Prog.lift (.load arg2 (Rect.unit (s := S128x8192) ![16 * r, (Scalar.indexCast (colB c b)).toNat] S16x128.size
    (inb2 (by show 16 * r + 16 ≤ 128; omega) (by rw [colB_toNat hc hb]; show _ + 128 ≤ 8192; omega))).toLoadRect (View.loadsAt_vmem pos_S16x128))
  putStrip arg6 c hc 0 b r (by decide) hb hr (gradG (shapeCast S16x128 g (by decide)) (shapeCast S16x128 u (by decide)) (shapeCast S16x128 d (by decide)))
  putStrip arg6 c hc 1 b r (by decide) hb hr (gradU (shapeCast S16x128 g (by decide)) (shapeCast S16x128 d (by decide)))
  pure (fold2 (gradG (shapeCast S16x128 g (by decide)) (shapeCast S16x128 u (by decide)) (shapeCast S16x128 d (by decide))),
    fold2 (gradU (shapeCast S16x128 g (by decide)) (shapeCast S16x128 d (by decide))))

/-- The first `n + 1` strips of a block, with the running maxima. -/
def strips (c : BitVec 32) (hc : c.toNat < 8) (b : Nat) (hb : b < 8) : (n : Nat) → (hn : n < 8) →
    Prog (E' nD τ sig F Λ) (FVec F S8x128 .f32 × FVec F S8x128 .f32)
  | 0, hn => strip arg1 arg2 arg6 c hc b 0 hb hn
  | n + 1, hn => do
    let m ← strips c hc b hb n (Nat.lt_of_succ_lt hn)
    let f ← strip arg1 arg2 arg6 c hc b (n + 1) hb hn
    pure (maximumf m.1 f.1, maximumf m.2 f.2)

/-- Writes eight rows of one half of the partial maxima. -/
def putMax (h b : Nat) (hh : h < 2) (hb : b < 8) (v : FVec F S8x128 .f32) : Prog (E' nD τ sig F Λ) PUnit := do
  let _ : Vec F S1x8x128 .f32 ← Prog.lift (.load arg7 (Rect.unit (s := S2x64x128) ![h, 8 * b, 0] S1x8x128.size
    (inb3 hh (by show 8 * b + 8 ≤ 64; omega) (by decide))).toLoadRect (View.loadsAt_vmem pos_S1x8x128))
  Prog.lift (.store arg7 (Rect.unit (s := S2x64x128) ![h, 8 * b, 0] S1x8x128.size
    (inb3 hh (by show 8 * b + 8 ≤ 64; omega) (by decide))) (shapeCast S1x8x128 v (by decide)) Finset.univ
    (View.stores_vmem_bits_univ pos_S1x8x128 rfl) (.inl rfl))

/-- One block of a chunk. -/
def blockOf (c : BitVec 32) (hc : c.toNat < 8) (b : Nat) (hb : b < 8) : Prog (E' nD τ sig F Λ) PUnit := do
  let m ← strips arg1 arg2 arg6 c hc b hb 7 (by decide)
  putMax arg7 0 b (by decide) hb m.1
  putMax arg7 1 b (by decide) hb m.2

/-- The first `n` blocks of a chunk. -/
def blocks (c : BitVec 32) (hc : c.toNat < 8) : (n : Nat) → (hn : n ≤ 8) → Prog (E' nD τ sig F Λ) PUnit
  | 0, _ => pure ⟨⟩
  | n + 1, hn => do
    blocks c hc n (Nat.le_of_succ_le hn)
    blockOf arg1 arg2 arg6 arg7 c hc n hn

/-- The maxima over the rows `k ≤ n` of each block's eight rows of partial maxima. -/
def maxRows (h : Nat) (hh : h < 2) : (n : Nat) → (hn : n < 8) → Prog (E' nD τ sig F Λ) (FVec F S8x128 .f32)
  | 0, hn => do
    let v : Vec F S1x8x128 .f32 ← Prog.lift (.load arg7 (⟨![h, 0, 0], S1x8x128.size, ![1, 8, 1], inbStrided hh hn⟩ : LoadRect S2x64x128) (View.loadsAt_vmem pos_S1x8x128))
    pure (shapeCast S8x128 v (by decide))
  | n + 1, hn => do
    let m ← maxRows h hh n (Nat.lt_of_succ_lt hn)
    let v : Vec F S1x8x128 .f32 ← Prog.lift (.load arg7 (⟨![h, n + 1, 0], S1x8x128.size, ![1, 8, 1], inbStrided hh hn⟩ : LoadRect S2x64x128) (View.loadsAt_vmem pos_S1x8x128))
    pure (maximumf m (shapeCast S8x128 v (by decide)))

/-- The scales of half `h` of chunk `ch`: the inverse ones written, the others returned at their lanes. -/
def half (ch : BitVec 32) (hch : ch.toNat < 8) (h : Nat) (hh : h < 2) : Prog (E' nD τ sig F Λ) (FVec F S8x128 .f32) := do
  let m ← maxRows arg7 h hh 7 (by decide)
  let _ : Vec F S1x8x128 .f32 ← Prog.lift (.load arg8 (Rect.unit (s := S2x64x128) ![h, (Scalar.indexCast (rowS ch)).toNat, 0] S1x8x128.size
    (inb3 hh (by rw [rowS_toNat hch]; show _ + 8 ≤ 64; omega) (by decide))).toLoadRect (View.loadsAt_vmem pos_S1x8x128))
  Prog.lift (.store arg8 (Rect.unit (s := S2x64x128) ![h, (Scalar.indexCast (rowS ch)).toNat, 0] S1x8x128.size
    (inb3 hh (by rw [rowS_toNat hch]; show _ + 8 ≤ 64; omega) (by decide))) (shapeCast S1x8x128 (invOf (F := F) (expOf (fieldOf (statOf m)))) (by decide)) Finset.univ
    (View.stores_vmem_bits_univ pos_S1x8x128 rfl) (.inl rfl))
  pure (placeOf ch h (scaleOf (expOf (fieldOf (statOf m)))))

/-- The scales of chunk `ch` of the row block `row`. -/
def scales (row ch : BitVec 32) (hrow : row.toNat < 56) (hch : ch.toNat < 8) : Prog (E' nD τ sig F Λ) PUnit := do
  let a : Vec F S8x128 .f32 ← Prog.lift (.load arg9 (Rect.unit (s := S8x128) ![0, 0] S8x128.size (inb2 (by decide) (by decide))).toLoadRect (View.loadsAt_vmem pos_S8x128))
  let s0 ← half arg7 arg8 ch hch 0 (by decide)
  let s1 ← half arg7 arg8 ch hch 1 (by decide)
  let _ : Vec F S8x128 .f32 ← Prog.lift (.load arg9 (Rect.unit (s := S8x128) ![0, 0] S8x128.size (inb2 (by decide) (by decide))).toLoadRect (View.loadsAt_vmem pos_S8x128))
  Prog.lift (.store arg9 (Rect.unit (s := S8x128) ![0, 0] S8x128.size (inb2 (by decide) (by decide)))
    (shapeCast S8x128 (addf (addf (Scalar.select (Scalar.cmpi .eq ch 0#32) (broadcast S8x128 (Scalar.ofBits .f32 0x00000000#32)) a) s0) s1) (by decide)) Finset.univ
    (View.stores_vmem_bits_univ pos_S8x128 rfl) (.inl rfl))
  let _ : Vec F S1x128 .f32 ← Prog.lift (.load arg4 (Rect.unit (s := S56x128) ![(Scalar.indexCast row).toNat, 0] S1x128.size
    (inb2 (by rw [idx_toNat]; exact hrow) (by decide))).toLoadRect (View.loadsAt_vmem pos_S1x128))
  Prog.lift (.store arg4 (Rect.unit (s := S56x128) ![(Scalar.indexCast row).toNat, 0] S1x128.size
    (inb2 (by rw [idx_toNat]; exact hrow) (by decide)))
    (shapeCast S1x128 (multiReduction .add [0] S128 (addf (addf (Scalar.select (Scalar.cmpi .eq ch 0#32) (broadcast S8x128 (Scalar.ofBits .f32 0x00000000#32)) a) s0) s1)
      0x00000000#32 (by decide) (.inl rfl) rfl) (by decide)) Finset.univ
    (View.stores_vmem_bits_univ pos_S1x128 rfl) (.inl rfl))

theorem packedC (n : Nat) (hn : ∀ a, (![0, n] : Fin 2 → Nat) a + S128x128.size a ≤ S128x16384.size a) :
    (Rect.unit (s := S128x16384) ![0, n] S128x128.size hn).PackedRows (EltTy.packing .fp8e4m3) :=
  .inr ⟨by decide, rfl, .inl ⟨by show _ ∣ 0; exact Nat.dvd_zero _, by show _ ∣ 128; decide⟩⟩

theorem packedT (n : Nat) (h4 : 128 ∣ n) (hn : ∀ a, (![n, 0] : Fin 2 → Nat) a + S128x128.size a ≤ S16384x128.size a) :
    (Rect.unit (s := S16384x128) ![n, 0] S128x128.size hn).PackedRows (EltTy.packing .fp8e4m3) :=
  .inr ⟨by decide, rfl, .inl ⟨by show _ ∣ n; exact Dvd.dvd.trans (by decide) h4, by show _ ∣ 128; decide⟩⟩

/-- Half `h` of block `b` of chunk `c` quantised. -/
def quantBlock (c : BitVec 32) (hc : c.toNat < 8) (b h : Nat) (hb : b < 8) (hh : h < 2) : Prog (E' nD τ sig F Λ) PUnit := do
  let i : Vec F S1x1x128 .f32 ← Prog.lift (.load arg8 (Rect.unit (s := S2x64x128) ![h, (Scalar.indexCast (rowQ c b)).toNat, 0] S1x1x128.size
    (inb3 hh (by rw [rowQ_toNat hc hb]; show _ + 1 ≤ 64; omega) (by decide))).toLoadRect (View.loadsAt_vmem pos_S1x1x128))
  let d : Vec F S1x1x1x128x128 .f32 ← Prog.lift (.load arg6 (Rect.unit (s := S8x2x8x128x128) ![(Scalar.indexCast c).toNat, h, b, 0, 0] S1x1x1x128x128.size
    (inb5 (by rw [idx_toNat]; exact hc) hh hb (by decide) (by decide))).toLoadRect (View.loadsAt_vmem pos_S1x1x1x128x128))
  let _ : Vec F S128x128 .fp8e4m3 ← Prog.lift (.load arg3 (Rect.unit (s := S128x16384) ![0, (Scalar.indexCast (colQ c h b)).toNat] S128x128.size
    (inb2 (by decide) (by rw [colQ_toNat hc hh hb]; show _ + 128 ≤ 16384; omega))).toLoadRect (View.loadsAt_vmem pos_S128x128))
  Prog.lift (.store arg3 (Rect.unit (s := S128x16384) ![0, (Scalar.indexCast (colQ c h b)).toNat] S128x128.size
    (inb2 (by decide) (by rw [colQ_toNat hc hh hb]; show _ + 128 ≤ 16384; omega)))
    (truncf .fp8e4m3 (quantOf (shapeCast S128x128 d (by decide)) (shapeCast S1x128 i (by decide))) (by decide)) Finset.univ
    (View.stores_vmem pos_S128x128 (h3.storeExact_slice rfl _ (packedC _ _)) (fun _ => rfl)) (.inl rfl))
  let _ : Vec F S128x128 .fp8e4m3 ← Prog.lift (.load arg5 (Rect.unit (s := S16384x128) ![(Scalar.indexCast (colQ c h b)).toNat, 0] S128x128.size
    (inb2 (by rw [colQ_toNat hc hh hb]; show _ + 128 ≤ 16384; omega) (by decide))).toLoadRect (View.loadsAt_vmem pos_S128x128))
  Prog.lift (.store arg5 (Rect.unit (s := S16384x128) ![(Scalar.indexCast (colQ c h b)).toNat, 0] S128x128.size
    (inb2 (by rw [colQ_toNat hc hh hb]; show _ + 128 ≤ 16384; omega) (by decide)))
    (truncf .fp8e4m3 (transpose S128x128 [1, 0] (quantOf (shapeCast S128x128 d (by decide)) (shapeCast S1x128 i (by decide))) (by decide)) (by decide)) Finset.univ
    (View.stores_vmem pos_S128x128 (h5.storeExact_slice rfl _ (packedT _ (by rw [colQ_toNat hc hh hb]; omega) _)) (fun _ => rfl)) (.inl rfl))

/-- The first `n` blocks of chunk `c` quantised. -/
def quants (c : BitVec 32) (hc : c.toNat < 8) : (n : Nat) → (hn : n ≤ 8) → Prog (E' nD τ sig F Λ) PUnit
  | 0, _ => pure ⟨⟩
  | n + 1, hn => do
    quants c hc n (Nat.le_of_succ_le hn)
    quantBlock arg3 h3 arg5 h5 arg6 arg8 c hc n 0 hn (by decide)
    quantBlock arg3 h3 arg5 h5 arg6 arg8 c hc n 1 hn (by decide)

/-- The chunk a trip's scales are of: the chunk before, or at the first trip the last one of the point before. -/
abbrev lagChunk (c : BitVec 32) : BitVec 32 := Scalar.select (Scalar.cmpi .eq c 0#32) 7#32 (Scalar.subi c 1#32)

/-- The row block a trip's scales are of. -/
abbrev lagRow (i c : BitVec 32) : BitVec 32 := Scalar.select (Scalar.cmpi .eq c 0#32) (Scalar.maxsi (Scalar.subi i 1#32) 0#32) i

theorem lagChunk_toNat {c : BitVec 32} (hc : c.toNat < 8) : (lagChunk c).toNat = if c.toNat = 0 then 7 else c.toNat - 1 := by
  have key : ∀ n : Fin 8, (lagChunk (BitVec.ofNat 32 n.val)).toNat = if n.val = 0 then 7 else n.val - 1 := by decide +kernel
  have := key ⟨c.toNat, hc⟩
  rwa [← eq_ofNat_of_lt rfl] at this

theorem lagRow_toNat {i c : BitVec 32} (hi : i.toNat < 56) (hc : c.toNat < 8) :
    (lagRow i c).toNat = if c.toNat = 0 then i.toNat - 1 else i.toNat := by
  have key : ∀ (m : Fin 56) (n : Fin 8), (lagRow (BitVec.ofNat 32 m.val) (BitVec.ofNat 32 n.val)).toNat = if n.val = 0 then m.val - 1 else m.val := by decide +kernel
  have := key ⟨i.toNat, hi⟩ ⟨c.toNat, hc⟩
  rwa [← eq_ofNat_of_lt rfl, ← eq_ofNat_of_lt rfl] at this

theorem lagChunk_lt {c : BitVec 32} (hc : c.toNat < 8) : (lagChunk c).toNat < 8 := by
  rw [lagChunk_toNat hc]; split <;> omega

theorem lagRow_lt {i c : BitVec 32} (hi : i.toNat < 56) (hc : c.toNat < 8) : (lagRow i c).toNat < 56 := by
  rw [lagRow_toNat hi hc]; split <;> omega

/-- A trip of the first point's loop. -/
def trip1 (i c : BitVec 32) (hi : i.toNat < 56) (hc : c.toNat < 8) : Prog (E' nD τ sig F Λ) PUnit := do
  scales arg4 arg7 arg8 arg9 (lagRow i c) (lagChunk c) (lagRow_lt hi hc) (lagChunk_lt hc)
  blocks arg1 arg2 arg6 arg7 c hc 8 (by decide)

/-- A trip of a middle point's loop. -/
def trip2 (i c : BitVec 32) (hi : i.toNat < 56) (hc : c.toNat < 8) : Prog (E' nD τ sig F Λ) PUnit := do
  quants arg3 h3 arg5 h5 arg6 arg8 c hc 8 (by decide)
  trip1 arg1 arg2 arg4 arg6 arg7 arg8 arg9 i c hi hc

/-- The loops' operands, `0` to `8` by `1`. -/
@[reducible] def loop8 : Scf.Loop 32 := ⟨0#32, Scalar.addi 0#32 8#32, 1#32⟩

theorem loop8_trips : loop8.trips = 8 := by decide

/-- The chunk of trip `k`. -/
abbrev chunk (k : Fin loop8.trips) : BitVec 32 := Scalar.addi 0#32 (Scalar.muli (Scf.iv 0#32 1#32 k) 1#32)

theorem chunk_toNat (k : Fin loop8.trips) : (chunk k).toNat = k.val := by
  have key : ∀ n : Fin 8, (Scalar.addi 0#32 (Scalar.muli (Scf.iv 0#32 1#32 n.val) 1#32) : BitVec 32).toNat = n.val := by decide +kernel
  exact key ⟨k.val, loop8_trips ▸ k.isLt⟩

theorem chunk_lt (k : Fin loop8.trips) : (chunk k).toNat < 8 := by rw [chunk_toNat]; exact loop8_trips ▸ k.isLt

theorem loop8_ok : loop8.OK := by decide

/-- What the first point does before its loop: the partial maxima and the row of scales start at zero. -/
def start : Prog (E' nD τ sig F Λ) PUnit := do
  let _ : Vec F S2x64x128 .f32 ← Prog.lift (.load arg7 (Rect.unit (s := S2x64x128) ![0, 0, 0] S2x64x128.size (inb3 (by decide) (by decide) (by decide))).toLoadRect (View.loadsAt_vmem pos_S2x64x128))
  Prog.lift (.store arg7 (Rect.unit (s := S2x64x128) ![0, 0, 0] S2x64x128.size (inb3 (by decide) (by decide) (by decide)))
    (shapeCast S2x64x128 (broadcast S2x64x128 (Scalar.ofBits .f32 0x00000000#32 : F .f32)) (by decide)) Finset.univ (View.stores_vmem_bits_univ pos_S2x64x128 rfl) (.inl rfl))
  let _ : Vec F S8x128 .f32 ← Prog.lift (.load arg9 (Rect.unit (s := S8x128) ![0, 0] S8x128.size (inb2 (by decide) (by decide))).toLoadRect (View.loadsAt_vmem pos_S8x128))
  Prog.lift (.store arg9 (Rect.unit (s := S8x128) ![0, 0] S8x128.size (inb2 (by decide) (by decide)))
    (shapeCast S8x128 (broadcast S8x128 (Scalar.ofBits .f32 0x00000000#32 : F .f32)) (by decide)) Finset.univ (View.stores_vmem_bits_univ pos_S8x128 rfl) (.inl rfl))

end Programs

end Cert.Swiglu

end
-- ==== Proof.Spec.lean ====
/-
  What the kernel computes, in closed form: for a row block of the arguments its gradients, the partial maxima of their
  absolute values, the scales and their inverses, the codes. All of it as functions of natural coordinates: `h` the half
  (the gate or the other factor), `c` the chunk of 1024 columns of that half, `b` the block of 128 columns of the chunk,
  `r` the row and `l` the lane.
-/
module

public import proofs.«01_k».proof.Proof.Text
public import Idealize.ShloMosaic.Lib.ValueLayoutCasts

@[expose] public section

noncomputable section

namespace Cert.Swiglu

open Idealize.ShloMosaic Idealize.ShloMosaic.ValueIdx

variable {F : FTy → Type} [FloatOps F]

/-- A row block of the two arguments, by row and column. -/
structure Blk (F : FTy → Type) where
  x : Nat → Nat → F .bf16
  d : Nat → Nat → F .bf16

/-- One element's gradients. -/
def elU (g d : F .bf16) : F .f32 := gradU (fun _ => g) (fun _ => d) (ix2 0 0)
def elG (g u d : F .bf16) : F .f32 := gradG (fun _ => g) (fun _ => u) (fun _ => d) (ix2 0 0)

/-- The larger of two, and of two's absolute values. -/
def mx (a b : F .f32) : F .f32 := maximumf (s := S8x128) (fun _ => a) (fun _ => b) (ix2 0 0)
def mx2 (a b : F .f32) : F .f32 := maximumf (s := S8x128) (absf fun _ => a) (absf fun _ => b) (ix2 0 0)

/-- One element scaled, clipped and rounded. -/
def qEl (d i : F .f32) : F .fp8e4m3 := truncf .fp8e4m3 (quantOf (fun _ => d) (fun _ => i)) (by decide) (ix2 0 0)

variable (B : Blk F)

/-- The gradient at half `h`, chunk `c`, block `b`, row `r`, lane `l`. -/
def DX (h c b r l : Nat) : F .f32 :=
  if h = 0 then elG (B.x r (1024 * c + 128 * b + l)) (B.x r (8192 + (1024 * c + 128 * b + l))) (B.d r (1024 * c + 128 * b + l))
  else elU (B.x r (1024 * c + 128 * b + l)) (B.d r (1024 * c + 128 * b + l))

/-- The running maximum of a block's rows `s`, `8 + s` of each strip, after strip `n`. -/
def pmRec (h c b s l : Nat) : Nat → F .f32
  | 0 => mx2 (DX B h c b s l) (DX B h c b (8 + s) l)
  | n + 1 => mx (pmRec h c b s l n) (mx2 (DX B h c b (16 * (n + 1) + s) l) (DX B h c b (16 * (n + 1) + (8 + s)) l))

/-- The partial maxima after chunk `c`. -/
def pmArr (c : Nat) : Vec F S2x64x128 .f32 :=
  fun y => pmRec B (y 0).val c ((y 1).val / 8) ((y 1).val % 8) (y 2).val 7

/-- A block's maximum in lane `l`, over the partial maxima up to `n`. -/
def mxRec (h c b l : Nat) : Nat → F .f32
  | 0 => pmRec B h c b 0 l 7
  | n + 1 => mx (mxRec h c b l n) (pmRec B h c b (n + 1) l 7)

/-- A chunk's blocks' maxima, lane by lane. -/
def mxV (h c : Nat) : FVec F S8x128 .f32 := fun z => mxRec B h c (z 0).val (z 1).val 7

/-- A chunk's scales' exponents. -/
def eV (h c : Nat) : IVec S8x128 32 := expOf (fieldOf (statOf (mxV B h c)))

/-- The inverse scale of block `b` of chunk `c`. -/
def invAt (h c b l : Nat) : F .f32 :=
  invOf (F := F) (eV B h c) (ix2 (Fin.ofNat 8 b) (Fin.ofNat 128 l))

/-- The row block's scales, each in its lane, after chunk `n`. -/
def accV : Nat → FVec F S8x128 .f32
  | 0 => addf (addf (broadcast S8x128 (Scalar.ofBits .f32 0x00000000#32)) (placeOf (BitVec.ofNat 32 0) 0 (scaleOf (eV B 0 0)))) (placeOf (BitVec.ofNat 32 0) 1 (scaleOf (eV B 1 0)))
  | n + 1 => addf (addf (accV n) (placeOf (BitVec.ofNat 32 (n + 1)) 0 (scaleOf (eV B 0 (n + 1))))) (placeOf (BitVec.ofNat 32 (n + 1)) 1 (scaleOf (eV B 1 (n + 1))))

/-- The row of scales. -/
def rowV : FVec F S1x128 .f32 :=
  shapeCast S1x128 (multiReduction .add [0] S128 (accV B 7) 0x00000000#32 (by decide) (.inl rfl) rfl) (by decide)

/-- The code at row `r` and column `j`. -/
def codeAt (r j : Nat) : F .fp8e4m3 :=
  qEl (DX B (j / 8192) (j % 8192 / 1024) (j % 1024 / 128) r (j % 128)) (invAt B (j / 8192) (j % 8192 / 1024) (j % 1024 / 128) (j % 128))

end Cert.Swiglu

end
-- ==== Proof.Grad.lean ====
/-
  One element's gradients over the extended reals, where the arguments are real numbers: the kernel's two formulas, the
  reference's, and a bound.
-/
module

public import proofs.«01_k».proof.Proof.Spec
public import Idealize.ShloMosaic.PureOps.Ideal

@[expose] public section

noncomputable section

namespace Cert.Swiglu

open Idealize.ShloMosaic Idealize.ShloMosaic.ValueIdx

/-- The logistic function. -/
def sig (g : ℝ) : ℝ := (1 + Real.exp (-g))⁻¹

/-- The two halves of the gradient, of real numbers. -/
def rU (g d : ℝ) : ℝ := d * sig g * g
def rG (g u d : ℝ) : ℝ := (d * sig g + d * sig g * g * (1 - sig g)) * u

theorem one_bits : Ideal.ofBits .f32 0x3F800000#32 = ((1 : ℝ) : EReal) := by
  simp [Ideal.ofBits, Ideal.ieee, -EReal.coe_mul]; norm_num

theorem elU_coe (g d : ℝ) : elU (F := Ideal) ((g : EReal) : EReal) (d : EReal) = ((rU g d : ℝ) : EReal) := by
  show (d : EReal) * Ideal.logistic (g : EReal) * (g : EReal) = _
  rw [Ideal.logistic_coe, ← EReal.coe_mul, ← EReal.coe_mul]
  rfl

theorem elG_coe (g u d : ℝ) : elG (F := Ideal) ((g : EReal) : EReal) (u : EReal) (d : EReal) = ((rG g u d : ℝ) : EReal) := by
  show ((d : EReal) * Ideal.logistic (g : EReal) + (d : EReal) * Ideal.logistic (g : EReal) * (g : EReal)
    * (Ideal.ofBits .f32 0x3F800000#32 - Ideal.logistic (g : EReal))) * (u : EReal) = _
  rw [Ideal.logistic_coe, one_bits, ← EReal.coe_sub, ← EReal.coe_mul, ← EReal.coe_mul, ← EReal.coe_mul, ← EReal.coe_add, ← EReal.coe_mul]
  rfl

/-- The reference's logistic function. -/
def refS (g : EReal) : EReal := Ideal.div (Ideal.ofBits .f32 0x3F800000#32) (Ideal.ofBits .f32 0x3F800000#32 + Ideal.exp (-g))

theorem refS_coe (g : ℝ) : refS (g : EReal) = ((sig g : ℝ) : EReal) := by
  unfold refS
  rw [one_bits]
  exact Ideal.logistic_coe (r := g)

/-- The reference's two formulas. -/
def refU (g d : EReal) : EReal := d * g * refS g
def refG (g u d : EReal) : EReal :=
  d * u * refS g * (Ideal.ofBits .f32 0x3F800000#32 + g * (Ideal.ofBits .f32 0x3F800000#32 - refS g))

theorem refU_coe (g d : ℝ) : refU (g : EReal) (d : EReal) = ((rU g d : ℝ) : EReal) := by
  unfold refU
  rw [refS_coe, ← EReal.coe_mul, ← EReal.coe_mul]
  congr 1; unfold rU; ring

theorem refG_coe (g u d : ℝ) : refG (g : EReal) (u : EReal) (d : EReal) = ((rG g u d : ℝ) : EReal) := by
  unfold refG
  rw [refS_coe, one_bits, ← EReal.coe_sub, ← EReal.coe_mul, ← EReal.coe_mul, ← EReal.coe_mul, ← EReal.coe_add, ← EReal.coe_mul]
  congr 1; unfold rG; ring

theorem sig_pos (g : ℝ) : 0 < sig g := by unfold sig; positivity
theorem sig_lt (g : ℝ) : sig g < 1 := by
  unfold sig
  exact inv_lt_one_of_one_lt₀ (by have := Real.exp_pos (-g); linarith)

/-- The gate times the logistic function's derivative is at most 1. -/
theorem gate_le (g : ℝ) : |g * (sig g * (1 - sig g))| ≤ 1 := by
  have hE := Real.exp_pos (-g)
  have h1 : sig g * (1 - sig g) = Real.exp (-g) / (1 + Real.exp (-g)) ^ 2 := by
    unfold sig; field_simp; ring
  rw [h1, abs_mul, abs_of_pos (a := Real.exp (-g) / (1 + Real.exp (-g)) ^ 2) (by positivity), ← mul_div_assoc, div_le_one (by positivity)]
  rcases le_total g 0 with h | h
  · rw [abs_of_nonpos h]
    have := Real.add_one_le_exp (-g)
    nlinarith
  · rw [abs_of_nonneg h]
    have h2 := Real.add_one_le_exp g
    have h3 : Real.exp g * Real.exp (-g) = 1 := by rw [← Real.exp_add]; simp
    nlinarith

theorem rU_le {g d M : ℝ} (hM : 0 ≤ M) (hg : |g| ≤ M) (hd : |d| ≤ M) : |rU g d| ≤ 2 * M ^ 2 := by
  unfold rU
  rw [abs_mul, abs_mul, abs_of_pos (sig_pos g)]
  have := sig_pos g
  have := sig_lt g
  have h0 := abs_nonneg g
  have h1 := abs_nonneg d
  have h2 : |d| * sig g ≤ M := by nlinarith
  have h3 : |d| * sig g * |g| ≤ M * M := mul_le_mul h2 hg h0 hM
  nlinarith

theorem rG_le {g u d M : ℝ} (hM : 0 ≤ M) (hu : |u| ≤ M) (hd : |d| ≤ M) : |rG g u d| ≤ 2 * M ^ 2 := by
  have e : rG g u d = d * u * (sig g + g * (sig g * (1 - sig g))) := by unfold rG; ring
  rw [e, abs_mul, abs_mul]
  have h1 : |sig g + g * (sig g * (1 - sig g))| ≤ 2 := by
    refine (abs_add_le _ _).trans ?_
    rw [abs_of_pos (sig_pos g)]
    have := sig_lt g
    have := gate_le g
    linarith
  have h2 : |d| * |u| ≤ M * M := mul_le_mul hd hu (abs_nonneg _) hM
  have h3 := mul_le_mul h2 h1 (abs_nonneg _) (mul_nonneg hM hM)
  nlinarith

/-- A row block whose entries are real numbers of at most `M` in absolute value. -/
def BlkReal (B : Blk Ideal) (M : ℝ) : Prop :=
  (∀ r c, ∃ a : ℝ, B.x r c = (a : EReal) ∧ |a| ≤ M) ∧ ∀ r c, ∃ a : ℝ, B.d r c = (a : EReal) ∧ |a| ≤ M

/-- The reference's gradient at half `h`, chunk `c`, block `b`, row `r`, lane `l`. -/
def DXref (B : Blk Ideal) (h c b r l : Nat) : EReal :=
  if h = 0 then refG (B.x r (1024 * c + 128 * b + l)) (B.x r (8192 + (1024 * c + 128 * b + l))) (B.d r (1024 * c + 128 * b + l))
  else refU (B.x r (1024 * c + 128 * b + l)) (B.d r (1024 * c + 128 * b + l))

theorem DX_real {B : Blk Ideal} {M : ℝ} (hM : 0 ≤ M) (hB : BlkReal B M) (h c b r l : Nat) :
    ∃ a : ℝ, DX B h c b r l = (a : EReal) ∧ DXref B h c b r l = (a : EReal) ∧ |a| ≤ 2 * M ^ 2 := by
  obtain ⟨g, eg, hg⟩ := hB.1 r (1024 * c + 128 * b + l)
  obtain ⟨u, eu, hu⟩ := hB.1 r (8192 + (1024 * c + 128 * b + l))
  obtain ⟨d, ed, hd⟩ := hB.2 r (1024 * c + 128 * b + l)
  unfold DX DXref
  rw [eg, eu, ed]
  by_cases h0 : h = 0
  · rw [if_pos h0, if_pos h0]
    exact ⟨_, elG_coe g u d, refG_coe g u d, rG_le hM hu hd⟩
  · rw [if_neg h0, if_neg h0]
    exact ⟨_, elU_coe g d, refU_coe g d, rU_le hM hg hd⟩

theorem DX_eq {B : Blk Ideal} {M : ℝ} (hM : 0 ≤ M) (hB : BlkReal B M) (h c b r l : Nat) : DX B h c b r l = DXref B h c b r l := by
  obtain ⟨a, e1, e2, _⟩ := DX_real hM hB h c b r l
  rw [e1, e2]

end Cert.Swiglu

end
-- ==== Proof.Maxima.lean ====
/-
  The maxima over the extended reals: the kernel's, taken strip by strip, sublane by sublane and lane by lane, are the
  block's largest absolute value.
-/
module

public import proofs.«01_k».proof.Proof.Grad
public import Idealize.ShloMosaic.Lib.Pointwise.Reduce

@[expose] public section

noncomputable section

namespace Cert.Swiglu

open Idealize.ShloMosaic Idealize.ShloMosaic.ValueIdx

/-- The absolute value of an extended real. -/
def absE (a : EReal) : EReal := max a (-a)

theorem absE_coe (a : ℝ) : absE (a : EReal) = ((|a| : ℝ) : EReal) := by
  unfold absE
  rw [← EReal.coe_neg, abs_eq_max_neg]
  rcases le_total a (-a) with h | h
  · rw [max_eq_right h, max_eq_right (EReal.coe_le_coe_iff.mpr h)]
  · rw [max_eq_left h, max_eq_left (EReal.coe_le_coe_iff.mpr h)]

variable (B : Blk Ideal)

theorem pmRec_le (h c b s l n : Nat) (M : EReal) :
    pmRec B h c b s l n ≤ M ↔ ∀ k ≤ n, absE (DX B h c b (16 * k + s) l) ≤ M ∧ absE (DX B h c b (16 * k + (8 + s)) l) ≤ M := by
  induction n with
  | zero =>
    show max (absE (DX B h c b s l)) (absE (DX B h c b (8 + s) l)) ≤ M ↔ _
    rw [max_le_iff]
    constructor
    · intro hh k hk
      obtain rfl : k = 0 := by omega
      simpa using hh
    · intro hh
      simpa using hh 0 le_rfl
  | succ n ih =>
    show max (pmRec B h c b s l n) (max (absE (DX B h c b (16 * (n + 1) + s) l)) (absE (DX B h c b (16 * (n + 1) + (8 + s)) l))) ≤ M ↔ _
    rw [max_le_iff, max_le_iff, ih]
    constructor
    · rintro ⟨h1, h2⟩ k hk
      rcases Nat.lt_or_ge n k with hlt | hge
      · obtain rfl : k = n + 1 := by omega
        exact h2
      · exact h1 k hge
    · intro hh
      exact ⟨fun k hk => hh k (by omega), hh (n + 1) le_rfl⟩

theorem mxRec_le (h c b l n : Nat) (M : EReal) : mxRec B h c b l n ≤ M ↔ ∀ s ≤ n, pmRec B h c b s l 7 ≤ M := by
  induction n with
  | zero =>
    show pmRec B h c b 0 l 7 ≤ M ↔ _
    constructor
    · intro hh s hs
      obtain rfl : s = 0 := by omega
      exact hh
    · intro hh; exact hh 0 le_rfl
  | succ n ih =>
    show max (mxRec B h c b l n) (pmRec B h c b (n + 1) l 7) ≤ M ↔ _
    rw [max_le_iff, ih]
    constructor
    · rintro ⟨h1, h2⟩ s hs
      rcases Nat.lt_or_ge n s with hlt | hge
      · obtain rfl : s = n + 1 := by omega
        exact h2
      · exact h1 s hge
    · intro hh
      exact ⟨fun s hs => hh s (by omega), hh (n + 1) le_rfl⟩

theorem lane_le (h c b l : Nat) (M : EReal) : mxRec B h c b l 7 ≤ M ↔ ∀ r : Fin 128, absE (DX B h c b r.val l) ≤ M := by
  rw [mxRec_le]
  constructor
  · intro hh r
    have h1 := (pmRec_le B h c b (r.val % 8) l 7 M).mp (hh _ (by omega)) (r.val / 16) (by omega)
    by_cases h2 : r.val % 16 < 8
    · have := h1.1
      rwa [show 16 * (r.val / 16) + r.val % 8 = r.val by omega] at this
    · have := h1.2
      rwa [show 16 * (r.val / 16) + (8 + r.val % 8) = r.val by omega] at this
  · intro hh s hs
    rw [pmRec_le]
    intro k hk
    exact ⟨hh ⟨16 * k + s, by omega⟩, hh ⟨16 * k + (8 + s), by omega⟩⟩

theorem neg_inf_bits : Ideal.ofBits .f32 0xFF800000#32 = (⊥ : EReal) := by
  simp [Ideal.ofBits, Ideal.ieee]

/-- The constant 1/448 (rounded) the statistic is scaled by. -/
def cst : ℝ := 9586981 / 2 ^ 32

theorem cst_bits : Ideal.ofBits .f32 0x3B124925#32 = ((cst : ℝ) : EReal) := by
  unfold cst
  simp [Ideal.ofBits, Ideal.ieee, -EReal.coe_mul]; norm_num

theorem col_apply (v : FVec Ideal S8x1 .f32) (h : S8x1.Broadcasts S8x128) (z : S8x128.Idx) : broadcastTo S8x128 v h z = v (ValueIdx.ix2 (z 0) 0) := by
  refine congrArg v ?_
  funext a
  match a with
  | ⟨0, _⟩ => rfl
  | ⟨1, _⟩ => rfl

theorem reduces_lanes : S8x128.Reduces [1] S8 := by decide

theorem formats : FKind.Formats .f32 := .inl rfl
theorem neutral_max : 0xFF800000#32 = FKind.maximumf.neutral .f32 formats := rfl

/-- A block's largest entry over the lanes. -/
def laneMax (m : FVec Ideal S8x128 .f32) (b : Fin 8) : EReal :=
  multiReduction (F := Ideal) .maximumf [1] S8 m 0xFF800000#32 reduces_lanes formats neutral_max (ValueIdx.ix1 b)

theorem laneMax_le (m : FVec Ideal S8x128 .f32) (b : Fin 8) (M : EReal) : laneMax m b ≤ M ↔ ∀ l : Fin 128, m (ValueIdx.ix2 b l) ≤ M := by
  unfold laneMax
  rw [multiReduction_maximumf_eq_fold, Shape.Reduces.fold_fiber_r2_a1]
  rw [show FloatOps.ofBits (F := Ideal) .f32 0xFF800000#32 = (⊥ : EReal) from neg_inf_bits]
  refine (Finset.fold_max_le (b := (⊥ : EReal)) (c := M)).trans ?_
  constructor
  · rintro ⟨_, h1⟩ l
    exact h1 l (Finset.mem_univ _)
  · intro hh
    exact ⟨bot_le, fun l _ => hh l⟩

theorem statOf_apply (m : FVec Ideal S8x128 .f32) (z : S8x128.Idx) : statOf (F := Ideal) m z = laneMax m (z 0) * ((cst : ℝ) : EReal) := by
  rw [← cst_bits]
  refine congrArg (· * Ideal.ofBits .f32 0x3B124925#32) ?_
  refine (col_apply _ _ z).trans ?_
  rw [shapeCast_self]
  refine shapeCast_apply _ _ _ _ ?_
  rw [Shape.rowMajor_val_one, Shape.rowMajor_val_two]
  show (z 0).val = (z 0).val * 1 + 0
  omega

theorem stat_eq (h c : Nat) (z : S8x128.Idx) : ∃ A : EReal, statOf (F := Ideal) (mxV B h c) z = A * ((cst : ℝ) : EReal)
    ∧ ∀ M, A ≤ M ↔ ∀ r l : Fin 128, absE (DX B h c (z 0).val r.val l.val) ≤ M := by
  refine ⟨_, statOf_apply _ z, fun M => (laneMax_le _ _ M).trans ?_⟩
  constructor
  · intro h1 r l
    exact (lane_le B h c (z 0).val l.val M).mp (h1 l) r
  · intro hh l
    exact (lane_le B h c (z 0).val l.val M).mpr fun r => hh r l

/-- A statistic, given by its upper bounds, of real numbers that are all at most `N` in absolute value. -/
theorem stat_real {A : EReal} {N : ℝ} {f : Fin 128 → Fin 128 → EReal} (hA : ∀ M, A ≤ M ↔ ∀ r l : Fin 128, absE (f r l) ≤ M)
    (hf : ∀ r l, ∃ a : ℝ, f r l = (a : EReal) ∧ |a| ≤ N) : ∃ a : ℝ, A = (a : EReal) ∧ 0 ≤ a ∧ a ≤ N := by
  have h1 : A ≤ (N : EReal) := (hA _).mpr fun r l => by
    obtain ⟨a, e, ha⟩ := hf r l
    rw [e, absE_coe]
    exact EReal.coe_le_coe_iff.mpr ha
  have h2 : (0 : EReal) ≤ A := by
    obtain ⟨a, e, ha⟩ := hf 0 0
    have := (hA A).mp le_rfl 0 0
    rw [e, absE_coe] at this
    exact le_trans (by exact_mod_cast abs_nonneg a) this
  have e : A = ((A.toReal : ℝ) : EReal) := (EReal.coe_toReal (ne_top_of_le_ne_top (EReal.coe_ne_top N) h1) (ne_bot_of_le_ne_bot (by simp) h2)).symm
  refine ⟨A.toReal, e, ?_, ?_⟩
  · rw [e] at h2; exact_mod_cast h2
  · rw [e] at h1; exact EReal.coe_le_coe_iff.mp h1

end Cert.Swiglu

end
-- ==== Proof.Exponent.lean ====
/-
  The exponent of a scale over the extended reals: the search by powers of two finds the exponent field that the
  logarithm gives, and the two patterns built from it denote the power of two and its inverse.
-/
module

public import proofs.«01_k».proof.Proof.Spec
public import Idealize.ShloMosaic.PureOps.Ideal

@[expose] public section

noncomputable section

namespace Cert.Swiglu

open Idealize.ShloMosaic Idealize.ShloMosaic.ValueIdx

theorem field_parts : ∀ k : Fin 256, (BitVec.extractLsb' 31 1 (BitVec.ofNat 32 k.val <<< 23) == 1#1) = false
      ∧ (BitVec.extractLsb' 23 8 (BitVec.ofNat 32 k.val <<< 23)).toNat = k.val
      ∧ (BitVec.extractLsb' 0 23 (BitVec.ofNat 32 k.val <<< 23)).toNat = 0 := by decide +kernel

theorem ieee_parts (b : BitVec 32) (n : Nat) (h1 : (BitVec.extractLsb' 31 1 b == 1#1) = false) (h2 : (BitVec.extractLsb' 23 8 b).toNat = n)
    (h3 : (BitVec.extractLsb' 0 23 b).toNat = 0) : Ideal.ieee 8 23 b
    = if n = 255 then ⊤ else if n = 0 then 0 else (((2 : ℝ) ^ ((n : Int) - 127) : ℝ) : EReal) := by
  unfold Ideal.ieee
  simp only [Nat.reduceAdd]
  rw [h1, h2, h3]
  by_cases h : n = 255
  · rw [if_pos (by rw [h]; norm_num), if_pos h]; simp
  rw [if_neg (by norm_num; exact h), if_neg h]
  by_cases h0 : n = 0
  · rw [if_pos h0, if_pos h0]; simp
  rw [if_neg h0, if_neg h0]
  have : ((n : Int) - 127) = (23 : Int) + ((n : Int) - (2 ^ (8 - 1) - 1) - 23) := by norm_num
  rw [this, zpow_add₀ (by norm_num)]
  norm_num

/-- What the f32 pattern of sign 0, exponent field `n` and fraction 0 denotes. -/
theorem ofBits_field (n : Nat) (hn : n < 256) : Ideal.ofBits .f32 (BitVec.ofNat 32 n <<< 23)
    = if n = 255 then ⊤ else if n = 0 then 0 else (((2 : ℝ) ^ ((n : Int) - 127) : ℝ) : EReal) := by
  have key := field_parts ⟨n, hn⟩
  exact ieee_parts _ n key.1 key.2.1 key.2.2

/-- The exponent field that the logarithm gives. -/
def fieldN (v : ℝ) : Nat := if v < (2 : ℝ) ^ (-126 : Int) then 0 else (⌊Real.log v / Real.log 2⌋ + 127).toNat

/-- A power of two is below `v` if its exponent is at most the logarithm's floor. -/
theorem pow_le_iff {v : ℝ} (hv : 0 < v) (k : Int) : (2 : ℝ) ^ k ≤ v ↔ k ≤ ⌊Real.log v / Real.log 2⌋ := by
  rw [Int.le_floor, le_div_iff₀ (Real.log_pos (by norm_num)), ← Real.log_zpow, Real.log_le_log_iff (by positivity) hv]

theorem floor_ge {v : ℝ} (h : ¬ v < (2 : ℝ) ^ (-126 : Int)) : (-126 : Int) ≤ ⌊Real.log v / Real.log 2⌋ :=
  (pow_le_iff (lt_of_lt_of_le (by positivity) (not_lt.1 h)) _).1 (not_lt.1 h)

theorem floor_lt {v : ℝ} (h : ¬ v < (2 : ℝ) ^ (-126 : Int)) (hb : v < (2 : ℝ) ^ (125 : Int)) : ⌊Real.log v / Real.log 2⌋ < 125 := by
  by_contra hc
  exact absurd ((pow_le_iff (lt_of_lt_of_le (by positivity) (not_lt.1 h)) _).2 (not_lt.1 hc)) (not_le.2 hb)

theorem fieldN_lt {v : ℝ} (hb : v < (2 : ℝ) ^ (125 : Int)) : fieldN v < 252 := by
  unfold fieldN
  split_ifs with h
  · decide
  · have := floor_lt h hb
    have := floor_ge h
    omega

/-- Each comparison of the search says whether the candidate is at most the field. -/
theorem field_test {v : ℝ} (h0 : 0 ≤ v) (hb : v < (2 : ℝ) ^ (125 : Int)) (n : Nat) (hn : n < 256) (hp : 0 < n) :
    Ideal.ofBits .f32 (BitVec.ofNat 32 n <<< 23) ≤ (v : EReal) ↔ n ≤ fieldN v := by
  have hf := fieldN_lt hb
  rw [ofBits_field n hn]
  by_cases h : n = 255
  · rw [if_pos h]
    constructor
    · intro hc
      exact absurd (top_le_iff.1 hc) (EReal.coe_ne_top v)
    · intro hc; omega
  rw [if_neg h, if_neg (by omega), EReal.coe_le_coe_iff]
  unfold fieldN
  split_ifs with hs
  · constructor
    · intro hc
      have : (2 : ℝ) ^ (-126 : Int) ≤ (2 : ℝ) ^ ((n : Int) - 127) := zpow_le_zpow_right₀ (by norm_num) (by omega)
      exact absurd (lt_of_le_of_lt (this.trans hc) hs) (lt_irrefl _)
    · intro hc; omega
  · rw [pow_le_iff (lt_of_lt_of_le (by positivity) (not_lt.1 hs))]
    have := floor_ge hs
    omega

/-- One step of the search on one word. -/
def stepW (v : EReal) (bit f : BitVec 32) : BitVec 32 :=
  if Ideal.ofBits .f32 ((f + bit) <<< 23) ≤ v then f + bit else f

theorem stepW_eq {v : ℝ} (h0 : 0 ≤ v) (hb : v < (2 : ℝ) ^ (125 : Int)) (bit f : Nat) (hn : f + bit < 256) (hp : 0 < bit) :
    stepW v (BitVec.ofNat 32 bit) (BitVec.ofNat 32 f) = BitVec.ofNat 32 (if f + bit ≤ fieldN v then f + bit else f) := by
  unfold stepW
  rw [← BitVec.ofNat_add, apply_ite (BitVec.ofNat 32)]
  exact if_congr (field_test h0 hb _ hn (by omega)) rfl rfl

/-- One step of the search, as a natural. -/
def natStep (T bit g : Nat) : Nat := if g + bit ≤ T then g + bit else g

theorem natStep_cases (T bit g : Nat) : natStep T bit g = g ∨ natStep T bit g = g + bit := by
  unfold natStep; split_ifs <;> simp

theorem natSearch : ∀ T : Fin 256, natStep T.val 1 (natStep T.val 2 (natStep T.val 4 (natStep T.val 8 (natStep T.val 16 (natStep T.val 32
    (natStep T.val 64 (natStep T.val 128 0))))))) = T.val := by decide +kernel

theorem search_eq {v : ℝ} (h0 : 0 ≤ v) (hb : v < (2 : ℝ) ^ (125 : Int)) :
    stepW v 1#32 (stepW v 2#32 (stepW v 4#32 (stepW v 8#32 (stepW v 16#32 (stepW v 32#32 (stepW v 64#32 (stepW v 128#32 0#32)))))))
      = BitVec.ofNat 32 (fieldN v) := by
  have hT := fieldN_lt hb
  have s : ∀ bit g : Nat, g + bit < 256 → 0 < bit → stepW v (BitVec.ofNat 32 bit) (BitVec.ofNat 32 g) = BitVec.ofNat 32 (natStep (fieldN v) bit g) :=
    fun bit g h1 h2 => stepW_eq h0 hb bit g h1 h2
  have hk := natSearch ⟨fieldN v, by omega⟩
  have fm := natStep_cases (fieldN v)
  generalize e1 : natStep (fieldN v) 128 0 = g1 at hk
  have b1 := fm 128 0
  generalize e2 : natStep (fieldN v) 64 g1 = g2 at hk
  have b2 := fm 64 g1
  generalize e3 : natStep (fieldN v) 32 g2 = g3 at hk
  have b3 := fm 32 g2
  generalize e4 : natStep (fieldN v) 16 g3 = g4 at hk
  have b4 := fm 16 g3
  generalize e5 : natStep (fieldN v) 8 g4 = g5 at hk
  have b5 := fm 8 g4
  generalize e6 : natStep (fieldN v) 4 g5 = g6 at hk
  have b6 := fm 4 g5
  generalize e7 : natStep (fieldN v) 2 g6 = g7 at hk
  have b7 := fm 2 g6
  rw [e1] at b1; rw [e2] at b2; rw [e3] at b3; rw [e4] at b4; rw [e5] at b5; rw [e6] at b6; rw [e7] at b7
  rw [s 128 0 (by omega) (by omega), e1, s 64 g1 (by omega) (by omega), e2, s 32 g2 (by omega) (by omega), e3, s 16 g3 (by omega) (by omega), e4,
    s 8 g4 (by omega) (by omega), e5, s 4 g5 (by omega) (by omega), e6, s 2 g6 (by omega) (by omega), e7, s 1 g7 (by omega) (by omega)]
  exact congrArg _ hk

/-- The exponent of a scale. -/
def expZ (v : ℝ) : Int := if v < (2 : ℝ) ^ (-126 : Int) then 0 else ⌊Real.log v / Real.log 2⌋ + 1

theorem shl_apply (x : IVec S8x128 32) (z : S8x128.Idx) : shli x (broadcast S8x128 23#32) z = x z <<< 23 := by
  simp [shli, broadcast, IntOp.shli]

/-- A vector of statistics at an index where it is a real number: the field found there. -/
theorem fieldOf_apply (w : FVec Ideal S8x128 .f32) (z : S8x128.Idx) (v : ℝ) (hw : w z = (v : EReal)) (h0 : 0 ≤ v) (hb : v < (2 : ℝ) ^ (125 : Int)) :
    fieldOf w z = BitVec.ofNat 32 (fieldN v) := by
  rw [← search_eq h0 hb, ← hw]
  have step : ∀ (bit : BitVec 32) (f : IVec S8x128 32), fieldStep w bit f z = stepW (w z) bit (f z) := by
    intro bit f
    show (if Ideal.cmp .oge (w z) (Ideal.ofBits .f32 (shli (addi f (broadcast S8x128 bit)) (broadcast S8x128 23#32) z)) = 1#1 then f z + bit else f z) = _
    rw [shl_apply, show addi f (broadcast S8x128 bit) z = f z + bit from rfl]
    unfold stepW Ideal.cmp
    by_cases h : Ideal.ofBits .f32 ((f z + bit) <<< 23) ≤ w z
    · rw [if_pos h]; simp only [h, decide_true, BitVec.ofBool_true]; rfl
    · rw [if_neg h]; simp only [h, decide_false, BitVec.ofBool_false]; rfl
  unfold fieldOf
  simp only [step]
  rfl

theorem expOf_apply (f : IVec S8x128 32) (z : S8x128.Idx) (n : Nat) (hf : f z = BitVec.ofNat 32 n) (hn : n < 252) :
    expOf f z = if n = 0 then 0#32 else BitVec.ofNat 32 n - 126#32 := by
  have key : ∀ k : Fin 252, (if IntOp.ori (IntOp.cmpi .eq (BitVec.ofNat 32 k.val) 0#32) (IntOp.cmpi .eq (BitVec.ofNat 32 k.val) 255#32) = 1#1 then 0#32
      else BitVec.ofNat 32 k.val - 126#32) = if k.val = 0 then 0#32 else BitVec.ofNat 32 k.val - 126#32 := by decide +kernel
  rw [← key ⟨n, hn⟩, ← hf]
  rfl

theorem scale_bits (n : Nat) (hn : n < 252) : (127#32 + (if n = 0 then 0#32 else BitVec.ofNat 32 n - 126#32)) <<< 23
      = BitVec.ofNat 32 (if n = 0 then 127 else n + 1) <<< 23
    ∧ (127#32 - (if n = 0 then 0#32 else BitVec.ofNat 32 n - 126#32)) <<< 23 = BitVec.ofNat 32 (if n = 0 then 127 else 253 - n) <<< 23 := by
  have key : ∀ k : Fin 252, (127#32 + (if k.val = 0 then 0#32 else BitVec.ofNat 32 k.val - 126#32)) <<< 23
      = BitVec.ofNat 32 (if k.val = 0 then 127 else k.val + 1) <<< 23
    ∧ (127#32 - (if k.val = 0 then 0#32 else BitVec.ofNat 32 k.val - 126#32)) <<< 23 = BitVec.ofNat 32 (if k.val = 0 then 127 else 253 - k.val) <<< 23 := by
    decide +kernel
  exact key ⟨n, hn⟩

theorem expZ_eq {v : ℝ} (hb : v < (2 : ℝ) ^ (125 : Int)) (hn : fieldN v ≠ 0) : expZ v = (fieldN v : Int) - 126 := by
  unfold fieldN at hn ⊢
  unfold expZ
  split_ifs at hn ⊢ with h
  · exact absurd rfl hn
  · have := floor_ge h; omega

theorem expZ_zero {v : ℝ} (hn : fieldN v = 0 → v < (2 : ℝ) ^ (-126 : Int)) (h : fieldN v = 0) : expZ v = 0 := by
  unfold expZ; rw [if_pos (hn h)]

theorem fieldN_zero {v : ℝ} (h : fieldN v = 0) : v < (2 : ℝ) ^ (-126 : Int) := by
  unfold fieldN at h
  split_ifs at h with hs
  · exact hs
  · have := floor_ge hs; omega

/-- The scale and its inverse, where the statistic is a real number. -/
theorem scale_apply (w : FVec Ideal S8x128 .f32) (z : S8x128.Idx) (v : ℝ) (hw : w z = (v : EReal)) (h0 : 0 ≤ v) (hb : v < (2 : ℝ) ^ (125 : Int)) :
    scaleOf (F := Ideal) (expOf (fieldOf w)) z = (((2 : ℝ) ^ expZ v : ℝ) : EReal) ∧ invOf (F := Ideal) (expOf (fieldOf w)) z = (((2 : ℝ) ^ (-expZ v) : ℝ) : EReal) := by
  have hn := fieldN_lt hb
  have he := expOf_apply (fieldOf w) z _ (fieldOf_apply w z v hw h0 hb) hn
  obtain ⟨s1, s2⟩ := scale_bits _ hn
  constructor
  · show Ideal.ofBits .f32 (shli (addi (broadcast S8x128 127#32) (expOf (fieldOf w))) (broadcast S8x128 23#32) z) = _
    rw [shl_apply, show addi (broadcast S8x128 127#32) (expOf (fieldOf w)) z = 127#32 + expOf (fieldOf w) z from rfl, he, s1, ofBits_field _ (by split_ifs <;> omega)]
    by_cases h : fieldN v = 0
    · rw [if_pos h, expZ_zero fieldN_zero h]; simp
    · rw [if_neg h, if_neg (by omega), if_neg (by omega), expZ_eq hb h]
      congr 2; push_cast; ring
  · show Ideal.ofBits .f32 (shli (subi (broadcast S8x128 127#32) (expOf (fieldOf w))) (broadcast S8x128 23#32) z) = _
    rw [shl_apply, show subi (broadcast S8x128 127#32) (expOf (fieldOf w)) z = 127#32 - expOf (fieldOf w) z from rfl, he, s2, ofBits_field _ (by split_ifs <;> omega)]
    by_cases h : fieldN v = 0
    · rw [if_pos h, expZ_zero fieldN_zero h]; simp
    · rw [if_neg h, if_neg (by omega), if_neg (by omega), expZ_eq hb h]
      congr 2; omega

end Cert.Swiglu

end
-- ==== Proof.RefApply.lean ====
/-
  The reference's arrays over the extended reals, read at an index: the gradients block by block, the statistic, the scales
  and the clipped values.
-/
module

public import proofs.«01_k».proof.Proof.RefValue
public import proofs.«01_k».proof.Proof.Maxima
public import proofs.«01_k».proof.Proof.Exponent

@[expose] public section

noncomputable section

namespace Cert.ReferenceIdeal.Of

open Cert.ReferenceIdeal Cert.ReferenceIdeal.Gen Idealize.ShloMosaic Cert.Swiglu

variable (x : FVec Ideal S7x1024x16384 .bf16) (d : FVec Ideal S7x1024x8192 .bf16)

/-- Row block `t` of the two matrices. -/
def blkOf (X : S7168x16384.Idx → EReal) (D : S7168x8192.Idx → EReal) (t : Nat) : Blk Ideal where
  x r c := X (ValueIdx.ix2 (Fin.ofNat 7168 (128 * t + r)) (Fin.ofNat 16384 c))
  d r c := D (ValueIdx.ix2 (Fin.ofNat 7168 (128 * t + r)) (Fin.ofNat 8192 c))

theorem gf_apply (R : Fin 7168) (j : Fin 8192) : gf x (ValueIdx.ix2 R j) = xf x (ValueIdx.ix2 R ⟨j.val, by omega⟩) := by
  refine extractStridedSlice_apply _ _ _ _ _ fun a => ?_
  match a with
  | ⟨0, _⟩ => show R.val = 0 + R.val; omega
  | ⟨1, _⟩ => show j.val = 0 + j.val; omega

theorem uf_apply (R : Fin 7168) (j : Fin 8192) : uf x (ValueIdx.ix2 R j) = xf x (ValueIdx.ix2 R ⟨8192 + j.val, by omega⟩) := by
  refine extractStridedSlice_apply _ _ _ _ _ fun a => ?_
  match a with
  | ⟨0, _⟩ => show R.val = 0 + R.val; omega
  | ⟨1, _⟩ => rfl

theorem dG_apply (i : S7168x8192.Idx) : dG x d i = refG (gf x i) (uf x i) (df d i) := rfl
theorem dU_apply (i : S7168x8192.Idx) : dU x d i = refU (gf x i) (df d i) := rfl

theorem ofNat_eq {n : Nat} [NeZero n] {a : Nat} (h : a < n) (i : Fin n) (e : i.val = a) : i = Fin.ofNat n a := by
  apply Fin.ext
  rw [e]
  exact (Nat.mod_eq_of_lt h).symm

theorem dxf_apply (t : Fin 56) (r : Fin 128) (k : Fin 128) (l : Fin 128) :
    dxf x d (ValueIdx.ix2 ⟨128 * t.val + r.val, by omega⟩ ⟨128 * k.val + l.val, by omega⟩)
      = DXref (blkOf (xf x) (df d) t.val) (k.val / 64) (k.val % 64 / 8) (k.val % 8) r.val l.val := by
  unfold dxf DXref
  by_cases h : k.val / 64 = 0
  · rw [if_pos h]
    refine (concatenate_pair_apply_left (t := S7168x16384) (s₁ := S7168x8192) (s₂ := S7168x8192) 1 (dG x d) (dU x d) _ _ rfl (ValueIdx.ix2 (⟨128 * t.val + r.val, by omega⟩ : Fin 7168) (⟨128 * k.val + l.val, by omega⟩ : Fin 8192)) ?_).trans ?_
    · intro b
      match b with
      | ⟨0, _⟩ => rfl
      | ⟨1, _⟩ => rfl
    · rw [dG_apply, gf_apply, uf_apply]
      unfold blkOf
      dsimp only
      rw [← ofNat_eq (n := 7168) (a := 128 * t.val + r.val) (by omega) ⟨128 * t.val + r.val, by omega⟩ rfl,
        ← ofNat_eq (n := 16384) (a := 1024 * (k.val % 64 / 8) + 128 * (k.val % 8) + l.val) (by omega) ⟨128 * k.val + l.val, by omega⟩ (by show 128 * k.val + l.val = _; omega),
        ← ofNat_eq (n := 8192) (a := 1024 * (k.val % 64 / 8) + 128 * (k.val % 8) + l.val) (by omega) ⟨128 * k.val + l.val, by omega⟩ (by show 128 * k.val + l.val = _; omega),
        ← ofNat_eq (n := 16384) (a := 8192 + (1024 * (k.val % 64 / 8) + 128 * (k.val % 8) + l.val)) (by omega) ⟨8192 + (128 * k.val + l.val), by omega⟩ (by show 8192 + (128 * k.val + l.val) = _; omega)]
  · rw [if_neg h]
    refine (concatenate_pair_apply_right (t := S7168x16384) (s₁ := S7168x8192) (s₂ := S7168x8192) 1 (dG x d) (dU x d) _ _ rfl rfl (ValueIdx.ix2 (⟨128 * t.val + r.val, by omega⟩ : Fin 7168) (⟨128 * (k.val - 64) + l.val, by omega⟩ : Fin 8192)) ?_ ?_).trans ?_
    · intro b hb
      match b, hb with
      | ⟨0, _⟩, _ => rfl
      | ⟨1, _⟩, hb => exact absurd rfl hb
    · show 128 * (k.val - 64) + l.val + 8192 = 128 * k.val + l.val
      omega
    · rw [dU_apply, gf_apply]
      unfold blkOf
      dsimp only
      rw [← ofNat_eq (n := 7168) (a := 128 * t.val + r.val) (by omega) ⟨128 * t.val + r.val, by omega⟩ rfl,
        ← ofNat_eq (n := 16384) (a := 1024 * (k.val % 64 / 8) + 128 * (k.val % 8) + l.val) (by omega) ⟨128 * (k.val - 64) + l.val, by omega⟩ (by show 128 * (k.val - 64) + l.val = _; omega),
        ← ofNat_eq (n := 8192) (a := 1024 * (k.val % 64 / 8) + 128 * (k.val % 8) + l.val) (by omega) ⟨128 * (k.val - 64) + l.val, by omega⟩ (by show 128 * (k.val - 64) + l.val = _; omega)]

theorem blk_apply (t : Fin 56) (r k l : Fin 128) :
    blk x d (ValueIdx.ix4 t r k l) = DXref (blkOf (xf x) (df d) t.val) (k.val / 64) (k.val % 64 / 8) (k.val % 8) r.val l.val := by
  rw [← dxf_apply]
  refine shapeCast_apply _ _ _ _ ?_
  rw [Shape.rowMajor_val_two, Shape.rowMajor_val_four]
  show (128 * t.val + r.val) * 16384 + (128 * k.val + l.val) = ((t.val * 128 + r.val) * 128 + k.val) * 128 + l.val
  omega

end Cert.ReferenceIdeal.Of

end
-- ==== Proof.RefMax.lean ====
/-
  The reference's statistic over the extended reals: a block's largest absolute value times a constant.
-/
module

public import proofs.«01_k».proof.Proof.RefValue
public import proofs.«01_k».proof.Proof.Maxima

@[expose] public section

noncomputable section

namespace Cert.ReferenceIdeal.Of

open Cert.ReferenceIdeal Cert.ReferenceIdeal.Gen Idealize.ShloMosaic Cert.Swiglu

variable (x : FVec Ideal S7x1024x16384 .bf16) (d : FVec Ideal S7x1024x8192 .bf16)

/-- Dropping the second and the fourth axis keeps the first and the third coordinate. -/
theorem drop_keeps {n0 n1 n2 n3 : Nat} (h : (⟨4, ![n0, n1, n2, n3]⟩ : Shape).ReducesTo [1, 3] ⟨2, ![n0, n2]⟩)
    (i : (⟨4, ![n0, n1, n2, n3]⟩ : Shape).Idx) : h.drop i = ValueIdx.ix2 (i 0) (i 2) := by
  funext b
  apply Fin.ext
  match b with
  | ⟨0, _⟩ => rfl
  | ⟨1, _⟩ => rfl

/-- The largest entry along the second and the fourth axis is at most `M` where all entries are. -/
theorem reduce_le {n0 n1 n2 n3 : Nat} (h : (⟨4, ![n0, n1, n2, n3]⟩ : Shape).ReducesTo [1, 3] ⟨2, ![n0, n2]⟩) (hu : 0 < S_.numel)
    (f : (⟨4, ![n0, n1, n2, n3]⟩ : Shape).Idx → EReal) (b : S_.Idx → EReal) (hb : b (Shape.Idx.first hu) = ⊥) (t : Fin n0) (k : Fin n2) (M : EReal) :
    Host.reduce (α := EReal) max f b h hu (ValueIdx.ix2 t k) ≤ M ↔ ∀ (r : Fin n1) (l : Fin n3), f (ValueIdx.ix4 t r k l) ≤ M := by
  rw [Host.reduce_eq_fold, hb]
  refine (Finset.fold_max_le (b := (⊥ : EReal)) (c := M)).trans ?_
  constructor
  · rintro ⟨_, h1⟩ r l
    exact h1 (ValueIdx.ix4 t r k l) (Finset.mem_filter.mpr ⟨Finset.mem_univ _, drop_keeps h _⟩)
  · intro hh
    refine ⟨bot_le, fun i hi => ?_⟩
    have hd := (drop_keeps h i).symm.trans (Finset.mem_filter.mp hi).2
    have e0 : i 0 = t := congrFun hd 0
    have e2 : i 2 = k := congrFun hd 1
    have ei : i = ValueIdx.ix4 t (i 1) k (i 3) := by
      rw [← e0, ← e2]
      funext a
      match a with
      | ⟨0, _⟩ => rfl
      | ⟨1, _⟩ => rfl
      | ⟨2, _⟩ => rfl
      | ⟨3, _⟩ => rfl
    rw [ei]
    exact hh (i 1) (i 3)

/-- A statistic is the maximum times the constant. -/
theorem times_cst (A : FVec Ideal S56x128 .f32) (j : S56x128.Idx) : mulf A (splat S56x128 bcast_S_S56x128 0x3B124925#32) j = A j * ((cst : ℝ) : EReal) := by
  rw [← cst_bits]
  rfl

theorem stat_eq (t : Fin 56) (k : Fin 128) : ∃ A : EReal, stat x d (ValueIdx.ix2 t k) = A * ((cst : ℝ) : EReal)
    ∧ ∀ M, A ≤ M ↔ ∀ r l : Fin 128, absE (blk x d (ValueIdx.ix4 t r k l)) ≤ M := by
  unfold stat
  generalize blk x d = b
  exact ⟨_, times_cst _ _, fun M => reduce_le reducesTo_S56x128x128x128_S56x128_d1_3 h_S_ (fun i => absE (b i)) _ neg_inf_bits t k M⟩

end Cert.ReferenceIdeal.Of

end
-- ==== Proof.RefScale.lean ====
/-
  The reference's scales over the extended reals, and its clipped values read at an index.
-/
module

public import proofs.«01_k».proof.Proof.RefValue
public import proofs.«01_k».proof.Proof.Grad
public import proofs.«01_k».proof.Proof.Exponent

@[expose] public section

noncomputable section

namespace Cert.ReferenceIdeal.Of

open Cert.ReferenceIdeal Cert.ReferenceIdeal.Gen Idealize.ShloMosaic Cert.Swiglu

variable (x : FVec Ideal S7x1024x16384 .bf16) (d : FVec Ideal S7x1024x8192 .bf16)

theorem log_pos {r : ℝ} (h : 0 < r) : Ideal.log (r : EReal) = ((Real.log r : ℝ) : EReal) := by
  rw [Ideal.log_coe, if_neg (not_le.mpr h)]

/-- The exponent of a scale, where the statistic is a real number. -/
theorem expo_apply (w : FVec Ideal S56x128 .f32) (j : S56x128.Idx) (v : ℝ) (hw : w j = (v : EReal)) (h0 : 0 ≤ v) :
    expo w j = (((expZ v : Int) : ℝ) : EReal) := by
  have b1 : Ideal.ofBits .f32 0x00800000#32 = (((2 : ℝ) ^ (-126 : Int) : ℝ) : EReal) := by
    simp [Ideal.ofBits, Ideal.ieee, -EReal.coe_mul]; norm_num
  have b2 : Ideal.ofBits .f32 0x40000000#32 = ((2 : ℝ) : EReal) := by
    simp [Ideal.ofBits, Ideal.ieee, -EReal.coe_mul]; norm_num
  have b3 : Ideal.ofBits .f32 0x00000000#32 = ((0 : ℝ) : EReal) := by
    simp [Ideal.ofBits, Ideal.ieee, -EReal.coe_mul]
  show (if Ideal.cmp .olt (w j) (Ideal.ofBits .f32 0x00800000#32) = 1#1 then Ideal.ofBits .f32 0x00000000#32
    else Ideal.liftRound Int.floor (Ideal.div (Ideal.log (w j)) (Ideal.log (Ideal.ofBits .f32 0x40000000#32))) + Ideal.ofBits .f32 0x3F800000#32) = _
  rw [hw, b1, b2, b3, one_bits]
  unfold expZ
  by_cases h : v < (2 : ℝ) ^ (-126 : Int)
  · have hc : Ideal.cmp .olt (v : EReal) (((2 : ℝ) ^ (-126 : Int) : ℝ) : EReal) = 1#1 := by
      simp only [Ideal.cmp, EReal.coe_lt_coe_iff, h, decide_true]; rfl
    rw [if_pos hc, if_pos h]; simp
  · have hc : ¬ Ideal.cmp .olt (v : EReal) (((2 : ℝ) ^ (-126 : Int) : ℝ) : EReal) = 1#1 := by
      simp only [Ideal.cmp, EReal.coe_lt_coe_iff, h, decide_false]; decide
    have hp : 0 < v := lt_of_lt_of_le (by positivity) (not_lt.mp h)
    rw [if_neg hc, if_neg h, log_pos hp, log_pos two_pos, Ideal.div_coe (Real.log_pos one_lt_two).ne', ← EReal.coe_mul, mul_one_div, Ideal.liftRound_coe, ← EReal.coe_add]
    push_cast
    rfl

theorem pow_two (e : Int) : Ideal.pow (Ideal.ofBits .f32 0x40000000#32) ((e : ℝ) : EReal) = (((2 : ℝ) ^ e : ℝ) : EReal) := by
  have b2 : Ideal.ofBits .f32 0x40000000#32 = ((2 : ℝ) : EReal) := by
    simp [Ideal.ofBits, Ideal.ieee, -EReal.coe_mul]; norm_num
  rw [b2, Ideal.pow_coe_coe]
  congr 1
  exact Real.rpow_intCast 2 e

theorem pow_apply (w : FVec Ideal S56x128 .f32) (j : S56x128.Idx) :
    Host.powf (splat S56x128 bcast_S_S56x128 0x40000000#32) w j = Ideal.pow (Ideal.ofBits .f32 0x40000000#32) (w j) := rfl

theorem neg_apply (w : FVec Ideal S56x128 .f32) (j : S56x128.Idx) : Host.negf w j = -(w j) := rfl

/-- The reference's scale and its inverse, where the statistic is a real number. -/
theorem scl_apply (j : S56x128.Idx) (v : ℝ) (hw : stat x d j = (v : EReal)) (h0 : 0 ≤ v) :
    scl x d j = (((2 : ℝ) ^ expZ v : ℝ) : EReal) ∧ inv x d j = (((2 : ℝ) ^ (-expZ v) : ℝ) : EReal) := by
  unfold scl inv
  generalize stat x d = w at hw
  rw [pow_apply, pow_apply, neg_apply, expo_apply w j v hw h0, pow_two, ← EReal.coe_neg, ← Int.cast_neg, pow_two]
  exact ⟨rfl, rfl⟩

/-- The clipped product of two arrays at an index. -/
theorem clip_apply (u v : FVec Ideal S56x128x128x128 .f32) (i : S56x128x128x128.Idx) :
    minimumf (splat S56x128x128x128 bcast_S_S56x128x128x128 0x43E00000#32) (maximumf (splat S56x128x128x128 bcast_S_S56x128x128x128 0xC3E00000#32) (mulf u v)) i
      = min (Ideal.ofBits .f32 0x43E00000#32) (max (Ideal.ofBits .f32 0xC3E00000#32) (u i * v i)) := rfl

/-- A scaled and clipped value. -/
theorem clipped_apply (R : Fin 7168) (C : Fin 16384) :
    clipped x d (ValueIdx.ix2 R C) = min (Ideal.ofBits .f32 0x43E00000#32) (max (Ideal.ofBits .f32 0xC3E00000#32)
      (blk x d (ValueIdx.ix4 ⟨R.val / 128, by omega⟩ ⟨R.val % 128, by omega⟩ ⟨C.val / 128, by omega⟩ ⟨C.val % 128, by omega⟩)
        * inv x d (ValueIdx.ix2 ⟨R.val / 128, by omega⟩ ⟨C.val / 128, by omega⟩))) := by
  unfold clipped
  generalize blk x d = b
  generalize inv x d = w
  refine (shapeCast_apply _ _ _ (ValueIdx.ix4 ⟨R.val / 128, by omega⟩ ⟨R.val % 128, by omega⟩ ⟨C.val / 128, by omega⟩ ⟨C.val % 128, by omega⟩) ?_).trans ?_
  · rw [Shape.rowMajor_val_two, Shape.rowMajor_val_four]
    show ((R.val / 128 * 128 + R.val % 128) * 128 + C.val / 128) * 128 + C.val % 128 = R.val * 16384 + C.val
    omega
  · rw [clip_apply]
    refine congrArg (fun q => min (Ideal.ofBits .f32 0x43E00000#32) (max (Ideal.ofBits .f32 0xC3E00000#32) (b _ * q))) ?_
    refine (broadcastInDim_apply _ _ _ _ (ValueIdx.ix4 ⟨R.val / 128, by omega⟩ 0 ⟨C.val / 128, by omega⟩ 0) ?_).trans ?_
    · intro a
      match a with
      | ⟨0, _⟩ => rfl
      | ⟨1, _⟩ => rfl
      | ⟨2, _⟩ => rfl
      | ⟨3, _⟩ => rfl
    · refine broadcastInDim_apply _ _ _ _ (ValueIdx.ix2 ⟨R.val / 128, by omega⟩ ⟨C.val / 128, by omega⟩) ?_
      intro a
      match a with
      | ⟨0, _⟩ => rfl
      | ⟨1, _⟩ => rfl

end Cert.ReferenceIdeal.Of

end
-- ==== Proof.ScaleRow.lean ====
/-
  The row of scales over the extended reals: each lane is the sum over eight sublanes of which one holds that block's scale and
  the others zero.
-/
module

public import proofs.«01_k».proof.Proof.Spec
public import Idealize.ShloMosaic.PureOps.Ideal
public import Idealize.ShloMosaic.Lib.Pointwise.Reduce

@[expose] public section

noncomputable section

namespace Cert.Swiglu

open Idealize.ShloMosaic

theorem zero_bits : Ideal.ofBits .f32 0x00000000#32 = (0 : EReal) := by
  simp [Ideal.ofBits, Ideal.ieee]

theorem place_cond : ∀ (c h : Nat), c < 8 → h < 2 → ∀ (s : Fin 8) (l : Fin 128),
    (IntOp.cmpi .eq (BitVec.ofNat 32 l.val - (BitVec.ofNat 32 (64 * h) + BitVec.ofNat 32 c * 8#32)) (BitVec.ofNat 32 s.val) = 1#1)
      ↔ l.val = 64 * h + 8 * c + s.val := by
  intro c h hc hh s l
  have e : (IntOp.cmpi .eq (BitVec.ofNat 32 l.val - (BitVec.ofNat 32 (64 * h) + BitVec.ofNat 32 c * 8#32)) (BitVec.ofNat 32 s.val) = 1#1)
      ↔ BitVec.ofNat 32 l.val - (BitVec.ofNat 32 (64 * h) + BitVec.ofNat 32 c * 8#32) = BitVec.ofNat 32 s.val := by
    unfold IntOp.cmpi
    by_cases h : BitVec.ofNat 32 l.val - (BitVec.ofNat 32 (64 * h) + BitVec.ofNat 32 c * 8#32) = BitVec.ofNat 32 s.val
    · simp [h]
    · simp only [h, iff_false]
      rw [show (_ == _) = false from beq_eq_false_iff_ne.mpr h]
      decide
  rw [e, ← BitVec.toNat_inj, BitVec.toNat_sub, BitVec.toNat_add, BitVec.toNat_mul]
  simp only [BitVec.toNat_ofNat]
  have hs := s.isLt
  have hl := l.isLt
  omega

theorem placeOf_apply (c h : Nat) (hc : c < 8) (hh : h < 2) (v : FVec Ideal S8x128 .f32) (s : Fin 8) (l : Fin 128) :
    placeOf (F := Ideal) (BitVec.ofNat 32 c) h v (ValueIdx.ix2 s l) = if l.val = 64 * h + 8 * c + s.val then v (ValueIdx.ix2 s l) else (0 : EReal) := by
  have h1 : placeOf (F := Ideal) (BitVec.ofNat 32 c) h v (ValueIdx.ix2 s l)
      = if IntOp.cmpi .eq (BitVec.ofNat 32 l.val - (BitVec.ofNat 32 (64 * h) + BitVec.ofNat 32 c * 8#32)) (BitVec.ofNat 32 s.val) = 1#1
        then v (ValueIdx.ix2 s l) else Ideal.ofBits .f32 0x00000000#32 := by
    show (if IntOp.cmpi .eq (iota .tc S8x128 32 [1] (by decide) (ValueIdx.ix2 s l) - (BitVec.ofNat 32 (64 * h) + BitVec.ofNat 32 c * 8#32))
      (iota .tc S8x128 32 [0] (by decide) (ValueIdx.ix2 s l)) = 1#1 then v (ValueIdx.ix2 s l) else Ideal.ofBits .f32 0x00000000#32) = _
    rw [iota_single_apply, iota_single_apply]
  rw [h1, zero_bits]
  simp only [place_cond c h hc hh s l]

variable (B : Blk Ideal)

/-- Block `l`'s scale at its own sublane, once its chunk is done. -/
theorem accV_apply (n : Nat) (hn : n < 8) (s : Fin 8) (l : Fin 128) :
    accV B n (ValueIdx.ix2 s l) = if s.val = l.val % 8 ∧ l.val % 64 / 8 ≤ n
      then scaleOf (F := Ideal) (eV B (l.val / 64) (l.val % 64 / 8)) (ValueIdx.ix2 s l) else (0 : EReal) := by
  have hl := l.isLt
  have hs := s.isLt
  induction n with
  | zero =>
    have h1 : accV B 0 (ValueIdx.ix2 s l) = Ideal.ofBits .f32 0x00000000#32 + placeOf (F := Ideal) (BitVec.ofNat 32 0) 0 (scaleOf (eV B 0 0)) (ValueIdx.ix2 s l)
      + placeOf (F := Ideal) (BitVec.ofNat 32 0) 1 (scaleOf (eV B 1 0)) (ValueIdx.ix2 s l) := rfl
    rw [h1, placeOf_apply 0 0 (by omega) (by omega), placeOf_apply 0 1 (by omega) (by omega), zero_bits, zero_add]
    by_cases hc : s.val = l.val % 8 ∧ l.val % 64 / 8 ≤ 0
    · rw [if_pos hc]
      by_cases h0 : l.val < 64
      · rw [if_pos (by omega), if_neg (by omega), add_zero, show l.val / 64 = 0 by omega, show l.val % 64 / 8 = 0 by omega]
      · rw [if_neg (by omega), if_pos (by omega), zero_add, show l.val / 64 = 1 by omega, show l.val % 64 / 8 = 0 by omega]
    · rw [if_neg hc, if_neg (by omega), if_neg (by omega), add_zero]
  | succ n ih =>
    have h1 : accV B (n + 1) (ValueIdx.ix2 s l) = accV B n (ValueIdx.ix2 s l) + placeOf (F := Ideal) (BitVec.ofNat 32 (n + 1)) 0 (scaleOf (eV B 0 (n + 1))) (ValueIdx.ix2 s l)
      + placeOf (F := Ideal) (BitVec.ofNat 32 (n + 1)) 1 (scaleOf (eV B 1 (n + 1))) (ValueIdx.ix2 s l) := rfl
    rw [h1, placeOf_apply (n + 1) 0 (by omega) (by omega), placeOf_apply (n + 1) 1 (by omega) (by omega), ih (by omega)]
    by_cases hc : s.val = l.val % 8 ∧ l.val % 64 / 8 ≤ n + 1
    · rw [if_pos hc]
      by_cases hp : l.val % 64 / 8 ≤ n
      · rw [if_pos ⟨hc.1, hp⟩, if_neg (by omega), if_neg (by omega), add_zero, add_zero]
      · have e2 : l.val % 64 / 8 = n + 1 := by omega
        rw [if_neg (by omega)]
        by_cases h0 : l.val < 64
        · rw [if_pos (by omega), if_neg (by omega), add_zero, zero_add, show l.val / 64 = 0 by omega, e2]
        · rw [if_neg (by omega), if_pos (by omega), zero_add, zero_add, show l.val / 64 = 1 by omega, e2]
    · rw [if_neg hc, if_neg (by omega), if_neg (by omega), if_neg (by omega), add_zero, add_zero]

theorem reduces_rows : S8x128.Reduces [0] S128 := by decide
theorem formats_add : FKind.Formats .f32 := .inl rfl
theorem neutral_add : 0x00000000#32 = FKind.add.neutral .f32 formats_add := rfl

theorem rowSum_apply (v : FVec Ideal S8x128 .f32) (l : Fin 128) :
    multiReduction (F := Ideal) .add [0] S128 v 0x00000000#32 reduces_rows formats_add neutral_add (ValueIdx.ix1 l) = ∑ s : Fin 8, v (ValueIdx.ix2 s l) := by
  rw [multiReduction_add_apply]
  exact Ideal.reduceAdd_r2_a0 reduces_rows v (ValueIdx.ix1 l)

/-- Lane `l` of the row of scales is block `l`'s scale. -/
theorem rowV_apply (l : Fin 128) :
    rowV B (ValueIdx.ix2 0 l) = scaleOf (F := Ideal) (eV B (l.val / 64) (l.val % 64 / 8)) (ValueIdx.ix2 ⟨l.val % 8, by omega⟩ l) := by
  have hl := l.isLt
  refine (shapeCast_apply _ _ _ (ValueIdx.ix1 l) ?_).trans ?_
  · rw [Shape.rowMajor_val_one, Shape.rowMajor_val_two]
    show l.val = 0 * 128 + l.val
    omega
  · refine (rowSum_apply (accV B 7) l).trans ?_
    rw [Finset.sum_eq_single (⟨l.val % 8, by omega⟩ : Fin 8)]
    · rw [accV_apply B 7 (by omega), if_pos ⟨rfl, by omega⟩]
    · intro s _ hs
      rw [accV_apply B 7 (by omega), if_neg]
      intro hc
      exact hs (Fin.ext hc.1)
    · intro hc
      exact absurd (Finset.mem_univ _) hc

end Cert.Swiglu

end
-- ==== Proof.Agree.lean ====
/-
  The kernel's scales and codes are the reference's, over the extended reals, where the arguments are bounded.
-/
module

public import proofs.«01_k».proof.Proof.RefApply
public import proofs.«01_k».proof.Proof.RefMax
public import proofs.«01_k».proof.Proof.RefScale
public import proofs.«01_k».proof.Proof.ScaleRow

@[expose] public section

noncomputable section

namespace Cert.ReferenceIdeal.Of

open Cert.ReferenceIdeal Cert.ReferenceIdeal.Gen Idealize.ShloMosaic Cert.Swiglu

variable (x : FVec Ideal S7x1024x16384 .bf16) (d : FVec Ideal S7x1024x8192 .bf16)

/-- Every entry of the two arguments is a real number of absolute value at most 2^60. -/
def Bounded : Prop := (∀ i, ∃ r : ℝ, x i = (r : EReal) ∧ |r| ≤ 2 ^ 60) ∧ ∀ i, ∃ r : ℝ, d i = (r : EReal) ∧ |r| ≤ 2 ^ 60

variable {x d}

theorem blk_real (hB : Bounded x d) (t : Nat) : BlkReal (blkOf (xf x) (df d) t) (2 ^ 60) :=
  ⟨fun r c => hB.1 _, fun r c => hB.2 _⟩

theorem cst_bounds : 0 < cst ∧ cst < 1 := by
  unfold cst
  constructor <;> norm_num

/-- Block `(t, k)`'s scale and inverse scale. -/
theorem scales_agree (hB : Bounded x d) (t : Fin 56) (k : Fin 128) (z : S8x128.Idx) (hz : (z 0).val = k.val % 8) :
    scaleOf (F := Ideal) (eV (blkOf (xf x) (df d) t.val) (k.val / 64) (k.val % 64 / 8)) z = scl x d (ValueIdx.ix2 t k)
    ∧ invOf (F := Ideal) (eV (blkOf (xf x) (df d) t.val) (k.val / 64) (k.val % 64 / 8)) z = inv x d (ValueIdx.ix2 t k) := by
  have hR := blk_real hB t.val
  obtain ⟨A, eA, hA⟩ := Swiglu.stat_eq (blkOf (xf x) (df d) t.val) (k.val / 64) (k.val % 64 / 8) z
  obtain ⟨A', eA', hA'⟩ := stat_eq x d t k
  have h2 : (0 : ℝ) ≤ 2 ^ 60 := by positivity
  have hAA : A = A' := by
    have hM : ∀ M, A ≤ M ↔ A' ≤ M := by
      intro M
      rw [hA, hA', hz]
      simp only [blk_apply, DX_eq h2 hR]
    exact le_antisymm ((hM A').mpr le_rfl) ((hM A).mp le_rfl)
  obtain ⟨a, ea, h0, hN⟩ := stat_real (N := 2 * (2 ^ 60) ^ 2) hA fun r l => by
    obtain ⟨a, e1, _, e3⟩ := DX_real h2 hR (k.val / 64) (k.val % 64 / 8) (z 0).val r.val l.val
    exact ⟨a, e1, e3⟩
  obtain ⟨c0, c1⟩ := cst_bounds
  have v0 : 0 ≤ a * cst := mul_nonneg h0 c0.le
  have v1 : a * cst < (2 : ℝ) ^ (125 : Int) := by
    have : a * cst ≤ a := by nlinarith
    have h3 : (2 : ℝ) * (2 ^ 60) ^ 2 < (2 : ℝ) ^ (125 : Int) := by norm_num
    linarith
  have w1 : statOf (F := Ideal) (mxV (blkOf (xf x) (df d) t.val) (k.val / 64) (k.val % 64 / 8)) z = ((a * cst : ℝ) : EReal) := by
    rw [eA, ea, EReal.coe_mul]
  have w2 : stat x d (ValueIdx.ix2 t k) = ((a * cst : ℝ) : EReal) := by
    rw [eA', ← hAA, ea, EReal.coe_mul]
  obtain ⟨s1, s2⟩ := scale_apply _ z _ w1 v0 v1
  obtain ⟨r1, r2⟩ := scl_apply x d _ _ w2 v0
  exact ⟨s1.trans r1.symm, s2.trans r2.symm⟩

/-- Row `t` of the scales. -/
theorem row_agree (hB : Bounded x d) (t : Fin 56) (k : Fin 128) : rowV (blkOf (xf x) (df d) t.val) (ValueIdx.ix2 0 k) = scl x d (ValueIdx.ix2 t k) := by
  rw [rowV_apply]
  exact (scales_agree hB t k _ rfl).1

theorem qEl_eq (a b : EReal) : qEl (F := Ideal) a b = min (Ideal.ofBits .f32 0x43E00000#32) (max (Ideal.ofBits .f32 0xC3E00000#32) (a * b)) := rfl

/-- The codes. -/
theorem code_agree (hB : Bounded x d) (R : Fin 7168) (C : Fin 16384) :
    codeAt (blkOf (xf x) (df d) (R.val / 128)) (R.val % 128) C.val = clipped x d (ValueIdx.ix2 R C) := by
  have h2 : (0 : ℝ) ≤ 2 ^ 60 := by positivity
  have hi := (scales_agree hB ⟨R.val / 128, by omega⟩ ⟨C.val / 128, by omega⟩
    (ValueIdx.ix2 (Fin.ofNat 8 (C.val % 1024 / 128)) (Fin.ofNat 128 (C.val % 128))) (by
      show (C.val % 1024 / 128) % 8 = C.val / 128 % 8
      omega)).2
  dsimp only at hi
  rw [clipped_apply, blk_apply, ← hi, codeAt, qEl_eq, DX_eq h2 (blk_real hB _), invAt]
  dsimp only
  rw [show C.val / 8192 = C.val / 128 / 64 by omega, show C.val % 8192 / 1024 = C.val / 128 % 64 / 8 by omega, show C.val % 1024 / 128 = C.val / 128 % 8 by omega]

end Cert.ReferenceIdeal.Of

end
-- ==== Proof.Bounded.lean ====
/-
  What the precondition says of the arguments: every entry is a real number of absolute value at most 2^60.
-/
module

public import proofs.«01_k».proof.Proof.Gen.Pre_bounded
public import proofs.«01_k».proof.Proof.Maxima
public import Idealize.ShloMosaic.Lib.ReduceAll
public import Idealize.ShloMosaic.Lib.Affine

@[expose] public section

noncomputable section

namespace Cert.Pre_bounded

open Idealize.ShloMosaic Cert.Swiglu

theorem bound_bits : Ideal.ofBits .f32 0x5D800000#32 = (((2 : ℝ) ^ 60 : ℝ) : EReal) := by
  have e : Ideal.ofBits .f32 0x5D800000#32 = ((1152921504606846976 : ℝ) : EReal) := by
    simp [Ideal.ofBits, Ideal.ieee, -EReal.coe_mul]; norm_num
  rw [e]
  congr 1
  norm_num

/-- An extended real of absolute value at most `M` is a real number of absolute value at most `M`. -/
theorem real_of_absE {a : EReal} {M : ℝ} (h : absE a ≤ (M : EReal)) : ∃ r : ℝ, a = (r : EReal) ∧ |r| ≤ M := by
  have h1 : a ≤ (M : EReal) := le_trans (le_max_left _ _) h
  have h2 : -a ≤ (M : EReal) := le_trans (le_max_right _ _) h
  have ht : a ≠ ⊤ := ne_top_of_le_ne_top (EReal.coe_ne_top M) h1
  have hb : a ≠ ⊥ := by
    rintro rfl
    rw [EReal.neg_bot] at h2
    exact EReal.coe_ne_top M (top_le_iff.mp h2)
  refine ⟨a.toReal, (EReal.coe_toReal ht hb).symm, ?_⟩
  rw [← EReal.coe_toReal ht hb, absE_coe] at h
  exact EReal.coe_le_coe_iff.mp h

theorem le_of_cmp {a b : EReal} (h : Ideal.cmp .ole a b = 1#1) : a ≤ b := by
  by_contra hc
  simp only [Ideal.cmp, hc, decide_false] at h
  exact absurd h (by decide)

instance : Subsingleton S_.Idx := ⟨fun a b => funext fun i => i.elim0⟩

/-- Where all entries compare at most the bound, each is. -/
theorem all_of {s : Shape} (v : FVec Ideal s .f32) (hb : S_.BroadcastsInDim s (![] : Fin 0 → Fin s.rank)) {axes : List (Fin s.rank)} (hr : s.ReducesTo axes S_) (hu : 0 < S_.numel)
    (h : ∀ j, Host.reduce IntOp.andi (cmpf .ole (Host.absf v) (broadcastInDim s ![] hb (constant S_ .f32 0x5D800000#32))) (constantI S_ 1 1#1) hr hu j = 1#1) (i : s.Idx) :
    ∃ r : ℝ, v i = (r : EReal) ∧ |r| ≤ 2 ^ 60 := by
  have h1 := Host.reduce_andi_all _ _ hr hu (fun a => a.elim0) (h _) i
  have h2 : Ideal.cmp .ole (absE (v i)) (Ideal.ofBits .f32 0x5D800000#32) = 1#1 := h1
  rw [bound_bits] at h2
  exact real_of_absE (le_of_cmp h2)

variable [Facts]

theorem bounded_of {x : FVec Ideal S7x1024x16384 .bf16} {d : FVec Ideal S7x1024x8192 .bf16} (h : fn (F := Ideal) x d = fun _ => 1#1) :
    (∀ i, ∃ r : ℝ, x i = (r : EReal) ∧ |r| ≤ 2 ^ 60) ∧ ∀ i, ∃ r : ℝ, d i = (r : EReal) ∧ |r| ≤ 2 ^ 60 := by
  have hx : ∀ j, _ ∧ _ := fun j => IntOp.andi_eq_one.mp (congrFun h j)
  exact ⟨all_of (extf .f32 x Facts.bitsLt_bf16_f32) _ _ _ fun j => (hx j).1, all_of (extf .f32 d Facts.bitsLt_bf16_f32) _ _ _ fun j => (hx j).2⟩

end Cert.Pre_bounded

end
-- ==== Proof.RefRun.lean ====
/-
  What the reference's run leaves in its three results.
-/
module

public import proofs.«01_k».proof.Proof.RefValue
public import Idealize.ShloMosaic.Lib.ValueLayoutCasts

@[expose] public section

noncomputable section

namespace Cert.ReferenceIdeal.Of

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (c : Dev nD)

/-- Window 0's block is the staged array. -/
theorem read_in (G : Buf (Elt F) ((c.tc : Thread nD τ).loc main_v47)) : ((cfg0.win (0 : Fin 3)).blk t0_0).view.read (Elt F) G = G := by
  have hz : (fun a => (win0_0.index t0_0) a * main_v47.ty.shape.size a) = fun _ => 0 := funext fun a => by fin_cases a <;> decide
  exact Memref.read_access_unit_zero (Elt F) main_v47 hz (fun a => by fin_cases a <;> decide) G

theorem read_out1 (G : Buf (Elt F) ((c.tc : Thread nD τ).loc main_v48_0)) : ((cfg0.win (1 : Fin 3)).blk t0_0).view.read (Elt F) G = G := by
  have hz : (fun a => (win0_1.index t0_0) a * main_v48_0.ty.shape.size a) = fun _ => 0 := funext fun a => by fin_cases a <;> decide
  exact Memref.read_access_unit_zero (Elt F) main_v48_0 hz (fun a => by fin_cases a <;> decide) G

theorem read_out2 (G : Buf (Elt F) ((c.tc : Thread nD τ).loc main_v48_1)) : ((cfg0.win (2 : Fin 3)).blk t0_0).view.read (Elt F) G = G := by
  have hz : (fun a => (win0_2.index t0_0) a * main_v48_1.ty.shape.size a) = fun _ => 0 := funext fun a => by fin_cases a <;> decide
  exact Memref.read_access_unit_zero (Elt F) main_v48_1 hz (fun a => by fin_cases a <;> decide) G

theorem in_block : iblk m c 0 t0_0 = V m c main_v47 := read_in c _

theorem out1_eq (x0 : Vec F S7168x16384 .f32) (R : Fin 7168) (C : Fin 16384) :
    out0_1 x0 (ValueIdx.ix2 R C) = FloatOps.truncf .fp8e4m3 bitsLt_fp8e4m3_f32 (x0 (ValueIdx.ix2 R C)) := by
  have hz : (![0, 0] : Fin S7168x16384.rank → Nat) = fun _ => 0 := funext fun a => by fin_cases a <;> rfl
  unfold out0_1
  rw [Value.canon1_eq, View.ld_unit_zero hz]
  refine congrArg (fun i => FloatOps.truncf .fp8e4m3 bitsLt_fp8e4m3_f32 (x0 i)) ?_
  funext a
  match a with
  | ⟨0, _⟩ => rfl
  | ⟨1, _⟩ => rfl

theorem out2_eq (x0 : Vec F S7168x16384 .f32) (R : Fin 7168) (C : Fin 16384) :
    out0_2 x0 (ValueIdx.ix2 C R) = FloatOps.truncf .fp8e4m3 bitsLt_fp8e4m3_f32 (x0 (ValueIdx.ix2 R C)) := by
  have hz : (![0, 0] : Fin S7168x16384.rank → Nat) = fun _ => 0 := funext fun a => by fin_cases a <;> rfl
  unfold out0_2
  rw [Value.canon2_eq, View.ld_unit_zero hz]
  refine congrArg (fun i => FloatOps.truncf .fp8e4m3 bitsLt_fp8e4m3_f32 (x0 i)) ?_
  funext a
  match a with
  | ⟨0, _⟩ => rfl
  | ⟨1, _⟩ => rfl

theorem final1 : (dats m 0 c).arrAt 1 cfg0.N = out0_1 (V m c main_v47) := by
  have h := Value.blocks1 m c t0_0 (by decide)
  rw [Value.flushed1, in_block] at h
  exact (read_out1 c _).symm.trans h

theorem final2 : (dats m 0 c).arrAt 2 cfg0.N = out0_2 (V m c main_v47) := by
  have h := Value.blocks2 m c t0_0 (by decide)
  rw [Value.flushed2, in_block] at h
  exact (read_out2 c _).symm.trans h

/-- The reference's run: the codes, the scales, the codes transposed, the arguments as they were. -/
theorem run (ρ : Dev nD → PrngReg) : θ_run defs (onTc (τ := τ) (main (F := F))) ⟨m, fun _ => 0, ρ⟩ fun r => ∀ c : Dev nD,
      r.2.mem ((c : Thread nD τ).loc main_v48_0) = out0_1 (clipped (m (c, Proc.devRef .tc main_arg0)) (m (c, Proc.devRef .tc main_arg1)))
      ∧ r.2.mem ((c : Thread nD τ).loc main_v39) = scl (m (c, Proc.devRef .tc main_arg0)) (m (c, Proc.devRef .tc main_arg1))
      ∧ r.2.mem ((c : Thread nD τ).loc main_v48_1) = out0_2 (clipped (m (c, Proc.devRef .tc main_arg0)) (m (c, Proc.devRef .tc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post1 m r h c).trans ((final1 m c).trans (congrArg _ (V_clipped m c))),
      ((h c).2 main_v39 (Pipeline.mem_restRefs_of main_v39 (by decide) (by decide))).trans (V_scl m c),
      (Value.post2 m r h c).trans ((final2 m c).trans (congrArg _ (V_clipped m c))),
      Value.kept_main_arg0 m r h c,
      Value.kept_main_arg1 m r h c⟩)
    (run_main m ρ)

end Cert.ReferenceIdeal.Of

end
-- ==== Proof.BodyIdeal.lean ====
/-
  The idealized kernel's printed text is the text of `Text.lean` at its nine buffers.
-/
module

public import proofs.«01_k».proof.Proof.Text
public import proofs.«01_k».proof.Proof.Gen.KernelIdeal
public import Idealize.ShloMosaic.Lib.Pipeline.Regions

@[expose] public section

noncomputable section

namespace Cert.KernelIdeal.Body

open Idealize.ShloMosaic Idealize.SL.Sem Cert.KernelIdeal Cert.Swiglu

theorem cond1_iff (i : grid0.Coords) : k0_cond1 i = 1#1 ↔ (i 0).val = 0 := by
  have key : ∀ x : Fin 57, Scalar.cmpi .ne (Scalar.extui (Scalar.cmpi .eq (BitVec.ofNat 32 x.val) 0#32) : BitVec 32) 0#32 = 1#1 ↔ x.val = 0 := by decide +kernel
  exact key (i 0)

theorem cond3_iff (i : grid0.Coords) : k0_cond3 i = 1#1 ↔ (i 0).val = 56 := by
  have key : ∀ x : Fin 57, Scalar.cmpi .ne (Scalar.extui (Scalar.cmpi .eq (BitVec.ofNat 32 x.val) 56#32) : BitVec 32) 0#32 = 1#1 ↔ x.val = 56 := by decide +kernel
  exact key (i 0)

theorem cond2_iff (i : grid0.Coords) : k0_cond2 i = 1#1 ↔ 0 < (i 0).val ∧ (i 0).val < 56 := by
  have key : ∀ x : Fin 57, Scalar.cmpi .ne (Scalar.extui (Scalar.andi (Scalar.cmpi .sgt (BitVec.ofNat 32 x.val) 0#32) (Scalar.cmpi .slt (BitVec.ofNat 32 x.val) 56#32)) : BitVec 32) 0#32 = 1#1 ↔ 0 < x.val ∧ x.val < 56 := by decide +kernel
  exact key (i 0)

theorem pid_toNat (i : grid0.Coords) : (BitVec.ofNat 32 (i 0).val).toNat = (i 0).val := by
  have := (i 0).isLt
  rw [BitVec.toNat_ofNat]
  exact Nat.mod_eq_of_lt (Nat.lt_trans this (by decide))

theorem lt1 {i : grid0.Coords} (h : k0_cond1 i = 1#1) : (BitVec.ofNat 32 (i 0).val).toNat < 56 := by
  rw [pid_toNat, (cond1_iff i).mp h]; decide

theorem lt2 {i : grid0.Coords} (h : k0_cond2 i = 1#1) : (BitVec.ofNat 32 (i 0).val).toNat < 56 := by
  rw [pid_toNat]; exact ((cond2_iff i).mp h).2

theorem lt3 {i : grid0.Coords} (h : k0_cond3 i = 1#1) : (Scalar.subi (BitVec.ofNat 32 (i 0).val) 1#32).toNat < 56 := by
  rw [(cond3_iff i).mp h]; decide

variable {F : FTy → Type} [FloatOps F]

/-- The printed text, cut. -/
theorem body_eq (i : grid0.Coords) (arg1 : Memref sig .tc .vmem Swiglu.S128x16384 .bf16) (h1 : arg1.IsWhole)
    (arg2 : Memref sig .tc .vmem Swiglu.S128x8192 .bf16) (h2 : arg2.IsWhole) (arg3 : Memref sig .tc .vmem Swiglu.S128x16384 .fp8e4m3) (h3 : arg3.IsWhole)
    (arg4 : Memref sig .tc .vmem Swiglu.S56x128 .f32) (h4 : arg4.IsWhole) (arg5 : Memref sig .tc .vmem Swiglu.S16384x128 .fp8e4m3) (h5 : arg5.IsWhole)
    (arg6 : Memref sig .tc .vmem Swiglu.S8x2x8x128x128 .f32) (h6 : arg6.IsWhole) (arg7 : Memref sig .tc .vmem Swiglu.S2x64x128 .f32) (h7 : arg7.IsWhole)
    (arg8 : Memref sig .tc .vmem Swiglu.S2x64x128 .f32) (h8 : arg8.IsWhole) (arg9 : Memref sig .tc .vmem Swiglu.S8x128 .f32) (h9 : arg9.IsWhole) :
    cc0_dswiglu_fp8 (F := F) i arg1 h1 arg2 h2 arg3 h3 arg4 h4 arg5 h5 arg6 h6 arg7 h7 arg8 h8 arg9 h9 = (do
      if c1 : k0_cond1 i = 1#1 then do
        start arg7 arg9
        Scf.Loop.for loop8 loop8_ok PUnit.unit fun k _ => trip1 arg1 arg2 arg4 arg6 arg7 arg8 arg9 (BitVec.ofNat 32 (i 0).val) (chunk k) (lt1 c1) (chunk_lt k)
        pure ⟨⟩
      else do pure ⟨⟩
      if c2 : k0_cond2 i = 1#1 then do
        Scf.Loop.for loop8 loop8_ok PUnit.unit fun k _ => trip2 arg1 arg2 arg3 h3 arg4 arg5 h5 arg6 arg7 arg8 arg9 (BitVec.ofNat 32 (i 0).val) (chunk k) (lt2 c2) (chunk_lt k)
        pure ⟨⟩
      else do pure ⟨⟩
      if c3 : k0_cond3 i = 1#1 then do
        scales arg4 arg7 arg8 arg9 (Scalar.subi (BitVec.ofNat 32 (i 0).val) 1#32) 7#32 (lt3 c3) (by decide)
        Scf.Loop.for loop8 loop8_ok PUnit.unit fun k _ => quants arg3 h3 arg5 h5 arg6 arg8 (chunk k) (chunk_lt k) 8 (by decide)
        pure ⟨⟩
      else do pure ⟨⟩
      pure ⟨⟩) := by
  chain_rfl

end Cert.KernelIdeal.Body

end
-- ==== Proof.Mem.lean ====
/-
  The nine buffers of a grid point held at their contents, and what a program does to them: `Ens p s post` says that
  `p`, run on the buffers at the contents `s`, ends with a result and contents that meet `post`.
-/
module

public import proofs.«01_k».proof.Proof.Text
public import Idealize.ShloMosaic.Lib.VecWindow
public import Idealize.ShloMosaic.Lib.Tactic

@[expose] public section

noncomputable section

namespace Cert.Swiglu

open Idealize.ShloMosaic Idealize.ShloMosaic.TcCoe Idealize.ShloMosaic.Rounds
open Idealize.SL Idealize.SL.RA
open Idealize.SL.BI (sProp)
open scoped Idealize.SL.BI
open Idealize.SL.BI.BIBase Idealize.SL.BI.Laws Idealize.SL.ProofMode Idealize.SL.Sem

/-- The contents of the nine buffers. -/
structure St (F : FTy → Type) where
  x1 : Vec F S128x16384 .bf16
  x2 : Vec F S128x8192 .bf16
  x3 : Vec F S128x16384 .fp8e4m3
  x4 : Vec F S56x128 .f32
  x5 : Vec F S16384x128 .fp8e4m3
  x6 : Vec F S8x2x8x128x128 .f32
  x7 : Vec F S2x64x128 .f32
  x8 : Vec F S2x64x128 .f32
  x9 : Vec F S8x128 .f32

/-! One buffer's contents replaced. -/

section Set

variable {F : FTy → Type}

def St.set3 (s : St F) (v : Vec F S128x16384 .fp8e4m3) : St F := { s with x3 := v }
def St.set4 (s : St F) (v : Vec F S56x128 .f32) : St F := { s with x4 := v }
def St.set5 (s : St F) (v : Vec F S16384x128 .fp8e4m3) : St F := { s with x5 := v }
def St.set6 (s : St F) (v : Vec F S8x2x8x128x128 .f32) : St F := { s with x6 := v }
def St.set7 (s : St F) (v : Vec F S2x64x128 .f32) : St F := { s with x7 := v }
def St.set8 (s : St F) (v : Vec F S2x64x128 .f32) : St F := { s with x8 := v }
def St.set9 (s : St F) (v : Vec F S8x128 .f32) : St F := { s with x9 := v }

end Set

variable {nD : Nat} {τ : Topo} {sig : RefSig} {Λ : Labels} {F : FTy → Type} [FloatOps F]

/-- The nine buffers. -/
structure Bufs (sig : RefSig) where
  arg1 : Memref sig .tc .vmem S128x16384 .bf16
  arg2 : Memref sig .tc .vmem S128x8192 .bf16
  arg3 : Memref sig .tc .vmem S128x16384 .fp8e4m3
  h3 : arg3.IsWhole
  arg4 : Memref sig .tc .vmem S56x128 .f32
  arg5 : Memref sig .tc .vmem S16384x128 .fp8e4m3
  h5 : arg5.IsWhole
  arg6 : Memref sig .tc .vmem S8x2x8x128x128 .f32
  arg7 : Memref sig .tc .vmem S2x64x128 .f32
  arg8 : Memref sig .tc .vmem S2x64x128 .f32
  arg9 : Memref sig .tc .vmem S8x128 .f32

local notation "𝕄" => MT nD τ sig Unit (Elt F) ℕ (UR sig nD τ) ℕ

/-- Where a run takes place: the buffers, the functions callable, the core. -/
structure Env (nD : Nat) (τ : Topo) (sig : RefSig) (Λ : Labels) (F : FTy → Type) where
  B : Bufs sig
  defs : Defs nD τ sig (Elt F) Λ
  V : Variants
  d : Dev nD

variable (e : Env nD τ sig Λ F)

/-- The buffers at the contents `s`. -/
def Own (s : St F) : sProp 𝕄 :=
  iprop(owns (e.d.tc : Thread nD τ) e.B.arg1 fullShare s.x1 ∗ owns (e.d.tc : Thread nD τ) e.B.arg2 fullShare s.x2
    ∗ owns (e.d.tc : Thread nD τ) e.B.arg3 fullShare s.x3 ∗ owns (e.d.tc : Thread nD τ) e.B.arg4 fullShare s.x4
    ∗ owns (e.d.tc : Thread nD τ) e.B.arg5 fullShare s.x5 ∗ owns (e.d.tc : Thread nD τ) e.B.arg6 fullShare s.x6
    ∗ owns (e.d.tc : Thread nD τ) e.B.arg7 fullShare s.x7 ∗ owns (e.d.tc : Thread nD τ) e.B.arg8 fullShare s.x8
    ∗ owns (e.d.tc : Thread nD τ) e.B.arg9 fullShare s.x9 ∗ emp)

/-- The program `p`, from the contents `s`, ends in a result and contents that meet `post`. -/
def Ens {α : Type} (p : Prog (E' nD τ sig F Λ) α) (s : St F) (post : α → St F → Prop) : Prop :=
  Own e s ⊢ wp frame (wpE e.defs e.V (e.d.tc : Thread nD τ) none) Set.univ p
    (fun a => iprop(∃ s', ⌜post a s'⌝ ∗ Own e s'))

variable {e}

theorem Ens.ret {α : Type} {a : α} {s : St F} {post : α → St F → Prop} (h : post a s) : Ens e (pure a) s post := by
  show Own e s ⊢ wp frame _ Set.univ (.ret a) _
  rw [wp_ret]
  iintro H
  imodintro
  iexists s
  isplitr
  · ipureintro; exact h
  · iexact H

theorem Ens.mono {α : Type} {p : Prog (E' nD τ sig F Λ) α} {s : St F} {post post' : α → St F → Prop}
    (h : Ens e p s post) (hp : ∀ a s', post a s' → post' a s') : Ens e p s post' := by
  refine h.trans (wp_mono _ _ _ fun a => ?_)
  iintro ⟨%s', %hs, H⟩
  iexists s'
  isplitr
  · ipureintro; exact hp a s' hs
  · iexact H

theorem Ens.pre {α : Type} {p : Prog (E' nD τ sig F Λ) α} {s : St F} {post : α → St F → Prop} (h : Ens e p s post) :
    Own e s ⊢ wp frame (wpE e.defs e.V (e.d.tc : Thread nD τ) none) Set.univ p (fun a => iprop(∃ s', ⌜post a s'⌝ ∗ Own e s')) := h

/-- What else is held stays, and what is wanted of the end is drawn from what holds there. -/
theorem Ens.frame_mono {α : Type} {p : Prog (E' nD τ sig F Λ) α} {s : St F} {post : α → St F → Prop} {R : sProp 𝕄} {Q : α → sProp 𝕄}
    (h : Ens e p s post) (hQ : ∀ a s', post a s' → iprop(Own e s' ∗ R) ⊢ Q a) :
    iprop(Own e s ∗ R) ⊢ wp frame (wpE e.defs e.V (e.d.tc : Thread nD τ) none) Set.univ p Q := by
  refine (sep_mono h.pre .rfl).trans ((wp_frame_r _ _ _).trans (wp_mono _ _ _ fun a => ?_))
  iintro ⟨⟨%s', %hs, H⟩, HR⟩
  iapply (hQ a s' hs)
  iframe

theorem Ens.bind {α β : Type} {p : Prog (E' nD τ sig F Λ) α} {k : α → Prog (E' nD τ sig F Λ) β} {s : St F}
    {post : α → St F → Prop} {post' : β → St F → Prop}
    (h : Ens e p s post) (hk : ∀ a s', post a s' → Ens e (k a) s' post') : Ens e (p >>= k) s post' := by
  unfold Ens
  rw [wp_bind]
  refine h.trans (wp_mono _ _ _ fun a => ?_)
  iintro ⟨%s', %hs, H⟩
  iapply (hk a s' hs).pre
  iexact H

/-- A load, of a buffer singled out. -/
theorem Ens.load_of {sh : Shape} {et : EltTy} {m : Memref sig .tc .vmem sh et} {r : LoadRect sh} {hl : m.view.LoadsAt r}
    {s : St F} {X : sh.Idx → Elt F et} {R : sProp 𝕄}
    (h : Own e s ⊢ iprop(owns (e.d.tc : Thread nD τ) m fullShare X ∗ R))
    (h' : iprop(owns (e.d.tc : Thread nD τ) m fullShare X ∗ R) ⊢ Own e s) :
    Ens e (Prog.lift (.load m r hl) : Prog (E' nD τ sig F Λ) _) s (fun a s' => a = (fun j => X (r.idx j)) ∧ s' = s) := by
  refine h.trans ?_
  unfold owns at h' ⊢
  iintro ⟨⟨%f, %hf, Hm⟩, HR⟩
  iapply (wp_load (cs := .vmem) e.V (e.d.tc : Thread nD τ) none Set.univ (m := m) (r := r) (hl := hl) (k := fun x => .ret x) (S := m.view.set) (f := f) (q := fullShare) (View.setOn_subset_set _ _)) $$ Hm
  iintro Hm
  rw [wp_ret]
  imodintro
  iexists s
  isplitr
  · ipureintro; exact ⟨by rw [← hf]; rfl, rfl⟩
  · iapply h'
    isplitl [Hm]
    · iexists f
      isplitr
      · ipureintro; exact hf
      · iexact Hm
    · iexact HR

/-- A store, to a buffer singled out. -/
theorem Ens.store_of {sh : Shape} {et : EltTy} {m : Memref sig .tc .vmem sh et} {off size : Fin sh.rank → ℕ}
    {inb : ∀ a, off a + size a ≤ sh.size a} {w : (Rect.unit off size inb).shape.Idx → Elt F et}
    {hx : (m.access (Rect.unit off size inb)).Stores Finset.univ} {hm : Finset.univ = Finset.univ ∨ ∀ a, (Rect.unit off size inb).stride a = 1}
    {s s₁ : St F} {X : sh.Idx → Elt F et} {R : sProp 𝕄}
    (h : Own e s ⊢ iprop(owns (e.d.tc : Thread nD τ) m fullShare X ∗ R))
    (h' : iprop(owns (e.d.tc : Thread nD τ) m fullShare (VecWindow.put X off size w) ∗ R) ⊢ Own e s₁) :
    Ens e (Prog.lift (.store m (Rect.unit off size inb) w Finset.univ hx hm) : Prog (E' nD τ sig F Λ) _) s (fun _ s' => s' = s₁) := by
  refine h.trans ?_
  unfold owns at h' ⊢
  iintro ⟨⟨%f, %hf, Hm⟩, HR⟩
  iapply (wp_store_writes₀ (cs := .vmem) e.V (e.d.tc : Thread nD τ) none Set.univ (m := m) (r := Rect.unit off size inb) (w := w) (hx := hx) (hm := hm) (k := fun x => .ret x) (S := m.view.set) (f := f) (Memref.setOn_access_subset _ _ _)) $$ Hm
  iintro Hm
  rw [wp_ret]
  imodintro
  iexists s₁
  isplitr
  · ipureintro; rfl
  · iapply h'
    isplitl [Hm]
    · iexists _
      isplitr
      · ipureintro
        exact (View.read_writes_cons_put m.view f inb w [] rfl).trans (by rw [View.writes_nil, hf])
      · iexact Hm
    · iexact HR

/-! ### Each buffer's loads and stores -/

theorem take {P Q R X : sProp 𝕄} (h : P ⊢ iprop(X ∗ R)) : iprop(Q ∗ P) ⊢ iprop(X ∗ (Q ∗ R)) := by
  iintro ⟨HQ, HP⟩
  ihave H := h $$ HP
  icases H with ⟨HX, HR⟩
  isplitl [HX]
  · iexact HX
  · isplitl [HQ] <;> iassumption

theorem put_back {P Q R X : sProp 𝕄} (h : iprop(X ∗ R) ⊢ P) : iprop(X ∗ (Q ∗ R)) ⊢ iprop(Q ∗ P) := by
  iintro ⟨HX, HQ, HR⟩
  isplitl [HQ]
  · iexact HQ
  · iapply h
    isplitl [HX] <;> iassumption

variable {s : St F}

theorem Ens.load1 {r : LoadRect S128x16384} {hl : e.B.arg1.view.LoadsAt r} :
    Ens e (Prog.lift (.load e.B.arg1 r hl) : Prog (E' nD τ sig F Λ) _) s (fun a s' => a = (fun j => s.x1 (r.idx j)) ∧ s' = s) :=
  .load_of .rfl .rfl

theorem Ens.load2 {r : LoadRect S128x8192} {hl : e.B.arg2.view.LoadsAt r} :
    Ens e (Prog.lift (.load e.B.arg2 r hl) : Prog (E' nD τ sig F Λ) _) s (fun a s' => a = (fun j => s.x2 (r.idx j)) ∧ s' = s) :=
  .load_of (take .rfl) (put_back .rfl)

theorem Ens.load3 {r : LoadRect S128x16384} {hl : e.B.arg3.view.LoadsAt r} :
    Ens e (Prog.lift (.load e.B.arg3 r hl) : Prog (E' nD τ sig F Λ) _) s (fun a s' => a = (fun j => s.x3 (r.idx j)) ∧ s' = s) :=
  .load_of (take (take .rfl)) (put_back (put_back .rfl))

theorem Ens.load4 {r : LoadRect S56x128} {hl : e.B.arg4.view.LoadsAt r} :
    Ens e (Prog.lift (.load e.B.arg4 r hl) : Prog (E' nD τ sig F Λ) _) s (fun a s' => a = (fun j => s.x4 (r.idx j)) ∧ s' = s) :=
  .load_of (take (take (take .rfl))) (put_back (put_back (put_back .rfl)))

theorem Ens.load5 {r : LoadRect S16384x128} {hl : e.B.arg5.view.LoadsAt r} :
    Ens e (Prog.lift (.load e.B.arg5 r hl) : Prog (E' nD τ sig F Λ) _) s (fun a s' => a = (fun j => s.x5 (r.idx j)) ∧ s' = s) :=
  .load_of (take (take (take (take .rfl)))) (put_back (put_back (put_back (put_back .rfl))))

theorem Ens.load6 {r : LoadRect S8x2x8x128x128} {hl : e.B.arg6.view.LoadsAt r} :
    Ens e (Prog.lift (.load e.B.arg6 r hl) : Prog (E' nD τ sig F Λ) _) s (fun a s' => a = (fun j => s.x6 (r.idx j)) ∧ s' = s) :=
  .load_of (take (take (take (take (take .rfl))))) (put_back (put_back (put_back (put_back (put_back .rfl)))))

theorem Ens.load7 {r : LoadRect S2x64x128} {hl : e.B.arg7.view.LoadsAt r} :
    Ens e (Prog.lift (.load e.B.arg7 r hl) : Prog (E' nD τ sig F Λ) _) s (fun a s' => a = (fun j => s.x7 (r.idx j)) ∧ s' = s) :=
  .load_of (take (take (take (take (take (take .rfl)))))) (put_back (put_back (put_back (put_back (put_back (put_back .rfl))))))

theorem Ens.load8 {r : LoadRect S2x64x128} {hl : e.B.arg8.view.LoadsAt r} :
    Ens e (Prog.lift (.load e.B.arg8 r hl) : Prog (E' nD τ sig F Λ) _) s (fun a s' => a = (fun j => s.x8 (r.idx j)) ∧ s' = s) :=
  .load_of (take (take (take (take (take (take (take .rfl))))))) (put_back (put_back (put_back (put_back (put_back (put_back (put_back .rfl)))))))

theorem Ens.load9 {r : LoadRect S8x128} {hl : e.B.arg9.view.LoadsAt r} :
    Ens e (Prog.lift (.load e.B.arg9 r hl) : Prog (E' nD τ sig F Λ) _) s (fun a s' => a = (fun j => s.x9 (r.idx j)) ∧ s' = s) :=
  .load_of (take (take (take (take (take (take (take (take .rfl)))))))) (put_back (put_back (put_back (put_back (put_back (put_back (put_back (put_back .rfl))))))))

theorem Ens.store3 {off size : Fin S128x16384.rank → ℕ} {inb : ∀ a, off a + size a ≤ S128x16384.size a} {w : (Rect.unit off size inb).shape.Idx → Elt F .fp8e4m3}
    {hx : (e.B.arg3.access (Rect.unit off size inb)).Stores Finset.univ} {hm : Finset.univ = Finset.univ ∨ ∀ a, (Rect.unit off size inb).stride a = 1} :
    Ens e (Prog.lift (.store e.B.arg3 (Rect.unit off size inb) w Finset.univ hx hm) : Prog (E' nD τ sig F Λ) _) s
      (fun _ s' => s' = s.set3 (VecWindow.put s.x3 off size w)) :=
  .store_of (take (take .rfl)) (put_back (put_back .rfl))

theorem Ens.store4 {off size : Fin S56x128.rank → ℕ} {inb : ∀ a, off a + size a ≤ S56x128.size a} {w : (Rect.unit off size inb).shape.Idx → Elt F .f32}
    {hx : (e.B.arg4.access (Rect.unit off size inb)).Stores Finset.univ} {hm : Finset.univ = Finset.univ ∨ ∀ a, (Rect.unit off size inb).stride a = 1} :
    Ens e (Prog.lift (.store e.B.arg4 (Rect.unit off size inb) w Finset.univ hx hm) : Prog (E' nD τ sig F Λ) _) s
      (fun _ s' => s' = s.set4 (VecWindow.put s.x4 off size w)) :=
  .store_of (take (take (take .rfl))) (put_back (put_back (put_back .rfl)))

theorem Ens.store5 {off size : Fin S16384x128.rank → ℕ} {inb : ∀ a, off a + size a ≤ S16384x128.size a} {w : (Rect.unit off size inb).shape.Idx → Elt F .fp8e4m3}
    {hx : (e.B.arg5.access (Rect.unit off size inb)).Stores Finset.univ} {hm : Finset.univ = Finset.univ ∨ ∀ a, (Rect.unit off size inb).stride a = 1} :
    Ens e (Prog.lift (.store e.B.arg5 (Rect.unit off size inb) w Finset.univ hx hm) : Prog (E' nD τ sig F Λ) _) s
      (fun _ s' => s' = s.set5 (VecWindow.put s.x5 off size w)) :=
  .store_of (take (take (take (take .rfl)))) (put_back (put_back (put_back (put_back .rfl))))

theorem Ens.store6 {off size : Fin S8x2x8x128x128.rank → ℕ} {inb : ∀ a, off a + size a ≤ S8x2x8x128x128.size a} {w : (Rect.unit off size inb).shape.Idx → Elt F .f32}
    {hx : (e.B.arg6.access (Rect.unit off size inb)).Stores Finset.univ} {hm : Finset.univ = Finset.univ ∨ ∀ a, (Rect.unit off size inb).stride a = 1} :
    Ens e (Prog.lift (.store e.B.arg6 (Rect.unit off size inb) w Finset.univ hx hm) : Prog (E' nD τ sig F Λ) _) s
      (fun _ s' => s' = s.set6 (VecWindow.put s.x6 off size w)) :=
  .store_of (take (take (take (take (take .rfl))))) (put_back (put_back (put_back (put_back (put_back .rfl)))))

theorem Ens.store7 {off size : Fin S2x64x128.rank → ℕ} {inb : ∀ a, off a + size a ≤ S2x64x128.size a} {w : (Rect.unit off size inb).shape.Idx → Elt F .f32}
    {hx : (e.B.arg7.access (Rect.unit off size inb)).Stores Finset.univ} {hm : Finset.univ = Finset.univ ∨ ∀ a, (Rect.unit off size inb).stride a = 1} :
    Ens e (Prog.lift (.store e.B.arg7 (Rect.unit off size inb) w Finset.univ hx hm) : Prog (E' nD τ sig F Λ) _) s
      (fun _ s' => s' = s.set7 (VecWindow.put s.x7 off size w)) :=
  .store_of (take (take (take (take (take (take .rfl)))))) (put_back (put_back (put_back (put_back (put_back (put_back .rfl))))))

theorem Ens.store8 {off size : Fin S2x64x128.rank → ℕ} {inb : ∀ a, off a + size a ≤ S2x64x128.size a} {w : (Rect.unit off size inb).shape.Idx → Elt F .f32}
    {hx : (e.B.arg8.access (Rect.unit off size inb)).Stores Finset.univ} {hm : Finset.univ = Finset.univ ∨ ∀ a, (Rect.unit off size inb).stride a = 1} :
    Ens e (Prog.lift (.store e.B.arg8 (Rect.unit off size inb) w Finset.univ hx hm) : Prog (E' nD τ sig F Λ) _) s
      (fun _ s' => s' = s.set8 (VecWindow.put s.x8 off size w)) :=
  .store_of (take (take (take (take (take (take (take .rfl))))))) (put_back (put_back (put_back (put_back (put_back (put_back (put_back .rfl)))))))

theorem Ens.store9 {off size : Fin S8x128.rank → ℕ} {inb : ∀ a, off a + size a ≤ S8x128.size a} {w : (Rect.unit off size inb).shape.Idx → Elt F .f32}
    {hx : (e.B.arg9.access (Rect.unit off size inb)).Stores Finset.univ} {hm : Finset.univ = Finset.univ ∨ ∀ a, (Rect.unit off size inb).stride a = 1} :
    Ens e (Prog.lift (.store e.B.arg9 (Rect.unit off size inb) w Finset.univ hx hm) : Prog (E' nD τ sig F Λ) _) s
      (fun _ s' => s' = s.set9 (VecWindow.put s.x9 off size w)) :=
  .store_of (take (take (take (take (take (take (take (take .rfl)))))))) (put_back (put_back (put_back (put_back (put_back (put_back (put_back (put_back .rfl))))))))

end Cert.Swiglu

end
-- ==== Proof.Steps.lean ====
/-
  What each piece of the kernel's text does to the nine buffers.
-/
module

public import proofs.«01_k».proof.Proof.Mem
public import proofs.«01_k».proof.Proof.Spec

@[expose] public section

noncomputable section

namespace Cert.Swiglu

open Idealize.ShloMosaic Idealize.ShloMosaic.ValueIdx Idealize.SL.Sem

variable {nD : Nat} {τ : Topo} {sig : RefSig} {Λ : Labels} {F : FTy → Type} [FloatOps F]
variable {e : Env nD τ sig Λ F} {s : St F} {B : Blk F}

/-- A strip's payload at a coordinate of its window. -/
theorem strip_payload (v : FVec F S16x128 .f32) (j : S1x1x1x16x128.Idx) (z : S16x128.Idx) (h0 : (z 0).val = (j 3).val) (h1 : (z 1).val = (j 4).val) :
    shapeCast S1x1x1x16x128 v (by decide) j = v z := by
  refine shapeCast_apply v _ j z ?_
  rw [Shape.rowMajor_val_two, Shape.rowMajor_val_five]
  have := (j 0).isLt; have := (j 1).isLt; have := (j 2).isLt
  simp at *
  omega

/-- Eight rows' payload at a coordinate of its window. -/
theorem rows_payload (v : FVec F S8x128 .f32) (j : S1x8x128.Idx) (z : S8x128.Idx) (h0 : (z 0).val = (j 1).val) (h1 : (z 1).val = (j 2).val) :
    shapeCast S1x8x128 v (by decide) j = v z := by
  refine shapeCast_apply v _ j z ?_
  rw [Shape.rowMajor_val_two, Shape.rowMajor_val_three]
  have := (j 0).isLt
  simp at *
  omega

theorem rows_loaded (v : FVec F S1x8x128 .f32) (z : S8x128.Idx) : shapeCast S8x128 v (by decide) z = v (ix3 0 (z 0) (z 1)) := by
  refine shapeCast_apply v _ z _ ?_
  rw [Shape.rowMajor_val_two, Shape.rowMajor_val_three]
  show ((ix3 (0 : Fin 1) (z 0) (z 1) 0).val * 8 + (z 0).val) * 128 + (z 1).val = (z 0).val * 128 + (z 1).val
  have : (ix3 (0 : Fin 1) (z 0) (z 1) 0).val = 0 := rfl
  omega

theorem putStrip_ens {c : BitVec 32} {hc : c.toNat < 8} {h b r : Nat} {hh : h < 2} {hb : b < 8} {hr : r < 8} {v : FVec F S16x128 .f32} :
    Ens e (putStrip e.B.arg6 c hc h b r hh hb hr v) s (fun _ s' => ∃ A, s' = s.set6 A ∧ ∀ y,
      (((y 0).val = c.toNat ∧ (y 1).val = h ∧ (y 2).val = b ∧ 16 * r ≤ (y 3).val ∧ (y 3).val < 16 * r + 16) →
        ∀ z : S16x128.Idx, 16 * r + (z 0).val = (y 3).val → (z 1).val = (y 4).val → A y = v z)
      ∧ (¬ ((y 0).val = c.toNat ∧ (y 1).val = h ∧ (y 2).val = b ∧ 16 * r ≤ (y 3).val ∧ (y 3).val < 16 * r + 16) → A y = s.x6 y)) := by
  unfold putStrip
  refine Ens.bind Ens.load6 fun _ s' ⟨_, hs⟩ => ?_
  subst hs
  refine Ens.store6.mono fun _ s' hs => ⟨_, hs, fun y => ⟨fun hy z h0 h1 => ?_, fun hy => ?_⟩⟩
  · unfold VecWindow.put
    rw [dif_pos]
    · refine strip_payload v _ z ?_ ?_
      · show (z 0).val = (y 3).val - 16 * r; omega
      · show (z 1).val = (y 4).val - 0; omega
    · obtain ⟨y0, y1, y2, y3, y4⟩ := hy
      intro a
      match a with
      | ⟨0, _⟩ => show c.toNat ≤ (y 0).val ∧ (y 0).val < c.toNat + 1; omega
      | ⟨1, _⟩ => show h ≤ (y 1).val ∧ (y 1).val < h + 1; omega
      | ⟨2, _⟩ => show b ≤ (y 2).val ∧ (y 2).val < b + 1; omega
      | ⟨3, _⟩ => show 16 * r ≤ (y 3).val ∧ (y 3).val < 16 * r + 16; omega
      | ⟨4, _⟩ => show 0 ≤ (y 4).val ∧ (y 4).val < 0 + 128; have := (y 4).isLt; exact ⟨Nat.zero_le _, by rw [Nat.zero_add]; exact this⟩
  · unfold VecWindow.put
    rw [dif_neg]
    intro hall
    refine hy ?_
    have a0 : c.toNat ≤ (y 0).val ∧ (y 0).val < c.toNat + 1 := hall 0
    have a1 : h ≤ (y 1).val ∧ (y 1).val < h + 1 := hall 1
    have a2 : b ≤ (y 2).val ∧ (y 2).val < b + 1 := hall 2
    have a3 : 16 * r ≤ (y 3).val ∧ (y 3).val < 16 * r + 16 := hall 3
    omega

/-- The buffers hold the row block `B` of the arguments. -/
def Holds (s : St F) (B : Blk F) : Prop :=
  (∀ y, s.x1 y = B.x (y 0).val (y 1).val) ∧ (∀ y, s.x2 y = B.d (y 0).val (y 1).val)

theorem fold2_apply (v : FVec F S16x128 .f32) (z : S8x128.Idx) (z0 z8 : S16x128.Idx) (h0 : (z0 0).val = (z 0).val) (h1 : (z0 1).val = (z 1).val)
    (h8 : (z8 0).val = 8 + (z 0).val) (h9 : (z8 1).val = (z 1).val) : fold2 v z = mx2 (v z0) (v z8) := by
  have e0 : extractStridedSlice S8x128 ![0, 0] (absf v) (by decide) z = absf v z0 := by
    unfold extractStridedSlice
    refine congrArg (absf v) (funext fun a => Fin.ext ?_)
    match a with
    | ⟨0, _⟩ => show 0 + (z 0).val = _; rw [Nat.zero_add]; exact h0.symm
    | ⟨1, _⟩ => show 0 + (z 1).val = _; rw [Nat.zero_add]; exact h1.symm
  have e8 : extractStridedSlice S8x128 ![8, 0] (absf v) (by decide) z = absf v z8 := by
    unfold extractStridedSlice
    refine congrArg (absf v) (funext fun a => Fin.ext ?_)
    match a with
    | ⟨0, _⟩ => show 8 + (z 0).val = _; exact h8.symm
    | ⟨1, _⟩ => show 0 + (z 1).val = _; rw [Nat.zero_add]; exact h9.symm
  unfold fold2 mx2
  show FloatOps.maximumf _ _ = FloatOps.maximumf _ _
  rw [e0, e8]; rfl

theorem strip_ens {c : BitVec 32} {hc : c.toNat < 8} {b r : Nat} {hb : b < 8} {hr : r < 8} (hB : Holds s B) :
    Ens e (strip e.B.arg1 e.B.arg2 e.B.arg6 c hc b r hb hr) s (fun a s' => ∃ A, s' = s.set6 A ∧
      (∀ y, ((y 0).val = c.toNat ∧ (y 2).val = b ∧ 16 * r ≤ (y 3).val ∧ (y 3).val < 16 * r + 16) → A y = DX B (y 1).val c.toNat b (y 3).val (y 4).val)
      ∧ (∀ y, ¬ ((y 0).val = c.toNat ∧ (y 2).val = b ∧ 16 * r ≤ (y 3).val ∧ (y 3).val < 16 * r + 16) → A y = s.x6 y)
      ∧ (∀ z, a.1 z = mx2 (DX B 0 c.toNat b (16 * r + (z 0).val) (z 1).val) (DX B 0 c.toNat b (16 * r + (8 + (z 0).val)) (z 1).val))
      ∧ (∀ z, a.2 z = mx2 (DX B 1 c.toNat b (16 * r + (z 0).val) (z 1).val) (DX B 1 c.toNat b (16 * r + (8 + (z 0).val)) (z 1).val))) := by
  unfold strip
  refine Ens.bind Ens.load1 fun g s' ⟨hg, hs⟩ => ?_
  subst hs
  refine Ens.bind Ens.load1 fun u s' ⟨hu, hs⟩ => ?_
  subst hs
  refine Ens.bind Ens.load2 fun d s' ⟨hd, hs⟩ => ?_
  subst hs
  have hg' : ∀ z : S16x128.Idx, shapeCast S16x128 g (by decide) z = B.x (16 * r + (z 0).val) (1024 * c.toNat + 128 * b + (z 1).val) := by
    intro z
    rw [shapeCast_apply g _ z z rfl, hg]
    refine (hB.1 _).trans ?_
    have e1 := colB_toNat hc hb
    show B.x (16 * r + 1 * (z 0).val) ((Scalar.indexCast (colB c b)).toNat + 1 * (z 1).val) = _
    rw [e1, Nat.one_mul, Nat.one_mul]
  have hu' : ∀ z : S16x128.Idx, shapeCast S16x128 u (by decide) z = B.x (16 * r + (z 0).val) (8192 + (1024 * c.toNat + 128 * b + (z 1).val)) := by
    intro z
    rw [shapeCast_apply u _ z z rfl, hu]
    refine (hB.1 _).trans ?_
    have e1 := colB'_toNat hc hb
    show B.x (16 * r + 1 * (z 0).val) ((Scalar.indexCast (Scalar.addi 8192#32 (colB c b))).toNat + 1 * (z 1).val) = _
    rw [e1, Nat.one_mul, Nat.one_mul, Nat.add_assoc 8192]
  have hd' : ∀ z : S16x128.Idx, shapeCast S16x128 d (by decide) z = B.d (16 * r + (z 0).val) (1024 * c.toNat + 128 * b + (z 1).val) := by
    intro z
    rw [shapeCast_apply d _ z z rfl, hd]
    refine (hB.2 _).trans ?_
    have e1 := colB_toNat hc hb
    show B.d (16 * r + 1 * (z 0).val) ((Scalar.indexCast (colB c b)).toNat + 1 * (z 1).val) = _
    rw [e1, Nat.one_mul, Nat.one_mul]
  have hG : ∀ z : S16x128.Idx, gradG (shapeCast S16x128 g (by decide)) (shapeCast S16x128 u (by decide)) (shapeCast S16x128 d (by decide)) z
      = DX B 0 c.toNat b (16 * r + (z 0).val) (z 1).val := by
    intro z
    unfold DX
    rw [if_pos rfl, ← hg', ← hu', ← hd']
    rfl
  have hU : ∀ z : S16x128.Idx, gradU (shapeCast S16x128 g (by decide)) (shapeCast S16x128 d (by decide)) z
      = DX B 1 c.toNat b (16 * r + (z 0).val) (z 1).val := by
    intro z
    unfold DX
    rw [if_neg (by decide), ← hg', ← hd']
    rfl
  refine Ens.bind putStrip_ens fun _ s1 ⟨A1, hs1, hA1⟩ => ?_
  refine Ens.bind putStrip_ens fun _ s2 ⟨A2, hs2, hA2⟩ => ?_
  refine Ens.ret ⟨A2, by rw [hs2, hs1]; rfl, ?_, ?_, ?_, ?_⟩
  · rintro y ⟨y0, y2, y3, y3'⟩
    have hz : ∃ z : S16x128.Idx, 16 * r + (z 0).val = (y 3).val ∧ (z 1).val = (y 4).val :=
      ⟨ix2 ⟨(y 3).val - 16 * r, by omega⟩ (y 4), by show 16 * r + ((y 3).val - 16 * r) = _; omega, rfl⟩
    obtain ⟨z, hz0, hz1⟩ := hz
    have y1 : (y 1).val < 2 := (y 1).isLt
    by_cases h1 : (y 1).val = 1
    · rw [(hA2 y).1 ⟨y0, h1, y2, y3, y3'⟩ z hz0 hz1, hU, hz0, hz1, h1]
    · have h0 : (y 1).val = 0 := by omega
      rw [(hA2 y).2 (fun h => h1 h.2.1), hs1]
      show A1 y = _
      rw [(hA1 y).1 ⟨y0, h0, y2, y3, y3'⟩ z hz0 hz1, hG, hz0, hz1, h0]
  · intro y hy
    rw [(hA2 y).2 (fun h => hy ⟨h.1, h.2.2⟩), hs1]
    exact (hA1 y).2 (fun h => hy ⟨h.1, h.2.2⟩)
  · intro z
    have z0 : (z 0).val < 8 := (z 0).isLt
    refine (fold2_apply _ z (ix2 ⟨(z 0).val, by omega⟩ (z 1)) (ix2 ⟨8 + (z 0).val, by omega⟩ (z 1)) rfl rfl rfl rfl).trans ?_
    rw [hG, hG]
  · intro z
    have z0 : (z 0).val < 8 := (z 0).isLt
    refine (fold2_apply _ z (ix2 ⟨(z 0).val, by omega⟩ (z 1)) (ix2 ⟨8 + (z 0).val, by omega⟩ (z 1)) rfl rfl rfl rfl).trans ?_
    rw [hU, hU]

theorem strips_ens {c : BitVec 32} {hc : c.toNat < 8} {b : Nat} {hb : b < 8} (hB : Holds s B) : ∀ (n : Nat) (hn : n < 8),
    Ens e (strips e.B.arg1 e.B.arg2 e.B.arg6 c hc b hb n hn) s (fun a s' => ∃ A, s' = s.set6 A ∧
      (∀ y, ((y 0).val = c.toNat ∧ (y 2).val = b ∧ (y 3).val < 16 * (n + 1)) → A y = DX B (y 1).val c.toNat b (y 3).val (y 4).val)
      ∧ (∀ y, ¬ ((y 0).val = c.toNat ∧ (y 2).val = b ∧ (y 3).val < 16 * (n + 1)) → A y = s.x6 y)
      ∧ (∀ z, a.1 z = pmRec B 0 c.toNat b (z 0).val (z 1).val n)
      ∧ (∀ z, a.2 z = pmRec B 1 c.toNat b (z 0).val (z 1).val n))
  | 0, hn => by
    unfold strips
    refine (strip_ens hB).mono ?_
    rintro a s' ⟨A, hs, h1, h2, h3, h4⟩
    refine ⟨A, hs, fun y hy => h1 y (by omega), fun y hy => h2 y (by omega), fun z => ?_, fun z => ?_⟩
    · rw [h3, Nat.mul_zero, Nat.zero_add, Nat.zero_add]; rfl
    · rw [h4, Nat.mul_zero, Nat.zero_add, Nat.zero_add]; rfl
  | n + 1, hn => by
    unfold strips
    refine Ens.bind (strips_ens hB n (Nat.lt_of_succ_lt hn)) ?_
    rintro m s' ⟨A, hs, h1, h2, h3, h4⟩
    subst hs
    refine Ens.bind (strip_ens (B := B) hB) ?_
    rintro f s' ⟨A', hs, k1, k2, k3, k4⟩
    refine Ens.ret ⟨A', hs, fun y hy => ?_, fun y hy => ?_, fun z => ?_, fun z => ?_⟩
    · by_cases h : (y 3).val < 16 * (n + 1)
      · rw [k2 y (by omega)]; exact h1 y (by omega)
      · exact k1 y (by omega)
    · rw [k2 y (by omega)]; exact h2 y (by omega)
    · show FloatOps.maximumf (m.1 z) (f.1 z) = _
      rw [h3, k3]; rfl
    · show FloatOps.maximumf (m.2 z) (f.2 z) = _
      rw [h4, k4]; rfl

theorem putMax_ens {h b : Nat} {hh : h < 2} {hb : b < 8} {v : FVec F S8x128 .f32} :
    Ens e (putMax e.B.arg7 h b hh hb v) s (fun _ s' => ∃ A, s' = s.set7 A ∧ ∀ y,
      (((y 0).val = h ∧ (y 1).val / 8 = b) → ∀ z : S8x128.Idx, (z 0).val = (y 1).val % 8 → (z 1).val = (y 2).val → A y = v z)
      ∧ (¬ ((y 0).val = h ∧ (y 1).val / 8 = b) → A y = s.x7 y)) := by
  unfold putMax
  refine Ens.bind Ens.load7 fun _ s' ⟨_, hs⟩ => ?_
  subst hs
  refine Ens.store7.mono fun _ s' hs => ⟨_, hs, fun y => ⟨fun hy z h0 h1 => ?_, fun hy => ?_⟩⟩
  · unfold VecWindow.put
    rw [dif_pos]
    · refine rows_payload v _ z ?_ ?_
      · show (z 0).val = (y 1).val - 8 * b; omega
      · show (z 1).val = (y 2).val - 0; omega
    · obtain ⟨y0, y1⟩ := hy
      intro a
      match a with
      | ⟨0, _⟩ => show h ≤ (y 0).val ∧ (y 0).val < h + 1; omega
      | ⟨1, _⟩ => show 8 * b ≤ (y 1).val ∧ (y 1).val < 8 * b + 8; omega
      | ⟨2, _⟩ => show 0 ≤ (y 2).val ∧ (y 2).val < 0 + 128; have := (y 2).isLt; exact ⟨Nat.zero_le _, by rw [Nat.zero_add]; exact this⟩
  · unfold VecWindow.put
    rw [dif_neg]
    intro hall
    refine hy ?_
    have a0 : h ≤ (y 0).val ∧ (y 0).val < h + 1 := hall 0
    have a1 : 8 * b ≤ (y 1).val ∧ (y 1).val < 8 * b + 8 := hall 1
    omega

theorem blockOf_ens {c : BitVec 32} {hc : c.toNat < 8} {b : Nat} {hb : b < 8} (hB : Holds s B) :
    Ens e (blockOf e.B.arg1 e.B.arg2 e.B.arg6 e.B.arg7 c hc b hb) s (fun _ s' => ∃ A C, s' = (s.set6 A).set7 C ∧
      (∀ y, ((y 0).val = c.toNat ∧ (y 2).val = b) → A y = DX B (y 1).val c.toNat b (y 3).val (y 4).val)
      ∧ (∀ y, ¬ ((y 0).val = c.toNat ∧ (y 2).val = b) → A y = s.x6 y)
      ∧ (∀ y, (y 1).val / 8 = b → C y = pmArr B c.toNat y)
      ∧ (∀ y, ¬ (y 1).val / 8 = b → C y = s.x7 y)) := by
  unfold blockOf
  refine Ens.bind (strips_ens hB 7 (by decide)) ?_
  rintro m s' ⟨A, hs, h1, h2, h3, h4⟩
  subst hs
  refine Ens.bind putMax_ens ?_
  rintro _ s' ⟨C1, hs, hC1⟩
  subst hs
  refine putMax_ens.mono ?_
  rintro _ s' ⟨C2, hs, hC2⟩
  refine ⟨A, C2, hs, fun y hy => ?_, fun y hy => ?_, fun y hy => ?_, fun y hy => ?_⟩
  · have : (y 3).val < 128 := (y 3).isLt
    exact h1 y (by omega)
  · exact h2 y (fun h => hy ⟨h.1, h.2.1⟩)
  · have y0 : (y 0).val < 2 := (y 0).isLt
    have y1 : (y 1).val < 64 := (y 1).isLt
    have hy1 : (y 0).val = 1 ∨ (y 0).val = 0 := by omega
    unfold pmArr
    rcases hy1 with y0' | y0'
    · rw [(hC2 y).1 ⟨y0', hy⟩ (ix2 ⟨(y 1).val % 8, by omega⟩ (y 2)) rfl rfl, h4, y0', hy]
    · rw [(hC2 y).2 (fun h => by omega)]
      show C1 y = _
      rw [(hC1 y).1 ⟨y0', hy⟩ (ix2 ⟨(y 1).val % 8, by omega⟩ (y 2)) rfl rfl, h3, y0', hy]
  · rw [(hC2 y).2 (fun h => hy h.2)]
    exact (hC1 y).2 (fun h => hy h.2)

theorem blocks_ens {c : BitVec 32} {hc : c.toNat < 8} (hB : Holds s B) : ∀ (n : Nat) (hn : n ≤ 8),
    Ens e (blocks e.B.arg1 e.B.arg2 e.B.arg6 e.B.arg7 c hc n hn) s (fun _ s' => ∃ A C, s' = (s.set6 A).set7 C ∧
      (∀ y, ((y 0).val = c.toNat ∧ (y 2).val < n) → A y = DX B (y 1).val c.toNat (y 2).val (y 3).val (y 4).val)
      ∧ (∀ y, ¬ ((y 0).val = c.toNat ∧ (y 2).val < n) → A y = s.x6 y)
      ∧ (∀ y, (y 1).val / 8 < n → C y = pmArr B c.toNat y)
      ∧ (∀ y, ¬ (y 1).val / 8 < n → C y = s.x7 y))
  | 0, hn => by
    unfold blocks
    exact Ens.ret ⟨s.x6, s.x7, rfl, fun y hy => absurd hy.2 (Nat.not_lt_zero _), fun y hy => rfl, fun y hy => absurd hy (Nat.not_lt_zero _), fun y hy => rfl⟩
  | n + 1, hn => by
    unfold blocks
    refine Ens.bind (blocks_ens hB n (Nat.le_of_succ_le hn)) ?_
    rintro _ s' ⟨A, C, hs, h1, h2, h3, h4⟩
    subst hs
    refine Ens.mono (s := (s.set6 A).set7 C) (blockOf_ens (B := B) hB) ?_
    rintro _ s' ⟨A', C', hs, k1, k2, k3, k4⟩
    refine ⟨A', C', hs, fun y hy => ?_, fun y hy => ?_, fun y hy => ?_, fun y hy => ?_⟩
    · by_cases h : (y 2).val = n
      · rw [k1 y ⟨hy.1, h⟩, h]
      · rw [k2 y (fun h' => h h'.2)]; exact h1 y (by omega)
    · rw [k2 y (by omega)]; exact h2 y (by omega)
    · by_cases h : (y 1).val / 8 = n
      · exact k3 y h
      · rw [k4 y h]; exact h3 y (by omega)
    · rw [k4 y (by omega)]; exact h4 y (by omega)

theorem maxRows_ens {h k : Nat} {hh : h < 2} (hP : s.x7 = pmArr B k) : ∀ (n : Nat) (hn : n < 8),
    Ens e (maxRows e.B.arg7 h hh n hn) s (fun a s' => (∀ z, a z = mxRec B h k (z 0).val (z 1).val n) ∧ s' = s)
  | 0, hn => by
    unfold maxRows
    refine Ens.bind Ens.load7 fun v s' ⟨hv, hs⟩ => ?_
    subst hs
    refine Ens.ret ⟨fun z => ?_, rfl⟩
    have z0 : (z 0).val < 8 := (z 0).isLt
    have z1 : (z 1).val < 128 := (z 1).isLt
    rw [rows_loaded v z, hv, hP]
    show pmRec B (h + 1 * 0) k ((0 + 8 * (z 0).val) / 8) ((0 + 8 * (z 0).val) % 8) (0 + 1 * (z 1).val) 7 = _
    rw [show h + 1 * 0 = h from rfl, show (0 + 8 * (z 0).val) / 8 = (z 0).val by omega, show (0 + 8 * (z 0).val) % 8 = 0 by omega, show 0 + 1 * (z 1).val = (z 1).val by omega]
    rfl
  | n + 1, hn => by
    unfold maxRows
    refine Ens.bind (maxRows_ens hP n (Nat.lt_of_succ_lt hn)) ?_
    rintro m s' ⟨hm, hs⟩
    subst hs
    refine Ens.bind Ens.load7 fun v s' ⟨hv, hs⟩ => ?_
    subst hs
    refine Ens.ret ⟨fun z => ?_, rfl⟩
    have z0 : (z 0).val < 8 := (z 0).isLt
    have z1 : (z 1).val < 128 := (z 1).isLt
    show FloatOps.maximumf (m z) (shapeCast S8x128 v _ z) = _
    rw [rows_loaded v z, hv, hP, hm]
    show FloatOps.maximumf _ (pmRec B (h + 1 * 0) k ((n + 1 + 8 * (z 0).val) / 8) ((n + 1 + 8 * (z 0).val) % 8) (0 + 1 * (z 1).val) 7) = _
    rw [show h + 1 * 0 = h from rfl, show (n + 1 + 8 * (z 0).val) / 8 = (z 0).val by omega, show (n + 1 + 8 * (z 0).val) % 8 = n + 1 by omega, show 0 + 1 * (z 1).val = (z 1).val by omega]
    rfl

/-- The scales of one half of chunk `k`, from the partial maxima of that chunk. -/
theorem half_ens {ch : BitVec 32} {hch : ch.toNat < 8} {h : Nat} {hh : h < 2} (hP : s.x7 = pmArr B ch.toNat) :
    Ens e (half e.B.arg7 e.B.arg8 ch hch h hh) s (fun a s' => a = placeOf ch h (scaleOf (eV B h ch.toNat)) ∧ ∃ A, s' = s.set8 A ∧ ∀ y,
      (((y 0).val = h ∧ (y 1).val / 8 = ch.toNat) → A y = invAt B h ch.toNat ((y 1).val % 8) (y 2).val)
      ∧ (¬ ((y 0).val = h ∧ (y 1).val / 8 = ch.toNat) → A y = s.x8 y)) := by
  unfold half
  refine Ens.bind (maxRows_ens hP 7 (by decide)) ?_
  rintro m s' ⟨hm, hs⟩
  subst hs
  have hm' : m = mxV B h ch.toNat := funext hm
  subst hm'
  refine Ens.bind Ens.load8 fun _ s' ⟨_, hs⟩ => ?_
  subst hs
  refine Ens.bind Ens.store8 fun _ s' hs => ?_
  refine Ens.ret ⟨rfl, _, hs, fun y => ⟨fun hy => ?_, fun hy => ?_⟩⟩
  · unfold VecWindow.put
    have e0 := rowS_toNat hch
    have y1 : (y 1).val < 64 := (y 1).isLt
    have y2 : (y 2).val < 128 := (y 2).isLt
    rw [dif_pos]
    · refine rows_payload _ _ (ix2 (Fin.ofNat 8 ((y 1).val % 8)) (Fin.ofNat 128 (y 2).val)) ?_ ?_
      · show (y 1).val % 8 % 8 = (y 1).val - (Scalar.indexCast (rowS ch)).toNat; rw [e0]; omega
      · show (y 2).val % 128 = (y 2).val - 0; omega
    · obtain ⟨y0, y1⟩ := hy
      intro a
      match a with
      | ⟨0, _⟩ => show h ≤ (y 0).val ∧ (y 0).val < h + 1; omega
      | ⟨1, _⟩ => show (Scalar.indexCast (rowS ch)).toNat ≤ (y 1).val ∧ (y 1).val < (Scalar.indexCast (rowS ch)).toNat + 8; omega
      | ⟨2, _⟩ => show 0 ≤ (y 2).val ∧ (y 2).val < 0 + 128; omega
  · unfold VecWindow.put
    rw [dif_neg]
    intro hall
    refine hy ?_
    have e0 := rowS_toNat hch
    have a0 : h ≤ (y 0).val ∧ (y 0).val < h + 1 := hall 0
    have a1 : (Scalar.indexCast (rowS ch)).toNat ≤ (y 1).val ∧ (y 1).val < (Scalar.indexCast (rowS ch)).toNat + 8 := hall 1
    omega

/-- The row of scales after chunk `ch`, over what the accumulator held. -/
def accStep (B : Blk F) (ch : BitVec 32) (a : FVec F S8x128 .f32) : FVec F S8x128 .f32 :=
  addf (addf (Scalar.select (Scalar.cmpi .eq ch 0#32) (broadcast S8x128 (Scalar.ofBits .f32 0x00000000#32)) a)
    (placeOf ch 0 (scaleOf (eV B 0 ch.toNat)))) (placeOf ch 1 (scaleOf (eV B 1 ch.toNat)))

/-- A row of lanes summed. -/
def rowSum (a : FVec F S8x128 .f32) : FVec F S1x128 .f32 :=
  shapeCast S1x128 (multiReduction .add [0] S128 a 0x00000000#32 (by decide) (.inl rfl) rfl) (by decide)

theorem put_full9 {X : Vec F S8x128 .f32} {w : Vec F S8x128 .f32} : VecWindow.put X ![0, 0] S8x128.size (shapeCast S8x128 w (by decide)) = w := by
  funext y
  unfold VecWindow.put
  have y0 : (y 0).val < 8 := (y 0).isLt
  have y1 : (y 1).val < 128 := (y 1).isLt
  rw [dif_pos]
  · exact shapeCast_apply w _ _ y (by
      rw [Shape.rowMajor_val_two, Shape.rowMajor_val_two]
      show (y 0).val * 128 + (y 1).val = ((y 0).val - 0) * 128 + ((y 1).val - 0)
      omega)
  · intro a
    match a with
    | ⟨0, _⟩ => show 0 ≤ (y 0).val ∧ (y 0).val < 0 + 8; omega
    | ⟨1, _⟩ => show 0 ≤ (y 1).val ∧ (y 1).val < 0 + 128; omega

theorem scales_ens {row ch : BitVec 32} {hrow : row.toNat < 56} {hch : ch.toNat < 8} (hP : s.x7 = pmArr B ch.toNat) :
    Ens e (scales e.B.arg4 e.B.arg7 e.B.arg8 e.B.arg9 row ch hrow hch) s (fun _ s' => ∃ A C, s' = ((s.set8 A).set9 (accStep B ch s.x9)).set4 C
      ∧ (∀ y, (y 1).val / 8 = ch.toNat → A y = invAt B (y 0).val ch.toNat ((y 1).val % 8) (y 2).val)
      ∧ (∀ y, ¬ (y 1).val / 8 = ch.toNat → A y = s.x8 y)
      ∧ (∀ y, (y 0).val = row.toNat → C y = rowSum (accStep B ch s.x9) (ix2 0 (Fin.ofNat 128 (y 1).val)))
      ∧ (∀ y, ¬ (y 0).val = row.toNat → C y = s.x4 y)) := by
  unfold scales
  refine Ens.bind Ens.load9 fun a s' ⟨ha, hs⟩ => ?_
  subst hs
  have ha' : a = s'.x9 := by
    subst ha
    funext j
    refine congrArg s'.x9 (funext fun x => Fin.ext ?_)
    match x with
    | ⟨0, _⟩ => show 0 + 1 * (j 0).val = _; rw [Nat.zero_add, Nat.one_mul]; rfl
    | ⟨1, _⟩ => show 0 + 1 * (j 1).val = _; rw [Nat.zero_add, Nat.one_mul]; rfl
  subst ha'
  clear ha
  refine Ens.bind (half_ens hP) ?_
  rintro s0 s1 ⟨e0, A0, hs, h0⟩
  subst hs e0
  refine Ens.bind (half_ens (B := B) hP) ?_
  rintro s0 s1 ⟨e0, A1, hs, h1⟩
  subst hs e0
  refine Ens.bind Ens.load9 fun _ s2 ⟨_, hs⟩ => ?_
  subst hs
  refine Ens.bind Ens.store9 fun _ s2 hs => ?_
  subst hs
  refine Ens.bind Ens.load4 fun _ s2 ⟨_, hs⟩ => ?_
  subst hs
  refine Ens.store4.mono fun _ s2 hs => ?_
  refine ⟨A1, VecWindow.put s'.x4 ![(Scalar.indexCast row).toNat, 0] S1x128.size (rowSum (accStep B ch s'.x9)), ?_, fun y hy => ?_, fun y hy => ?_, fun y hy => ?_, fun y hy => ?_⟩
  · rw [hs, put_full9]; rfl
  · have y0 : (y 0).val < 2 := (y 0).isLt
    by_cases y1 : (y 0).val = 1
    · rw [(h1 y).1 ⟨y1, hy⟩, y1]
    · have y0' : (y 0).val = 0 := by omega
      rw [(h1 y).2 (fun h => y1 h.1)]
      show A0 y = _
      rw [(h0 y).1 ⟨y0', hy⟩, y0']
  · rw [(h1 y).2 (fun h => hy h.2)]
    exact (h0 y).2 (fun h => hy h.2)
  · unfold VecWindow.put
    have y1 : (y 1).val < 128 := (y 1).isLt
    rw [dif_pos]
    · refine congrArg (rowSum (accStep B ch s'.x9)) (funext fun a => Fin.ext ?_)
      match a with
      | ⟨0, _⟩ => show (y 0).val - (Scalar.indexCast row).toNat = 0; rw [idx_toNat]; omega
      | ⟨1, _⟩ => show (y 1).val - 0 = (y 1).val % 128; omega
    · intro a
      match a with
      | ⟨0, _⟩ => show (Scalar.indexCast row).toNat ≤ (y 0).val ∧ (y 0).val < (Scalar.indexCast row).toNat + 1; rw [idx_toNat]; omega
      | ⟨1, _⟩ => show 0 ≤ (y 1).val ∧ (y 1).val < 0 + 128; omega
  · unfold VecWindow.put
    rw [dif_neg]
    intro hall
    refine hy ?_
    have a0 : (Scalar.indexCast row).toNat ≤ (y 0).val ∧ (y 0).val < (Scalar.indexCast row).toNat + 1 := hall 0
    rw [idx_toNat] at a0
    omega

/-- The buffers hold chunk `c` of a row block's gradients and its inverse scales. -/
def Ready (s : St F) (B : Blk F) (c : Nat) : Prop :=
  (∀ y, (y 0).val = c → s.x6 y = DX B (y 1).val c (y 2).val (y 3).val (y 4).val)
  ∧ (∀ y, (y 1).val / 8 = c → s.x8 y = invAt B (y 0).val c ((y 1).val % 8) (y 2).val)

theorem qEl_apply (d : FVec F S128x128 .f32) (i : FVec F S1x128 .f32) (z : S128x128.Idx) :
    FloatOps.truncf (φ := .f32) .fp8e4m3 (by decide) (quantOf d i z) = qEl (d z) (i (ix2 0 (z 1))) := by
  have hb : broadcastTo S128x128 i (by decide) z = i (ix2 0 (z 1)) := by
    refine broadcastTo_apply _ _ _ _ ?_
    intro a
    match a with
    | ⟨0, _⟩ => rfl
    | ⟨1, _⟩ => rfl
  unfold qEl quantOf
  show FloatOps.truncf _ _ (FloatOps.minimumf _ (FloatOps.maximumf _ (FloatOps.mulf (d z) (broadcastTo S128x128 i _ z)))) = _
  rw [hb]
  rfl

end Cert.Swiglu

end
-- ==== Proof.Quant.lean ====
/-
  What the quantisation of a chunk does to the buffers.
-/
module

public import proofs.«01_k».proof.Proof.Steps

@[expose] public section

noncomputable section

namespace Cert.Swiglu

open Idealize.ShloMosaic Idealize.ShloMosaic.ValueIdx Idealize.SL.Sem

variable {nD : Nat} {τ : Topo} {sig : RefSig} {Λ : Labels} {F : FTy → Type} [FloatOps F]
variable {e : Env nD τ sig Λ F} {s : St F} {B : Blk F}

theorem block_loaded (v : FVec F S1x1x1x128x128 .f32) (z : S128x128.Idx) : shapeCast S128x128 v (by decide) z = v (ix5 0 0 0 (z 0) (z 1)) := by
  refine shapeCast_apply v _ z _ ?_
  rw [Shape.rowMajor_val_two, Shape.rowMajor_val_five]
  show ((((0 : Nat) * 1 + 0) * 1 + 0) * 128 + (z 0).val) * 128 + (z 1).val = (z 0).val * 128 + (z 1).val
  omega

theorem inv_loaded (v : FVec F S1x1x128 .f32) (z : S1x128.Idx) : shapeCast S1x128 v (by decide) z = v (ix3 0 0 (z 1)) := by
  refine shapeCast_apply v _ z _ ?_
  rw [Shape.rowMajor_val_two, Shape.rowMajor_val_three]
  have : (z 0).val < 1 := (z 0).isLt
  show ((0 : Nat) * 1 + 0) * 128 + (z 1).val = (z 0).val * 128 + (z 1).val
  omega

theorem transposed_apply (v : FVec F S128x128 .f32) (z : S128x128.Idx) : transpose S128x128 [1, 0] v (by decide) z = v (ix2 (z 1) (z 0)) := by
  rw [eq_ix2 z]
  exact transpose_ix2_apply v _ _ _

theorem codeAt_block {h c b r l j : Nat} (hh : h < 2) (hc : c < 8) (hb : b < 8) (hl : l < 128) (hj : j = 8192 * h + 1024 * c + 128 * b + l) :
    codeAt B r j = qEl (DX B h c b r l) (invAt B h c b l) := by
  unfold codeAt
  rw [show j / 8192 = h by omega, show j % 8192 / 1024 = c by omega, show j % 1024 / 128 = b by omega, show j % 128 = l by omega]

theorem quantBlock_ens {c : BitVec 32} {hc : c.toNat < 8} {b h : Nat} {hb : b < 8} {hh : h < 2} (hR : Ready s B c.toNat) :
    Ens e (quantBlock e.B.arg3 e.B.h3 e.B.arg5 e.B.h5 e.B.arg6 e.B.arg8 c hc b h hb hh) s (fun _ s' => ∃ A C, s' = (s.set3 A).set5 C
      ∧ (∀ y, (y 1).val / 128 = 64 * h + 8 * c.toNat + b → A y = codeAt B (y 0).val (y 1).val)
      ∧ (∀ y, ¬ (y 1).val / 128 = 64 * h + 8 * c.toNat + b → A y = s.x3 y)
      ∧ (∀ y, (y 0).val / 128 = 64 * h + 8 * c.toNat + b → C y = codeAt B (y 1).val (y 0).val)
      ∧ (∀ y, ¬ (y 0).val / 128 = 64 * h + 8 * c.toNat + b → C y = s.x5 y)) := by
  unfold quantBlock
  refine Ens.bind Ens.load8 fun i s' ⟨hi, hs⟩ => ?_
  subst hs
  refine Ens.bind Ens.load6 fun d s' ⟨hd, hs⟩ => ?_
  subst hs
  refine Ens.bind Ens.load3 fun _ s' ⟨_, hs⟩ => ?_
  subst hs
  have eQ := colQ_toNat (c := c) (h := h) (b := b) hc hh hb
  have hd' : ∀ z : S128x128.Idx, shapeCast S128x128 d (by decide) z = DX B h c.toNat b (z 0).val (z 1).val := by
    intro z
    rw [block_loaded, hd]
    refine (hR.1 _ ?_).trans ?_
    · show c.toNat + 1 * 0 = _; omega
    · show DX B (h + 1 * 0) c.toNat (b + 1 * 0) (0 + 1 * (z 0).val) (0 + 1 * (z 1).val) = _
      simp only [Nat.mul_zero, Nat.add_zero, Nat.zero_add, Nat.one_mul]
  have hi' : ∀ (hs : S1x1x128.ShapeCasts S1x128) (l : Fin 128), shapeCast S1x128 i hs (ix2 0 l) = invAt B h c.toNat b l.val := by
    intro hs l
    have e0 := rowQ_toNat hc hb
    rw [inv_loaded, hi]
    refine (hR.2 _ ?_).trans ?_
    · show ((Scalar.indexCast (rowQ c b)).toNat + 1 * 0) / 8 = _; omega
    · show invAt B (h + 1 * 0) c.toNat (((Scalar.indexCast (rowQ c b)).toNat + 1 * 0) % 8) (0 + 1 * l.val) = _
      rw [show ((Scalar.indexCast (rowQ c b)).toNat + 1 * 0) % 8 = b by omega]
      simp only [Nat.mul_zero, Nat.add_zero, Nat.zero_add, Nat.one_mul]
  have hq : ∀ z : S128x128.Idx, FloatOps.truncf (φ := .f32) .fp8e4m3 (by decide) (quantOf (shapeCast S128x128 d (by decide)) (shapeCast S1x128 i (by decide)) z)
      = qEl (DX B h c.toNat b (z 0).val (z 1).val) (invAt B h c.toNat b (z 1).val) := by
    intro z
    rw [qEl_apply, hd']
    exact congrArg _ (hi' _ (z 1))
  refine Ens.bind Ens.store3 fun _ s1 hs1 => ?_
  refine Ens.bind Ens.load5 fun _ s2 ⟨_, hs2⟩ => ?_
  refine Ens.store5.mono fun _ s3 hs3 => ?_
  rw [hs2, hs1] at hs3
  refine ⟨_, _, hs3, fun y hy => ?_, fun y hy => ?_, fun y hy => ?_, fun y hy => ?_⟩
  · have y0 : (y 0).val < 128 := (y 0).isLt
    unfold VecWindow.put
    rw [dif_pos]
    · refine (hq _).trans ?_
      show qEl (DX B h c.toNat b ((y 0).val - 0) ((y 1).val - (Scalar.indexCast (colQ c h b)).toNat)) (invAt B h c.toNat b ((y 1).val - (Scalar.indexCast (colQ c h b)).toNat)) = _
      rw [eQ]
      exact (codeAt_block hh hc hb (by omega) (by omega)).symm
    · intro a
      match a with
      | ⟨0, _⟩ => show 0 ≤ (y 0).val ∧ (y 0).val < 0 + 128; omega
      | ⟨1, _⟩ => show (Scalar.indexCast (colQ c h b)).toNat ≤ (y 1).val ∧ (y 1).val < (Scalar.indexCast (colQ c h b)).toNat + 128; rw [eQ]; omega
  · unfold VecWindow.put
    rw [dif_neg]
    intro hall
    refine hy ?_
    have a0 : (Scalar.indexCast (colQ c h b)).toNat ≤ (y 1).val ∧ (y 1).val < (Scalar.indexCast (colQ c h b)).toNat + 128 := hall 1
    rw [eQ] at a0
    omega
  · have y1 : (y 1).val < 128 := (y 1).isLt
    unfold VecWindow.put
    rw [dif_pos]
    · unfold truncf
      rw [transposed_apply]
      refine (hq _).trans ?_
      show qEl (DX B h c.toNat b ((y 1).val - 0) ((y 0).val - (Scalar.indexCast (colQ c h b)).toNat)) (invAt B h c.toNat b ((y 0).val - (Scalar.indexCast (colQ c h b)).toNat)) = _
      rw [eQ]
      exact (codeAt_block hh hc hb (by omega) (by omega)).symm
    · intro a
      match a with
      | ⟨0, _⟩ => show (Scalar.indexCast (colQ c h b)).toNat ≤ (y 0).val ∧ (y 0).val < (Scalar.indexCast (colQ c h b)).toNat + 128; rw [eQ]; omega
      | ⟨1, _⟩ => show 0 ≤ (y 1).val ∧ (y 1).val < 0 + 128; omega
  · unfold VecWindow.put
    rw [dif_neg]
    · rfl
    intro hall
    refine hy ?_
    have a0 : (Scalar.indexCast (colQ c h b)).toNat ≤ (y 0).val ∧ (y 0).val < (Scalar.indexCast (colQ c h b)).toNat + 128 := hall 0
    rw [eQ] at a0
    omega

theorem quants_ens {c : BitVec 32} {hc : c.toNat < 8} (hR : Ready s B c.toNat) : ∀ (n : Nat) (hn : n ≤ 8),
    Ens e (quants e.B.arg3 e.B.h3 e.B.arg5 e.B.h5 e.B.arg6 e.B.arg8 c hc n hn) s (fun _ s' => ∃ A C, s' = (s.set3 A).set5 C
      ∧ (∀ y, ((y 1).val % 8192 / 1024 = c.toNat ∧ (y 1).val % 1024 / 128 < n) → A y = codeAt B (y 0).val (y 1).val)
      ∧ (∀ y, ¬ ((y 1).val % 8192 / 1024 = c.toNat ∧ (y 1).val % 1024 / 128 < n) → A y = s.x3 y)
      ∧ (∀ y, ((y 0).val % 8192 / 1024 = c.toNat ∧ (y 0).val % 1024 / 128 < n) → C y = codeAt B (y 1).val (y 0).val)
      ∧ (∀ y, ¬ ((y 0).val % 8192 / 1024 = c.toNat ∧ (y 0).val % 1024 / 128 < n) → C y = s.x5 y))
  | 0, hn => by
    unfold quants
    exact Ens.ret ⟨s.x3, s.x5, rfl, fun y hy => absurd hy.2 (Nat.not_lt_zero _), fun y hy => rfl, fun y hy => absurd hy.2 (Nat.not_lt_zero _), fun y hy => rfl⟩
  | n + 1, hn => by
    unfold quants
    refine Ens.bind (quants_ens hR n (Nat.le_of_succ_le hn)) ?_
    rintro _ s1 ⟨A, C, hs, h1, h2, h3, h4⟩
    subst hs
    refine Ens.bind (quantBlock_ens (s := (s.set3 A).set5 C) (B := B) hR) ?_
    rintro _ s1 ⟨A1, C1, hs, k1, k2, k3, k4⟩
    subst hs
    refine Ens.mono (quantBlock_ens (s := (((s.set3 A).set5 C).set3 A1).set5 C1) (B := B) hR) ?_
    rintro _ s1 ⟨A2, C2, hs, m1, m2, m3, m4⟩
    refine ⟨A2, C2, hs, fun y hy => ?_, fun y hy => ?_, fun y hy => ?_, fun y hy => ?_⟩
    · by_cases e2 : (y 1).val / 128 = 64 * 1 + 8 * c.toNat + n
      · exact m1 y e2
      · rw [m2 y e2]
        by_cases e1 : (y 1).val / 128 = 64 * 0 + 8 * c.toNat + n
        · exact k1 y e1
        · refine (k2 y e1).trans (h1 y ?_)
          have : (y 1).val < 16384 := (y 1).isLt
          omega
    · rw [m2 y (by omega)]
      refine (k2 y (by omega)).trans (h2 y (by omega))
    · by_cases e2 : (y 0).val / 128 = 64 * 1 + 8 * c.toNat + n
      · exact m3 y e2
      · rw [m4 y e2]
        by_cases e1 : (y 0).val / 128 = 64 * 0 + 8 * c.toNat + n
        · exact k3 y e1
        · refine (k4 y e1).trans (h3 y ?_)
          have : (y 0).val < 16384 := (y 0).isLt
          omega
    · rw [m4 y (by omega)]
      refine (k4 y (by omega)).trans (h4 y (by omega))

end Cert.Swiglu

end
-- ==== Proof.Trips.lean ====
/-
  The trips of the kernel's loops, and the three kinds of grid point: what the scratch buffers hold before each trip,
  and what a point leaves in the results' windows.
-/
module

public import proofs.«01_k».proof.Proof.Quant

@[expose] public section

noncomputable section

namespace Cert.Swiglu

open Idealize.ShloMosaic Idealize.ShloMosaic.ValueIdx Idealize.ShloMosaic.TcCoe Idealize.ShloMosaic.Rounds
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]
variable {e : Env nD τ sig Λ F} {s : St F} {B : Blk F}

/-! ## The scales, whatever the partial maxima hold -/

theorem maxRows_any {h : Nat} {hh : h < 2} : ∀ (n : Nat) (hn : n < 8),
    Ens e (maxRows e.B.arg7 h hh n hn) s (fun _ s' => s' = s)
  | 0, hn => by
    unfold maxRows
    refine Ens.bind Ens.load7 fun v s' ⟨hv, hs⟩ => ?_
    exact Ens.ret hs
  | n + 1, hn => by
    unfold maxRows
    refine Ens.bind (maxRows_any n (Nat.lt_of_succ_lt hn)) fun m s1 hs => ?_
    subst hs
    refine Ens.bind Ens.load7 fun v s' ⟨hv, hs⟩ => ?_
    exact Ens.ret hs

theorem half_any {ch : BitVec 32} {hch : ch.toNat < 8} {h : Nat} {hh : h < 2} :
    Ens e (half e.B.arg7 e.B.arg8 ch hch h hh) s (fun _ s' => ∃ A, s' = s.set8 A) := by
  unfold half
  refine Ens.bind (maxRows_any 7 (by decide)) fun m s1 hs => ?_
  subst hs
  refine Ens.bind Ens.load8 fun _ s' ⟨_, hs⟩ => ?_
  subst hs
  refine Ens.bind Ens.store8 fun _ s2 hs => ?_
  exact Ens.ret ⟨_, hs⟩

theorem scales_any {row ch : BitVec 32} {hrow : row.toNat < 56} {hch : ch.toNat < 8} :
    Ens e (scales e.B.arg4 e.B.arg7 e.B.arg8 e.B.arg9 row ch hrow hch) s (fun _ s' => ∃ A N C, s' = ((s.set8 A).set9 N).set4 C) := by
  unfold scales
  refine Ens.bind Ens.load9 fun a s' ⟨_, hs⟩ => ?_
  subst hs
  refine Ens.bind half_any ?_
  rintro _ s1 ⟨A0, hs⟩
  subst hs
  refine Ens.bind half_any ?_
  rintro _ s1 ⟨A1, hs⟩
  subst hs
  refine Ens.bind Ens.load9 fun _ s2 ⟨_, hs⟩ => ?_
  subst hs
  refine Ens.bind Ens.store9 fun _ s2 hs => ?_
  subst hs
  refine Ens.bind Ens.load4 fun _ s2 ⟨_, hs⟩ => ?_
  subst hs
  refine Ens.store4.mono fun _ s2 hs => ?_
  exact ⟨A1, _, _, hs⟩

/-! ## One trip -/

/-- What the scratch buffers and the scales' window hold before trip `c` of point `t`: the first chunks are of the row
    block `t`, the others still of the row block before it. -/
structure Inv (Bk : Nat → Blk F) (t c : Nat) (s : St F) : Prop where
  new6 : ∀ y, (y 0).val < c → s.x6 y = DX (Bk t) (y 1).val (y 0).val (y 2).val (y 3).val (y 4).val
  old6 : 1 ≤ t → ∀ y, c ≤ (y 0).val → s.x6 y = DX (Bk (t - 1)) (y 1).val (y 0).val (y 2).val (y 3).val (y 4).val
  new7 : 1 ≤ c → s.x7 = pmArr (Bk t) (c - 1)
  old7 : 1 ≤ t → c = 0 → s.x7 = pmArr (Bk (t - 1)) 7
  new8 : ∀ y, (y 1).val / 8 + 1 < c → s.x8 y = invAt (Bk t) (y 0).val ((y 1).val / 8) ((y 1).val % 8) (y 2).val
  old8 : 1 ≤ t → ∀ y, c ≤ (y 1).val / 8 + 1 → ((y 1).val / 8 < 7 ∨ 1 ≤ c) → s.x8 y = invAt (Bk (t - 1)) (y 0).val ((y 1).val / 8) ((y 1).val % 8) (y 2).val
  new9 : 2 ≤ c → s.x9 = accV (Bk t) (c - 2)
  old9 : 1 ≤ t → c = 0 → s.x9 = accV (Bk (t - 1)) 6
  rows : ∀ y, ((y 0).val + 1 < t ∨ (y 0).val + 1 = t ∧ 1 ≤ c) → s.x4 y = rowV (Bk (y 0).val) (ix2 0 (Fin.ofNat 128 (y 1).val))

/-- After a point's last trip, all is of its row block: as the next point expects it. -/
theorem Inv.next {Bk : Nat → Blk F} {t : Nat} (h : Inv Bk t 8 s) : Inv Bk (t + 1) 0 s where
  new6 y hy := absurd hy (Nat.not_lt_zero _)
  old6 _ y _ := h.new6 y (y 0).isLt
  new7 hc := absurd hc (by decide)
  old7 _ _ := h.new7 (by decide)
  new8 y hy := absurd hy (Nat.not_lt_zero _)
  old8 _ y _ hy := h.new8 y (by omega)
  new9 hc := absurd hc (by decide)
  old9 _ _ := h.new9 (by decide)
  rows y hy := h.rows y (by omega)

theorem accStep_zero {ch : BitVec 32} (h : ch.toNat = 0) (a : FVec F S8x128 .f32) : accStep B ch a = accV B 0 := by
  have : ch = BitVec.ofNat 32 0 := eq_ofNat_of_lt h
  subst this
  rfl

theorem accStep_succ {ch : BitVec 32} {n : Nat} (h : ch.toNat = n + 1) : accStep B ch (accV B n) = accV B (n + 1) := by
  have hs : Scalar.select (Scalar.cmpi .eq ch 0#32) (broadcast S8x128 (Scalar.ofBits .f32 0x00000000#32)) (accV B n) = accV B n := by
    have : ch ≠ 0#32 := by rintro rfl; simp at h
    have hb : (ch == 0#32) = false := by simpa using this
    unfold Scalar.select Scalar.cmpi IntOp.cmpi
    simp only [hb]
    exact if_neg (by decide)
  unfold accStep
  rw [hs, h, eq_ofNat_of_lt h]
  rfl

attribute [local irreducible] blocks quants

theorem trip1_ens {Bk : Nat → Blk F} {i c : BitVec 32} {hi : i.toNat < 56} {hc : c.toNat < 8} {t : Nat} (ht : i.toNat = t)
    (hH : Holds s (Bk t)) (hI : Inv Bk t c.toNat s) :
    Ens e (trip1 e.B.arg1 e.B.arg2 e.B.arg4 e.B.arg6 e.B.arg7 e.B.arg8 e.B.arg9 i c hi hc) s
      (fun _ s' => Inv Bk t (c.toNat + 1) s' ∧ s'.x1 = s.x1 ∧ s'.x2 = s.x2 ∧ s'.x3 = s.x3 ∧ s'.x5 = s.x5) := by
  unfold trip1
  have eL := lagChunk_toNat hc
  have eR := lagRow_toNat hi hc
  by_cases h0 : c.toNat = 0 ∧ t = 0
  · obtain ⟨c0, rfl⟩ := h0
    refine Ens.bind scales_any ?_
    rintro _ s1 ⟨A, N, C, hs⟩
    have hH1 : Holds s1 (Bk 0) := by subst hs; exact ⟨hH.1, hH.2⟩
    refine Ens.mono (blocks_ens hH1 8 _) ?_
    rintro _ s2 ⟨A6, A7, hs2, k1, k2, k3, k4⟩
    rw [c0] at k1 k3
    rw [hs] at hs2
    rw [hs2, c0]
    refine ⟨?_, rfl, rfl, rfl, rfl⟩
    constructor
    · intro y hy
      have y0 : (y 0).val = 0 := by omega
      rw [y0]
      exact k1 y ⟨y0, (y 2).isLt⟩
    · intro h; omega
    · intro _
      exact funext fun y => k3 y (by have : (y 1).val < 64 := (y 1).isLt; omega)
    · intro h; omega
    · intro y hy; omega
    · intro h; omega
    · intro h; omega
    · intro h; omega
    · intro y hy; omega
  · have hP : ∃ q, s.x7 = pmArr (Bk q) (lagChunk c).toNat ∧ (c.toNat = 0 → q + 1 = t) ∧ (1 ≤ c.toNat → q = t) ∧ q = (lagRow i c).toNat := by
      rw [eL, eR, ht]
      by_cases c0 : c.toNat = 0
      · rw [if_pos c0, if_pos c0]
        exact ⟨t - 1, hI.old7 (by omega) c0, fun _ => by omega, fun _ => by omega, rfl⟩
      · rw [if_neg c0, if_neg c0]
        exact ⟨t, hI.new7 (by omega), fun _ => by omega, fun _ => rfl, rfl⟩
    obtain ⟨q, hP, q0, q1, qr⟩ := hP
    refine Ens.bind (scales_ens hP) ?_
    rintro _ s1 ⟨A, C, hs, m1, m2, m3, m4⟩
    have hH1 : Holds s1 (Bk t) := by rw [hs]; exact hH
    refine Ens.mono (blocks_ens hH1 8 _) ?_
    rintro _ s2 ⟨A6, A7, hs2, k1, k2, k3, k4⟩
    rw [hs] at hs2 k2
    rw [hs2]
    rw [eL] at m1 m2
    refine ⟨?_, rfl, rfl, rfl, rfl⟩
    have k2' : ∀ y, ¬ (y 0).val = c.toNat → A6 y = s.x6 y := fun y hy => k2 y (fun h => hy h.1)
    constructor
    · intro y hy
      by_cases yc : (y 0).val = c.toNat
      · rw [yc]; exact k1 y ⟨yc, (y 2).isLt⟩
      · exact (k2' y yc).trans (hI.new6 y (by omega))
    · intro h y hy
      exact (k2' y (by omega)).trans (hI.old6 h y (by omega))
    · intro _
      exact funext fun y => k3 y (by have : (y 1).val < 64 := (y 1).isLt; omega)
    · intro _ h; omega
    · intro y hy
      show A y = _
      by_cases yc : (y 1).val / 8 + 1 = c.toNat
      · have e1 : (y 1).val / 8 = if c.toNat = 0 then 7 else c.toNat - 1 := by rw [if_neg (by omega)]; omega
        rw [m1 y e1, ← e1, q1 (by omega)]
      · refine (m2 y ?_).trans (hI.new8 y (by omega))
        split <;> omega
    · intro h y hy hy'
      have y1 : (y 1).val < 64 := (y 1).isLt
      show A y = _
      by_cases c0 : c.toNat = 0
      · rw [if_pos c0] at m1 m2
        by_cases y7 : (y 1).val / 8 = 7
        · rw [m1 y y7, y7]
          have := q0 c0
          rw [show q = t - 1 by omega]
        · exact (m2 y y7).trans (hI.old8 h y (by omega) (by omega))
      · rw [if_neg c0] at m1 m2
        exact (m2 y (by omega)).trans (hI.old8 h y (by omega) (by omega))
    · intro h
      show accStep (Bk q) (lagChunk c) s.x9 = _
      have qt := q1 (by omega)
      subst qt
      rw [if_neg (by omega)] at eL
      by_cases c1 : c.toNat = 1
      · rw [c1]
        exact accStep_zero (by omega) _
      · rw [hI.new9 (by omega), accStep_succ (by omega)]
        congr 1
        omega
    · intro _ h; omega
    · intro y hy
      show C y = _
      by_cases yr : (y 0).val = (lagRow i c).toNat
      · rw [m3 y yr, yr, ← qr]
        by_cases c0 : c.toNat = 0
        · rw [if_pos c0] at eL
          rw [hI.old9 (by omega) c0, show Bk (t - 1) = Bk q by rw [show t - 1 = q by have := q0 c0; omega], accStep_succ (by omega)]
          rfl
        · rw [if_neg c0] at eR
          omega
      · refine (m4 y yr).trans (hI.rows y ?_)
        rw [eR, ht] at yr
        split at yr <;> omega

/-- What the codes' windows hold before trip `c`: the chunks quantised so far. -/
def Codes (B : Blk F) (c : Nat) (s : St F) : Prop :=
  (∀ y, (y 1).val % 8192 / 1024 < c → s.x3 y = codeAt B (y 0).val (y 1).val)
  ∧ (∀ y, (y 0).val % 8192 / 1024 < c → s.x5 y = codeAt B (y 1).val (y 0).val)

theorem quants_codes {c : BitVec 32} {hc : c.toNat < 8} (hR : Ready s B c.toNat) (hC : Codes B c.toNat s) :
    Ens e (quants e.B.arg3 e.B.h3 e.B.arg5 e.B.h5 e.B.arg6 e.B.arg8 c hc 8 (by decide)) s
      (fun _ s' => Codes B (c.toNat + 1) s' ∧ ∃ A C, s' = (s.set3 A).set5 C) := by
  refine Ens.mono (quants_ens hR 8 _) ?_
  rintro _ s1 ⟨A, C, hs, k1, k2, k3, k4⟩
  refine ⟨?_, A, C, hs⟩
  rw [hs]
  refine ⟨fun y hy => ?_, fun y hy => ?_⟩
  · by_cases yc : (y 1).val % 8192 / 1024 = c.toNat
    · exact k1 y ⟨yc, by omega⟩
    · exact (k2 y (fun h => yc h.1)).trans (hC.1 y (by omega))
  · by_cases yc : (y 0).val % 8192 / 1024 = c.toNat
    · exact k3 y ⟨yc, by omega⟩
    · exact (k4 y (fun h => yc h.1)).trans (hC.2 y (by omega))

theorem trip2_ens {Bk : Nat → Blk F} {i c : BitVec 32} {hi : i.toNat < 56} {hc : c.toNat < 8} {t : Nat} (ht : i.toNat = t) (h1 : 1 ≤ t)
    (hH : Holds s (Bk t)) (hI : Inv Bk t c.toNat s) (hC : Codes (Bk (t - 1)) c.toNat s) :
    Ens e (trip2 e.B.arg1 e.B.arg2 e.B.arg3 e.B.h3 e.B.arg4 e.B.arg5 e.B.h5 e.B.arg6 e.B.arg7 e.B.arg8 e.B.arg9 i c hi hc) s
      (fun _ s' => Inv Bk t (c.toNat + 1) s' ∧ s'.x1 = s.x1 ∧ s'.x2 = s.x2 ∧ Codes (Bk (t - 1)) (c.toNat + 1) s') := by
  unfold trip2
  have hR : Ready s (Bk (t - 1)) c.toNat := by
    refine ⟨fun y hy => ?_, fun y hy => ?_⟩
    · rw [hI.old6 h1 y (by omega), hy]
    · rw [hI.old8 h1 y (by omega) (by omega), hy]
  refine Ens.bind (quants_codes hR hC) ?_
  rintro _ s1 ⟨hC1, A, C, hs⟩
  have hI1 : Inv Bk t c.toNat s1 := by rw [hs]; exact ⟨hI.new6, hI.old6, hI.new7, hI.old7, hI.new8, hI.old8, hI.new9, hI.old9, hI.rows⟩
  have hH1 : Holds s1 (Bk t) := by rw [hs]; exact hH
  refine Ens.mono (trip1_ens ht hH1 hI1) ?_
  rintro _ s2 ⟨hI2, e1, e2, e3, e5⟩
  refine ⟨hI2, by rw [e1, hs]; rfl, by rw [e2, hs]; rfl, ?_⟩
  unfold Codes
  rw [e3, e5]
  exact hC1

/-! ## The loops -/

theorem Ens.loop {body : Fin loop8.trips → PUnit → Prog (E' nD τ sig F Λ) PUnit} (J : Nat → St F → Prop) (h0 : J 0 s)
    (hstep : ∀ (k : Fin loop8.trips) s, J k.val s → Ens e (body k PUnit.unit) s (fun _ s' => J (k.val + 1) s')) :
    Ens e (Scf.Loop.for loop8 loop8_ok PUnit.unit body) s (fun _ s' => J 8 s') := by
  unfold Ens
  refine Entails.trans ?_ (Scf.wp_for frame (wpE e.defs e.V (e.d.tc : Thread nD τ) none) Set.univ _ _ _ loop8_ok PUnit.unit body
    (fun k _ => iprop(∃ s', ⌜J k s'⌝ ∗ Own e s')) ?_)
  · iintro H
    isplitl [H]
    · iexists s
      isplitr
      · ipureintro; exact h0
      · iexact H
    · iintro %acc H
      rw [show Scf.trips loop8.lb loop8.ub loop8.st = 8 from loop8_trips]
      iexact H
  · intro k acc
    iintro ⟨%s', %hs, H⟩
    iapply (hstep k s' hs).pre
    iexact H

end Cert.Swiglu

end
-- ==== Proof.Points.lean ====
/-
  The three kinds of grid point: the first, the 55 in the middle, the last.
-/
module

public import proofs.«01_k».proof.Proof.Trips

@[expose] public section

noncomputable section

namespace Cert.Swiglu

open Idealize.ShloMosaic Idealize.ShloMosaic.ValueIdx Idealize.SL.Sem

variable {nD : Nat} {τ : Topo} {sig : RefSig} {Λ : Labels} {F : FTy → Type} [FloatOps F]
variable {e : Env nD τ sig Λ F} {s : St F}

/-- What a run of point `t` leaves in the buffers, the scratch being as the point before left it. -/
structure Left (Bk : Nat → Blk F) (t : Nat) (s s' : St F) : Prop where
  x1 : s'.x1 = s.x1
  x2 : s'.x2 = s.x2
  inv : t < 56 → Inv Bk (t + 1) 0 s'
  codes : 1 ≤ t → Codes (Bk (t - 1)) 8 s'
  rows : ∀ y, (y 0).val < t → s'.x4 y = rowV (Bk (y 0).val) (ix2 0 (Fin.ofNat 128 (y 1).val))

theorem inv_start (Bk : Nat → Blk F) (s : St F) : Inv Bk 0 0 s where
  new6 y hy := absurd hy (Nat.not_lt_zero _)
  old6 h := absurd h (by decide)
  new7 h := absurd h (by decide)
  old7 h := absurd h (by decide)
  new8 y hy := absurd hy (Nat.not_lt_zero _)
  old8 h := absurd h (by decide)
  new9 h := absurd h (by decide)
  old9 h := absurd h (by decide)
  rows y hy := by omega

theorem codes_start (B : Blk F) (s : St F) : Codes B 0 s :=
  ⟨fun y hy => absurd hy (Nat.not_lt_zero _), fun y hy => absurd hy (Nat.not_lt_zero _)⟩

theorem start_ens : Ens e (start e.B.arg7 e.B.arg9) s (fun _ s' => s'.x1 = s.x1 ∧ s'.x2 = s.x2) := by
  unfold start
  refine Ens.bind Ens.load7 fun a s1 ⟨_, hs⟩ => ?_
  subst hs
  refine Ens.bind Ens.store7 fun a s2 hs => ?_
  subst hs
  refine Ens.bind Ens.load9 fun a s2 ⟨_, hs⟩ => ?_
  subst hs
  refine Ens.store9.mono fun a s3 hs => ?_
  subst hs
  exact ⟨rfl, rfl⟩

theorem point0_ens {Bk : Nat → Blk F} {i : BitVec 32} {hi : i.toNat < 56} (ht : i.toNat = 0) (hH : Holds s (Bk 0)) :
    Ens e (do
        start e.B.arg7 e.B.arg9
        Scf.Loop.for loop8 loop8_ok PUnit.unit fun k _ => trip1 e.B.arg1 e.B.arg2 e.B.arg4 e.B.arg6 e.B.arg7 e.B.arg8 e.B.arg9 i (chunk k) hi (chunk_lt k)
        pure ⟨⟩) s (fun (_ : PUnit) s' => Left Bk 0 s s') := by
  refine Ens.bind start_ens fun _ s1 ⟨h1, h2⟩ => ?_
  have hH1 : Holds s1 (Bk 0) := by unfold Holds; rw [h1, h2]; exact hH
  refine Ens.bind (Ens.loop (fun k s' => Inv Bk 0 k s' ∧ s'.x1 = s.x1 ∧ s'.x2 = s.x2) ⟨inv_start Bk s1, h1, h2⟩ ?_) ?_
  · rintro k s2 ⟨hI, e1, e2⟩
    have hH2 : Holds s2 (Bk 0) := by unfold Holds; rw [e1, e2]; exact hH
    rw [← chunk_toNat k] at hI ⊢
    refine (trip1_ens ht hH2 hI).mono ?_
    rintro _ s3 ⟨hI3, f1, f2, _, _⟩
    exact ⟨hI3, f1.trans e1, f2.trans e2⟩
  · rintro _ s2 ⟨hI, e1, e2⟩
    exact Ens.ret ⟨e1, e2, fun _ => hI.next, fun h => absurd h (by decide), fun y hy => absurd hy (Nat.not_lt_zero _)⟩

theorem pointMid_ens {Bk : Nat → Blk F} {i : BitVec 32} {hi : i.toNat < 56} {t : Nat} (ht : i.toNat = t) (h1 : 1 ≤ t) (hH : Holds s (Bk t)) (hI0 : Inv Bk t 0 s) :
    Ens e (do
        Scf.Loop.for loop8 loop8_ok PUnit.unit fun k _ => trip2 e.B.arg1 e.B.arg2 e.B.arg3 e.B.h3 e.B.arg4 e.B.arg5 e.B.h5 e.B.arg6 e.B.arg7 e.B.arg8 e.B.arg9 i (chunk k) hi (chunk_lt k)
        pure ⟨⟩) s (fun (_ : PUnit) s' => Left Bk t s s') := by
  refine Ens.bind (Ens.loop (fun k s' => (Inv Bk t k s' ∧ Codes (Bk (t - 1)) k s') ∧ s'.x1 = s.x1 ∧ s'.x2 = s.x2) ⟨⟨hI0, codes_start _ s⟩, rfl, rfl⟩ ?_) ?_
  · rintro k s2 ⟨hI, e1, e2⟩
    have hH2 : Holds s2 (Bk t) := by unfold Holds; rw [e1, e2]; exact hH
    rw [← chunk_toNat k] at hI ⊢
    refine (trip2_ens ht h1 hH2 hI.1 hI.2).mono ?_
    rintro _ s3 ⟨hI3, f1, f2, hC3⟩
    exact ⟨⟨hI3, hC3⟩, f1.trans e1, f2.trans e2⟩
  · rintro _ s2 ⟨⟨hI, hC⟩, e1, e2⟩
    exact Ens.ret ⟨e1, e2, fun _ => hI.next, fun _ => hC, fun y hy => hI.rows y (by omega)⟩

theorem pointLast_ens {Bk : Nat → Blk F} {row : BitVec 32} {hr : row.toNat < 56} (hrow : row.toNat = 55) (hI : Inv Bk 56 0 s) :
    Ens e (do
        scales e.B.arg4 e.B.arg7 e.B.arg8 e.B.arg9 row 7#32 hr (by decide)
        Scf.Loop.for loop8 loop8_ok PUnit.unit fun k _ => quants e.B.arg3 e.B.h3 e.B.arg5 e.B.h5 e.B.arg6 e.B.arg8 (chunk k) (chunk_lt k) 8 (by decide)
        pure ⟨⟩) s (fun (_ : PUnit) s' => Left Bk 56 s s') := by
  refine Ens.bind (scales_ens (B := Bk 55) (ch := 7#32) (hI.old7 (by decide) rfl)) ?_
  rintro _ s1 ⟨A, C, hs, m1, m2, m3, m4⟩
  have hR : ∀ c, c < 8 → Ready s1 (Bk 55) c := by
    intro c hc
    rw [hs]
    refine ⟨fun y hy => ?_, fun y hy => ?_⟩
    · rw [← hy]; exact hI.old6 (by decide) y (Nat.zero_le _)
    · show A y = _
      by_cases y7 : (y 1).val / 8 = 7
      · rw [m1 y y7, ← hy, y7]; rfl
      · rw [m2 y y7, ← hy]; exact hI.old8 (by decide) y (by omega) (by omega)
  have hrows : ∀ y, (y 0).val < 56 → s1.x4 y = rowV (Bk (y 0).val) (ix2 0 (Fin.ofNat 128 (y 1).val)) := by
    intro y hy
    rw [hs]
    show C y = _
    by_cases y5 : (y 0).val = row.toNat
    · rw [m3 y y5, hI.old9 (by decide) rfl]
      rw [y5, hrow]
      show rowSum (accStep (Bk 55) 7#32 (accV (Bk 55) 6)) _ = _
      rw [accStep_succ (n := 6) rfl]
      rfl
    · exact (m4 y y5).trans (hI.rows y (by omega))
  have hx1 : s1.x1 = s.x1 := by rw [hs]; rfl
  have hx2 : s1.x2 = s.x2 := by rw [hs]; rfl
  refine Ens.bind (Ens.loop (fun k s' => Codes (Bk 55) k s' ∧ ∃ A C, s' = (s1.set3 A).set5 C) ⟨codes_start _ s1, s1.x3, s1.x5, rfl⟩ ?_) ?_
  · rintro k s2 ⟨hC, A1, C1, hs2⟩
    have hR2 : Ready s2 (Bk 55) (chunk k).toNat := by
      have := hR (chunk k).toNat (chunk_lt k)
      rw [hs2]; exact ⟨this.1, this.2⟩
    rw [← chunk_toNat k] at hC ⊢
    refine (quants_codes hR2 hC).mono ?_
    rintro _ s3 ⟨hC3, A2, C2, hs3⟩
    exact ⟨hC3, A2, C2, by rw [hs3, hs2]; rfl⟩
  · rintro _ s2 ⟨hC, A1, C1, hs2⟩
    refine Ens.ret ⟨?_, ?_, fun h => absurd h (by decide), fun _ => hC, ?_⟩
    · rw [hs2]; exact hx1
    · rw [hs2]; exact hx2
    · rw [hs2]; exact hrows

end Cert.Swiglu

end
-- ==== Proof.LaunchIdeal.lean ====
/-
  The launch of the idealized kernel: what the body finds and leaves at each grid point, and from it what the whole run
  leaves in the three result arrays.
-/
module

public import proofs.«01_k».proof.Proof.BodyIdeal
public import proofs.«01_k».proof.Proof.Points
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel
public import Idealize.ShloMosaic.Lib.Tactic

@[expose] public section

set_option maxRecDepth 16384

noncomputable section

namespace Cert.KernelIdeal.Run

open Cert.KernelIdeal Cert.KernelIdeal.Gen Cert.KernelIdeal.Body
open Cert.Swiglu (Blk St Env Own Ens Inv Left Holds codeAt rowV)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-- Row block `t` of the two arguments, as the region finds them. -/
def Bk (c : Dev nD) (t : Nat) : Blk F where
  x r col := (V m c main_v0 : S7168x16384.Idx → F .bf16) (ix2 (Fin.ofNat 7168 (128 * t + r)) (Fin.ofNat 16384 col))
  d r col := (V m c main_v1 : S7168x8192.Idx → F .bf16) (ix2 (Fin.ofNat 7168 (128 * t + r)) (Fin.ofNat 8192 col))

theorem index0 : ∀ t : Fin grid0.N, t.val < 56 → win0_0.index t 0 = t.val ∧ win0_0.index t 1 = 0 := by decide +kernel
theorem index1 : ∀ t : Fin grid0.N, t.val < 56 → win0_1.index t 0 = t.val ∧ win0_1.index t 1 = 0 := by decide +kernel
theorem index2 : ∀ t : Fin grid0.N, 1 ≤ t.val → win0_2.index t 0 = t.val - 1 ∧ win0_2.index t 1 = 0 := by decide +kernel
theorem index3 : ∀ t : Fin grid0.N, win0_3.index t 0 = 0 ∧ win0_3.index t 1 = 0 := by decide +kernel
theorem index4 : ∀ t : Fin grid0.N, 1 ≤ t.val → win0_4.index t 0 = 0 ∧ win0_4.index t 1 = t.val - 1 := by decide +kernel
theorem flush2 : ∀ t : Fin grid0.N, win0_2.flush t = true → 1 ≤ t.val := by decide +kernel
theorem flush4 : ∀ t : Fin grid0.N, win0_4.flush t = true → 1 ≤ t.val := by decide +kernel
theorem coords_val : ∀ t : Fin grid0.N, (grid0.coords t 0).val = t.val := by decide +kernel

/-- What the first window holds at point `t` is row block `t` of the first argument. -/
theorem iblk_x (c : Dev nD) (t : Fin grid0.N) (ht : t.val < 56) (y : Swiglu.S128x16384.Idx) :
    (iblk m c 0 t : Swiglu.S128x16384.Idx → F .bf16) y = (Bk m c t.val).x (y 0).val (y 1).val := by
  show (V m c main_v0 : S7168x16384.Idx → F .bf16) ((win0_0.rect t).emb y) = _
  unfold Bk
  refine congrArg _ ?_
  have h0 := win0_0.rect_emb_val t y 0
  have h1 := win0_0.rect_emb_val t y 1
  rw [(index0 t ht).1] at h0
  rw [(index0 t ht).2] at h1
  have y0 : (y 0).val < 128 := (y 0).isLt
  have y1 : (y 1).val < 16384 := (y 1).isLt
  funext a
  apply Fin.ext
  fin_cases a
  · refine h0.trans ?_
    show t.val * 128 + (y 0).val = (128 * t.val + (y 0).val) % 7168
    rw [Nat.mod_eq_of_lt (by omega)]; omega
  · refine h1.trans ?_
    show 0 * 16384 + (y 1).val = (y 1).val % 16384
    rw [Nat.mod_eq_of_lt (by omega)]; omega

theorem iblk_d (c : Dev nD) (t : Fin grid0.N) (ht : t.val < 56) (y : Swiglu.S128x8192.Idx) :
    (iblk m c 1 t : Swiglu.S128x8192.Idx → F .bf16) y = (Bk m c t.val).d (y 0).val (y 1).val := by
  show (V m c main_v1 : S7168x8192.Idx → F .bf16) ((win0_1.rect t).emb y) = _
  unfold Bk
  refine congrArg _ ?_
  have h0 := win0_1.rect_emb_val t y 0
  have h1 := win0_1.rect_emb_val t y 1
  rw [(index1 t ht).1] at h0
  rw [(index1 t ht).2] at h1
  have y0 : (y 0).val < 128 := (y 0).isLt
  have y1 : (y 1).val < 8192 := (y 1).isLt
  funext a
  apply Fin.ext
  fin_cases a
  · refine h0.trans ?_
    show t.val * 128 + (y 0).val = (128 * t.val + (y 0).val) % 7168
    rw [Nat.mod_eq_of_lt (by omega)]; omega
  · refine h1.trans ?_
    show 0 * 8192 + (y 1).val = (y 1).val % 8192
    rw [Nat.mod_eq_of_lt (by omega)]; omega

/-! ## The proof data -/

/-- The scratch buffers before point `n`, at contents that the points below left. -/
def Scr (c : Dev nD) (n : Nat) : sProp 𝕄 :=
  iprop(∃ s : St F, ⌜n ≤ 56 → Inv (Bk m c) n 0 s⌝
    ∗ owns (c.tc : Thread nD τ) (Memref.whole cc0_scratch0) fullShare s.x6 ∗ owns (c.tc : Thread nD τ) (Memref.whole cc0_scratch1) fullShare s.x7
    ∗ owns (c.tc : Thread nD τ) (Memref.whole cc0_scratch2) fullShare s.x8 ∗ owns (c.tc : Thread nD τ) (Memref.whole cc0_scratch3) fullShare s.x9
    ∗ ∃ r, prngReg c r)

/-- The arrays as the region finds them; an input's window keeps its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun (_ : Swiglu.S128x16384.Idx) => codeAt (Bk m c 0) 0 0
    | ⟨3, _⟩ => fun (_ : Swiglu.S56x128.Idx) => rowV (Bk m c 0) (ix2 0 0)
    | ⟨4, _⟩ => fun (_ : Swiglu.S16384x128.Idx) => codeAt (Bk m c 0) 0 0
    | ⟨_ + 5, h⟩ => absurd h (Nat.not_lt.2 (Nat.le_add_left _ _))
  Φ t := Scr m c t.val
  q _ := fullShare
  owed _ := 0

/-- The three outputs are described by what holds of them. -/
abbrev outs : Fin 5 → Bool := fun | 0 => false | 1 => false | 2 => true | 3 => true | 4 => true | ⟨_ + 5, h⟩ => absurd h (Nat.not_lt.2 (Nat.le_add_left _ _))

/-- What point `t` leaves in each output's window. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun (X : Swiglu.S128x16384.Idx → F .fp8e4m3) => 1 ≤ t.val → ∀ y, X y = codeAt (Bk m c (t.val - 1)) (y 0).val (y 1).val
  | ⟨3, _⟩ => fun (X : Swiglu.S56x128.Idx → F .f32) => ∀ y, (y 0).val < t.val → X y = rowV (Bk m c (y 0).val) (ix2 0 (Fin.ofNat 128 (y 1).val))
  | ⟨4, _⟩ => fun (X : Swiglu.S16384x128.Idx → F .fp8e4m3) => 1 ≤ t.val → ∀ y, X y = codeAt (Bk m c (t.val - 1)) (y 1).val (y 0).val
  | ⟨_ + 5, h⟩ => absurd h (Nat.not_lt.2 (Nat.le_add_left _ _))

/-- The buffers of point `t`. -/
def env (𝒱₀ : Variants) (c : Dev nD) (t : Fin cfg0.N) : Env nD τ sig Λ₀ F where
  B := { arg1 := win0_0.stage (cfg0.slots t 0), arg2 := win0_1.stage (cfg0.slots t 1), arg3 := win0_2.stage (cfg0.slots t 2),
         h3 := hstage0_2 ((cfg0.slots t 2).cast nbuf0_2), arg4 := win0_3.stage (cfg0.slots t 3), arg5 := win0_4.stage (cfg0.slots t 4),
         h5 := hstage0_4 ((cfg0.slots t 4).cast nbuf0_4), arg6 := Memref.whole cc0_scratch0, arg7 := Memref.whole cc0_scratch1,
         arg8 := Memref.whole cc0_scratch2, arg9 := Memref.whole cc0_scratch3 }
  defs := defs₀
  V := 𝒱₀
  d := c

/-- The body at point `t`, of whichever kind. -/
theorem body_ens {Bk : Nat → Blk F} {𝒱₀ : Variants} {c : Dev nD} (t : Fin cfg0.N) {s : St F}
    (hH : t.val < 56 → Holds s (Bk t.val)) (hI : Inv Bk t.val 0 s) :
    Ens (env 𝒱₀ c t) (bodyAt0 t) s (fun (_ : PUnit) s' => Left Bk t.val s s') := by
  have hv : (grid0.coords t 0).val = t.val := coords_val t
  have ht : t.val < 57 := t.isLt
  have hn : (BitVec.ofNat 32 (grid0.coords t 0).val).toNat = t.val := by
    rw [hv, BitVec.toNat_ofNat]; exact Nat.mod_eq_of_lt (by omega)
  unfold bodyAt0
  rw [body_eq]
  by_cases t0 : t.val = 0
  · have n2 : ¬ k0_cond2 (grid0.coords t) = 1#1 := fun h => by have := (cond2_iff _).1 h; omega
    have n3 : ¬ k0_cond3 (grid0.coords t) = 1#1 := fun h => by have := (cond3_iff _).1 h; omega
    rw [dif_pos ((cond1_iff _).2 (hv.trans t0)), dif_neg n2, dif_neg n3]
    have hH' := hH (by omega)
    rw [t0] at hH'
    refine (Swiglu.point0_ens (e := env 𝒱₀ c t) (Bk := Bk) (hn.trans t0) hH').mono fun _ s' h => ?_
    rw [t0]
    exact h
  by_cases t5 : t.val = 56
  · have n1 : ¬ k0_cond1 (grid0.coords t) = 1#1 := fun h => by have := (cond1_iff _).1 h; omega
    have n2 : ¬ k0_cond2 (grid0.coords t) = 1#1 := fun h => by have := (cond2_iff _).1 h; omega
    rw [dif_neg n1, dif_neg n2, dif_pos ((cond3_iff _).2 (hv.trans t5))]
    rw [t5] at hI
    have hr : (Scalar.subi (BitVec.ofNat 32 (grid0.coords t 0).val) 1#32).toNat = 55 := by rw [hv, t5]; decide
    refine (Swiglu.pointLast_ens (e := env 𝒱₀ c t) (Bk := Bk) hr hI).mono fun _ s' h => ?_
    rw [t5]
    exact h
  · have n1 : ¬ k0_cond1 (grid0.coords t) = 1#1 := fun h => by have := (cond1_iff _).1 h; omega
    have n3 : ¬ k0_cond3 (grid0.coords t) = 1#1 := fun h => by have := (cond3_iff _).1 h; omega
    rw [dif_neg n1, dif_pos ((cond2_iff _).2 (by omega)), dif_neg n3]
    exact Swiglu.pointMid_ens (e := env 𝒱₀ c t) (Bk := Bk) hn (by omega) (hH (by omega)) hI

/-! ## The body obligation -/

theorem inv_of_eq {Bk : Nat → Blk F} {t : Nat} {s s' : St F} (h : Inv Bk t 0 s) (h6 : s'.x6 = s.x6) (h7 : s'.x7 = s.x7)
    (h8 : s'.x8 = s.x8) (h9 : s'.x9 = s.x9)
    (h4 : ∀ y, (y 0).val + 1 < t → s'.x4 y = rowV (Bk (y 0).val) (ix2 0 (Fin.ofNat 128 (y 1).val))) : Inv Bk t 0 s' where
  new6 y hy := absurd hy (Nat.not_lt_zero _)
  old6 := by rw [h6]; exact h.old6
  new7 hc := absurd hc (by decide)
  old7 := by rw [h7]; exact h.old7
  new8 y hy := absurd hy (Nat.not_lt_zero _)
  old8 := by rw [h8]; exact h.old8
  new9 hc := absurd hc (by decide)
  old9 := by rw [h9]; exact h.old9
  rows y hy := h4 y (by omega)

/-- The scales' window keeps from point to point the rows written into it. -/
theorem finds3 (c : Dev nD) (t : Fin cfg0.N) {Y : (cfg0.win 3).block.Idx → Elt F (cfg0.win 3).elt}
    (hY : ((dat m c).toRRel outs (Rl m c)).Finds 3 t Y) :
    ∀ y : Swiglu.S56x128.Idx, (y 0).val + 1 < t.val → (Y : Swiglu.S56x128.Idx → F .f32) y = rowV (Bk m c (y 0).val) (ix2 0 (Fin.ofNat 128 (y 1).val)) := by
  intro y hy
  have ht : t.val < 57 := t.isLt
  have hpos : t.val ≠ 0 := by omega
  rw [RDat.finds_of_pos _ (Window.fetch_out _ rfl _) hpos] at hY
  rcases hY with hf | hL
  · have := (flush0_3 _).1 hf
    have h2 : (t.val - 1) % 57 = 56 := this
    omega
  · exact (dat m c).toRRel_leaves (w := 3) rfl hL y (by show (y 0).val < t.val - 1; omega)

set_option maxHeartbeats 1600000 in
theorem body_obligation (𝒱₀ : Variants) (c : Dev nD) : BodyObligationRel (dat m c) (defs₀ (F := F)) 𝒱₀ () Set.univ outs (Rl m c) := fun t => by
  have hlt : t.val < 57 := t.isLt
  rw [bigSep_W0, bigSep_W0]
  show iprop(Scr m c t.val ∗ _ ∗ (∃ d, owns c (st0_0 t) fullShare ((dat m c).before 0 t d)) ∗ (∃ d, owns c (st0_1 t) fullShare ((dat m c).before 1 t d))
      ∗ (∃ Y, ⌜((dat m c).toRRel outs (Rl m c)).Finds 2 t Y⌝ ∗ owns c (st0_2 t) fullShare Y)
      ∗ (∃ Y, ⌜((dat m c).toRRel outs (Rl m c)).Finds 3 t Y⌝ ∗ owns c (st0_3 t) fullShare Y)
      ∗ (∃ Y, ⌜((dat m c).toRRel outs (Rl m c)).Finds 4 t Y⌝ ∗ owns c (st0_4 t) fullShare Y))
    ⊢ wp frame (wpE defs₀ 𝒱₀ c none) Set.univ (bodyAt0 t) fun _ =>
      iprop(Scr m c (t.val + 1) ∗ _ ∗ owns c (st0_0 t) fullShare (iblk m c 0 t) ∗ owns c (st0_1 t) fullShare (iblk m c 1 t)
      ∗ (∃ X, ⌜Rl m c 2 t X⌝ ∗ owns c (st0_2 t) fullShare X)
      ∗ (∃ X, ⌜Rl m c 3 t X⌝ ∗ owns c (st0_3 t) fullShare X)
      ∗ (∃ X, ⌜Rl m c 4 t X⌝ ∗ owns c (st0_4 t) fullShare X))
  unfold Scr
  iintro ⟨⟨%s0, %hI, H6, H7, H8, H9, Hr⟩, HO, ⟨%d0, H1⟩, ⟨%d1, H2⟩, ⟨%Y2, %hY2, H3⟩, ⟨%Y3, %hY3, H4⟩, ⟨%Y4, %hY4, H5⟩⟩
  rw [before0_0_of m (dat m c) rfl (fun _ => rfl), before0_1_of m (dat m c) rfl (fun _ => rfl)]
  have hI' := hI (by omega)
  have hE := body_ens (𝒱₀ := 𝒱₀) (c := c) t (Bk := Bk m c)
    (s := { x1 := iblk m c 0 t, x2 := iblk m c 1 t, x3 := Y2, x4 := Y3, x5 := Y4, x6 := s0.x6, x7 := s0.x7, x8 := s0.x8, x9 := s0.x9 })
    (fun h => ⟨iblk_x m c t h, iblk_d m c t h⟩) (inv_of_eq hI' rfl rfl rfl rfl (finds3 m c t hY3))
  refine BIBase.Entails.trans ?_ (hE.frame_mono (R := iprop((dat m c).owesAt () t.castSucc ∗ ∃ r, prngReg c r)) fun _ s' hL => ?_)
  · show _ ⊢ iprop((owns c (st0_0 t) fullShare (iblk m c 0 t) ∗ owns c (st0_1 t) fullShare (iblk m c 1 t) ∗ owns c (st0_2 t) fullShare Y2
      ∗ owns c (st0_3 t) fullShare Y3 ∗ owns c (st0_4 t) fullShare Y4 ∗ owns c (Memref.whole cc0_scratch0) fullShare s0.x6
      ∗ owns c (Memref.whole cc0_scratch1) fullShare s0.x7 ∗ owns c (Memref.whole cc0_scratch2) fullShare s0.x8
      ∗ owns c (Memref.whole cc0_scratch3) fullShare s0.x9 ∗ emp) ∗ (dat m c).owesAt () t.castSucc ∗ ∃ r, prngReg c r)
    iintro ⟨⟨⟨⟨⟨⟨⟨⟨⟨⟨H6, H7⟩, H8⟩, H9⟩, Hr⟩, HO⟩, H1⟩, H2⟩, H3⟩, H4⟩, H5⟩
    iframe
  · unfold Own env
    iintro ⟨⟨H1, H2, H3, H4, H5, H6, H7, H8, H9, -⟩, HO, Hr⟩
    isplitl [H6 H7 H8 H9 Hr]
    · iexists s'
      isplitr
      · ipureintro; exact fun h => hL.inv (by omega)
      · iframe
    isplitl [HO]
    · iexact HO
    isplitl [H1]
    · rw [show (iblk m c 0 t : Swiglu.S128x16384.Idx → F .bf16) = s'.x1 from hL.x1.symm]; iexact H1
    isplitl [H2]
    · rw [show (iblk m c 1 t : Swiglu.S128x8192.Idx → F .bf16) = s'.x2 from hL.x2.symm]; iexact H2
    isplitl [H3]
    · iexists s'.x3
      isplitr
      · ipureintro; exact fun h y => (hL.codes h).1 y (by omega)
      · iexact H3
    isplitl [H4]
    · iexists s'.x4
      isplitr
      · ipureintro; exact hL.rows
      · iexact H4
    · iexists s'.x5
      isplitr
      · ipureintro; exact fun h y => (hL.codes h).2 y (by omega)
      · iexact H5

/-! ## The run -/

theorem share_full (c : Dev nD) (w : Fin cfg0.W) : ((dat m c).toRRel outs (Rl m c)).share w = fullShare :=
  (dat m c).share_full (fun _ => rfl) w

theorem toScr (c : Dev nD) : (Pipeline.ΦA spec0 c : sProp 𝕄) ⊢ Scr m c 0 := by
  unfold Pipeline.ΦA Scr
  rw [scopedRest0_eq]
  iintro ⟨⟨⟨%f6, H6⟩, ⟨%f7, H7⟩, ⟨%f8, H8⟩, ⟨%f9, H9⟩⟩, Hr⟩
  iexists { x1 := fun _ => (Bk m c 0).x 0 0, x2 := fun _ => (Bk m c 0).x 0 0, x3 := fun _ => codeAt (Bk m c 0) 0 0,
            x4 := fun _ => rowV (Bk m c 0) (ix2 0 0), x5 := fun _ => codeAt (Bk m c 0) 0 0, x6 := f6, x7 := f7, x8 := f8, x9 := f9 }
  isplitr
  · ipureintro; exact fun _ => Swiglu.inv_start _ _
  simp only [owns_whole]
  iframe

theorem ofScr (c : Dev nD) (n : Nat) : Scr m c n ⊢ (Pipeline.ΦA spec0 c : sProp 𝕄) := by
  unfold Pipeline.ΦA Scr
  rw [scopedRest0_eq]
  simp only [owns_whole]
  iintro ⟨%s, -, H6, H7, H8, H9, Hr⟩
  isplitr [Hr]
  · isplitl [H6]; · iexists _; iexact H6
    isplitl [H7]; · iexists _; iexact H7
    isplitl [H8]; · iexists _; iexact H8
    iexists _; iexact H9
  · iexact Hr

/-- The codes the run leaves. -/
def codesOf (c : Dev nD) : S7168x16384.Idx → F .fp8e4m3 := fun i => codeAt (Bk m c ((i 0).val / 128)) ((i 0).val % 128) (i 1).val
/-- The scales the run leaves. -/
def scalesOf (c : Dev nD) : S56x128.Idx → F .f32 := fun i => rowV (Bk m c (i 0).val) (ix2 0 (Fin.ofNat 128 (i 1).val))
/-- The transposed codes the run leaves. -/
def codesTOf (c : Dev nD) : S16384x7168.Idx → F .fp8e4m3 := fun i => codeAt (Bk m c ((i 1).val / 128)) ((i 1).val % 128) (i 0).val

theorem run (ρ : Dev nD → PrngReg) :
    θ_run defs (onTc (τ := τ) (main (F := F))) ⟨m, fun _ => 0, ρ⟩ (fun r => (∀ c : Dev nD,
      r.2.mem ((c.tc : Thread nD τ).loc main_v2_0) = codesOf m c
      ∧ r.2.mem ((c.tc : Thread nD τ).loc main_v2_1) = scalesOf m c
      ∧ r.2.mem ((c.tc : Thread nD τ).loc main_v2_2) = codesTOf m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine RDat.θ_run_frame_track cfgs 0 launch0 defs₀ Variants.none (fun c => (dat m c).toRRel outs (Rl m c)) m ρ main
    (fun c => (body_obligation m _ c).toRRel) (share_full m) (fun _ _ => rfl) (V m) (hmain m _) (fun _ _ => rfl) (toScr m) (fun c => ofScr m c _) _ ?_
  rintro r ⟨h, hs⟩
  refine ⟨fun c => ?_, hs⟩
  obtain ⟨after, hL, hA⟩ := h.exists_exact c
  refine ⟨(hA 2).trans ?_, (hA 3).trans ?_, (hA 4).trans ?_, ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩
  · refine Dat.arrAt_eq_of_covers _ 2 _ (by decide +kernel) fun t hf y => ?_
    have h1 := flush2 t hf
    have hR := (dat m c).toRRel_leaves (w := 2) rfl (hL 2 t hf) h1
    show (after 2 t : Swiglu.S128x16384.Idx → F .fp8e4m3) y = codesOf m c ((win0_2.rect t).emb y)
    have h0 := win0_2.rect_emb_val t y 0
    have h1' := win0_2.rect_emb_val t y 1
    rw [(index2 t h1).1] at h0
    rw [(index2 t h1).2] at h1'
    have y0 : (y 0).val < 128 := (y 0).isLt
    refine (hR y).trans ?_
    unfold codesOf
    have h0' : ((win0_2.rect t).emb y 0).val = (t.val - 1) * 128 + (y 0).val := h0
    have h1'' : ((win0_2.rect t).emb y 1).val = 0 * 16384 + (y 1).val := h1'
    rw [h0', h1'']
    congr 2
    · omega
    · omega
    · omega
  · refine Dat.arrAt_eq_of_covers _ 3 _ (by decide +kernel) fun t hf y => ?_
    have h1 := (flush0_3 t).1 hf
    have hR := (dat m c).toRRel_leaves (w := 3) rfl (hL 3 t hf)
    show (after 3 t : Swiglu.S56x128.Idx → F .f32) y = scalesOf m c ((win0_3.rect t).emb y)
    have h0 := win0_3.rect_emb_val t y 0
    have h1' := win0_3.rect_emb_val t y 1
    rw [(index3 t).1] at h0
    rw [(index3 t).2] at h1'
    have y0 : (y 0).val < 56 := (y 0).isLt
    have ht : t.val < 57 := t.isLt
    refine (hR y (by omega)).trans ?_
    unfold scalesOf
    have h0' : ((win0_3.rect t).emb y 0).val = 0 * 56 + (y 0).val := h0
    have h1'' : ((win0_3.rect t).emb y 1).val = 0 * 128 + (y 1).val := h1'
    rw [h0', h1'', Nat.zero_mul, Nat.zero_add, Nat.zero_add]
  · refine Dat.arrAt_eq_of_covers _ 4 _ (by decide +kernel) fun t hf y => ?_
    have h1 := flush4 t hf
    have hR := (dat m c).toRRel_leaves (w := 4) rfl (hL 4 t hf) h1
    show (after 4 t : Swiglu.S16384x128.Idx → F .fp8e4m3) y = codesTOf m c ((win0_4.rect t).emb y)
    have h0 := win0_4.rect_emb_val t y 0
    have h1' := win0_4.rect_emb_val t y 1
    rw [(index4 t h1).1] at h0
    rw [(index4 t h1).2] at h1'
    have y0 : (y 1).val < 128 := (y 1).isLt
    refine (hR y).trans ?_
    unfold codesTOf
    have h0' : ((win0_4.rect t).emb y 0).val = 0 * 16384 + (y 0).val := h0
    have h1'' : ((win0_4.rect t).emb y 1).val = (t.val - 1) * 128 + (y 1).val := h1'
    rw [h0', h1'']
    congr 2
    · omega
    · omega
    · omega

end Cert.KernelIdeal.Run

end
-- ==== Proof.BodyKernel.lean ====
/-
  The kernel's printed text is the text of `Text.lean` at its nine buffers.
-/
module

public import proofs.«01_k».proof.Proof.Text
public import proofs.«01_k».proof.Proof.Gen.Kernel
public import Idealize.ShloMosaic.Lib.Pipeline.Regions

@[expose] public section

noncomputable section

namespace Cert.Kernel.Body

open Idealize.ShloMosaic Idealize.SL.Sem Cert.Kernel Cert.Swiglu

theorem cond1_iff (i : grid0.Coords) : k0_cond1 i = 1#1 ↔ (i 0).val = 0 := by
  have key : ∀ x : Fin 57, Scalar.cmpi .ne (Scalar.extui (Scalar.cmpi .eq (BitVec.ofNat 32 x.val) 0#32) : BitVec 32) 0#32 = 1#1 ↔ x.val = 0 := by decide +kernel
  exact key (i 0)

theorem cond3_iff (i : grid0.Coords) : k0_cond3 i = 1#1 ↔ (i 0).val = 56 := by
  have key : ∀ x : Fin 57, Scalar.cmpi .ne (Scalar.extui (Scalar.cmpi .eq (BitVec.ofNat 32 x.val) 56#32) : BitVec 32) 0#32 = 1#1 ↔ x.val = 56 := by decide +kernel
  exact key (i 0)

theorem cond2_iff (i : grid0.Coords) : k0_cond2 i = 1#1 ↔ 0 < (i 0).val ∧ (i 0).val < 56 := by
  have key : ∀ x : Fin 57, Scalar.cmpi .ne (Scalar.extui (Scalar.andi (Scalar.cmpi .sgt (BitVec.ofNat 32 x.val) 0#32) (Scalar.cmpi .slt (BitVec.ofNat 32 x.val) 56#32)) : BitVec 32) 0#32 = 1#1 ↔ 0 < x.val ∧ x.val < 56 := by decide +kernel
  exact key (i 0)

theorem pid_toNat (i : grid0.Coords) : (BitVec.ofNat 32 (i 0).val).toNat = (i 0).val := by
  have := (i 0).isLt
  rw [BitVec.toNat_ofNat]
  exact Nat.mod_eq_of_lt (Nat.lt_trans this (by decide))

theorem lt1 {i : grid0.Coords} (h : k0_cond1 i = 1#1) : (BitVec.ofNat 32 (i 0).val).toNat < 56 := by
  rw [pid_toNat, (cond1_iff i).mp h]; decide

theorem lt2 {i : grid0.Coords} (h : k0_cond2 i = 1#1) : (BitVec.ofNat 32 (i 0).val).toNat < 56 := by
  rw [pid_toNat]; exact ((cond2_iff i).mp h).2

theorem lt3 {i : grid0.Coords} (h : k0_cond3 i = 1#1) : (Scalar.subi (BitVec.ofNat 32 (i 0).val) 1#32).toNat < 56 := by
  rw [(cond3_iff i).mp h]; decide

variable {F : FTy → Type} [FloatOps F]

/-- The printed text, cut. -/
theorem body_eq (i : grid0.Coords) (arg1 : Memref sig .tc .vmem Swiglu.S128x16384 .bf16) (h1 : arg1.IsWhole)
    (arg2 : Memref sig .tc .vmem Swiglu.S128x8192 .bf16) (h2 : arg2.IsWhole) (arg3 : Memref sig .tc .vmem Swiglu.S128x16384 .fp8e4m3) (h3 : arg3.IsWhole)
    (arg4 : Memref sig .tc .vmem Swiglu.S56x128 .f32) (h4 : arg4.IsWhole) (arg5 : Memref sig .tc .vmem Swiglu.S16384x128 .fp8e4m3) (h5 : arg5.IsWhole)
    (arg6 : Memref sig .tc .vmem Swiglu.S8x2x8x128x128 .f32) (h6 : arg6.IsWhole) (arg7 : Memref sig .tc .vmem Swiglu.S2x64x128 .f32) (h7 : arg7.IsWhole)
    (arg8 : Memref sig .tc .vmem Swiglu.S2x64x128 .f32) (h8 : arg8.IsWhole) (arg9 : Memref sig .tc .vmem Swiglu.S8x128 .f32) (h9 : arg9.IsWhole) :
    cc0_dswiglu_fp8 (F := F) i arg1 h1 arg2 h2 arg3 h3 arg4 h4 arg5 h5 arg6 h6 arg7 h7 arg8 h8 arg9 h9 = (do
      if c1 : k0_cond1 i = 1#1 then do
        start arg7 arg9
        Scf.Loop.for loop8 loop8_ok PUnit.unit fun k _ => trip1 arg1 arg2 arg4 arg6 arg7 arg8 arg9 (BitVec.ofNat 32 (i 0).val) (chunk k) (lt1 c1) (chunk_lt k)
        pure ⟨⟩
      else do pure ⟨⟩
      if c2 : k0_cond2 i = 1#1 then do
        Scf.Loop.for loop8 loop8_ok PUnit.unit fun k _ => trip2 arg1 arg2 arg3 h3 arg4 arg5 h5 arg6 arg7 arg8 arg9 (BitVec.ofNat 32 (i 0).val) (chunk k) (lt2 c2) (chunk_lt k)
        pure ⟨⟩
      else do pure ⟨⟩
      if c3 : k0_cond3 i = 1#1 then do
        scales arg4 arg7 arg8 arg9 (Scalar.subi (BitVec.ofNat 32 (i 0).val) 1#32) 7#32 (lt3 c3) (by decide)
        Scf.Loop.for loop8 loop8_ok PUnit.unit fun k _ => quants arg3 h3 arg5 h5 arg6 arg8 (chunk k) (chunk_lt k) 8 (by decide)
        pure ⟨⟩
      else do pure ⟨⟩
      pure ⟨⟩) := by
  chain_rfl

end Cert.Kernel.Body

end
-- ==== Proof.LaunchKernel.lean ====
/-
  The launch of the idealized kernel: what the body finds and leaves at each grid point, and from it what the whole run
  leaves in the three result arrays.
-/
module

public import proofs.«01_k».proof.Proof.BodyKernel
public import proofs.«01_k».proof.Proof.Points
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.DatRel
public import Idealize.ShloMosaic.Lib.Pipeline.ArrRel
public import Idealize.ShloMosaic.Lib.Tactic

@[expose] public section

set_option maxRecDepth 16384

noncomputable section

namespace Cert.Kernel.Run

open Cert.Kernel Cert.Kernel.Gen Cert.Kernel.Body
open Cert.Swiglu (Blk St Env Own Ens Inv Left Holds codeAt rowV)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-- Row block `t` of the two arguments, as the region finds them. -/
def Bk (c : Dev nD) (t : Nat) : Blk F where
  x r col := (V m c main_v0 : S7168x16384.Idx → F .bf16) (ix2 (Fin.ofNat 7168 (128 * t + r)) (Fin.ofNat 16384 col))
  d r col := (V m c main_v1 : S7168x8192.Idx → F .bf16) (ix2 (Fin.ofNat 7168 (128 * t + r)) (Fin.ofNat 8192 col))

theorem index0 : ∀ t : Fin grid0.N, t.val < 56 → win0_0.index t 0 = t.val ∧ win0_0.index t 1 = 0 := by decide +kernel
theorem index1 : ∀ t : Fin grid0.N, t.val < 56 → win0_1.index t 0 = t.val ∧ win0_1.index t 1 = 0 := by decide +kernel
theorem index2 : ∀ t : Fin grid0.N, 1 ≤ t.val → win0_2.index t 0 = t.val - 1 ∧ win0_2.index t 1 = 0 := by decide +kernel
theorem index3 : ∀ t : Fin grid0.N, win0_3.index t 0 = 0 ∧ win0_3.index t 1 = 0 := by decide +kernel
theorem index4 : ∀ t : Fin grid0.N, 1 ≤ t.val → win0_4.index t 0 = 0 ∧ win0_4.index t 1 = t.val - 1 := by decide +kernel
theorem flush2 : ∀ t : Fin grid0.N, win0_2.flush t = true → 1 ≤ t.val := by decide +kernel
theorem flush4 : ∀ t : Fin grid0.N, win0_4.flush t = true → 1 ≤ t.val := by decide +kernel
theorem coords_val : ∀ t : Fin grid0.N, (grid0.coords t 0).val = t.val := by decide +kernel

/-- What the first window holds at point `t` is row block `t` of the first argument. -/
theorem iblk_x (c : Dev nD) (t : Fin grid0.N) (ht : t.val < 56) (y : Swiglu.S128x16384.Idx) :
    (iblk m c 0 t : Swiglu.S128x16384.Idx → F .bf16) y = (Bk m c t.val).x (y 0).val (y 1).val := by
  show (V m c main_v0 : S7168x16384.Idx → F .bf16) ((win0_0.rect t).emb y) = _
  unfold Bk
  refine congrArg _ ?_
  have h0 := win0_0.rect_emb_val t y 0
  have h1 := win0_0.rect_emb_val t y 1
  rw [(index0 t ht).1] at h0
  rw [(index0 t ht).2] at h1
  have y0 : (y 0).val < 128 := (y 0).isLt
  have y1 : (y 1).val < 16384 := (y 1).isLt
  funext a
  apply Fin.ext
  fin_cases a
  · refine h0.trans ?_
    show t.val * 128 + (y 0).val = (128 * t.val + (y 0).val) % 7168
    rw [Nat.mod_eq_of_lt (by omega)]; omega
  · refine h1.trans ?_
    show 0 * 16384 + (y 1).val = (y 1).val % 16384
    rw [Nat.mod_eq_of_lt (by omega)]; omega

theorem iblk_d (c : Dev nD) (t : Fin grid0.N) (ht : t.val < 56) (y : Swiglu.S128x8192.Idx) :
    (iblk m c 1 t : Swiglu.S128x8192.Idx → F .bf16) y = (Bk m c t.val).d (y 0).val (y 1).val := by
  show (V m c main_v1 : S7168x8192.Idx → F .bf16) ((win0_1.rect t).emb y) = _
  unfold Bk
  refine congrArg _ ?_
  have h0 := win0_1.rect_emb_val t y 0
  have h1 := win0_1.rect_emb_val t y 1
  rw [(index1 t ht).1] at h0
  rw [(index1 t ht).2] at h1
  have y0 : (y 0).val < 128 := (y 0).isLt
  have y1 : (y 1).val < 8192 := (y 1).isLt
  funext a
  apply Fin.ext
  fin_cases a
  · refine h0.trans ?_
    show t.val * 128 + (y 0).val = (128 * t.val + (y 0).val) % 7168
    rw [Nat.mod_eq_of_lt (by omega)]; omega
  · refine h1.trans ?_
    show 0 * 8192 + (y 1).val = (y 1).val % 8192
    rw [Nat.mod_eq_of_lt (by omega)]; omega

/-! ## The proof data -/

/-- The scratch buffers before point `n`, at contents that the points below left. -/
def Scr (c : Dev nD) (n : Nat) : sProp 𝕄 :=
  iprop(∃ s : St F, ⌜n ≤ 56 → Inv (Bk m c) n 0 s⌝
    ∗ owns (c.tc : Thread nD τ) (Memref.whole cc0_scratch0) fullShare s.x6 ∗ owns (c.tc : Thread nD τ) (Memref.whole cc0_scratch1) fullShare s.x7
    ∗ owns (c.tc : Thread nD τ) (Memref.whole cc0_scratch2) fullShare s.x8 ∗ owns (c.tc : Thread nD τ) (Memref.whole cc0_scratch3) fullShare s.x9
    ∗ ∃ r, prngReg c r)

/-- The arrays as the region finds them; an input's window keeps its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun (_ : Swiglu.S128x16384.Idx) => codeAt (Bk m c 0) 0 0
    | ⟨3, _⟩ => fun (_ : Swiglu.S56x128.Idx) => rowV (Bk m c 0) (ix2 0 0)
    | ⟨4, _⟩ => fun (_ : Swiglu.S16384x128.Idx) => codeAt (Bk m c 0) 0 0
    | ⟨_ + 5, h⟩ => absurd h (Nat.not_lt.2 (Nat.le_add_left _ _))
  Φ t := Scr m c t.val
  q _ := fullShare
  owed _ := 0

/-- The three outputs are described by what holds of them. -/
abbrev outs : Fin 5 → Bool := fun | 0 => false | 1 => false | 2 => true | 3 => true | 4 => true | ⟨_ + 5, h⟩ => absurd h (Nat.not_lt.2 (Nat.le_add_left _ _))

/-- What point `t` leaves in each output's window. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun (X : Swiglu.S128x16384.Idx → F .fp8e4m3) => 1 ≤ t.val → ∀ y, X y = codeAt (Bk m c (t.val - 1)) (y 0).val (y 1).val
  | ⟨3, _⟩ => fun (X : Swiglu.S56x128.Idx → F .f32) => ∀ y, (y 0).val < t.val → X y = rowV (Bk m c (y 0).val) (ix2 0 (Fin.ofNat 128 (y 1).val))
  | ⟨4, _⟩ => fun (X : Swiglu.S16384x128.Idx → F .fp8e4m3) => 1 ≤ t.val → ∀ y, X y = codeAt (Bk m c (t.val - 1)) (y 1).val (y 0).val
  | ⟨_ + 5, h⟩ => absurd h (Nat.not_lt.2 (Nat.le_add_left _ _))

/-- The buffers of point `t`. -/
def env (𝒱₀ : Variants) (c : Dev nD) (t : Fin cfg0.N) : Env nD τ sig Λ₀ F where
  B := { arg1 := win0_0.stage (cfg0.slots t 0), arg2 := win0_1.stage (cfg0.slots t 1), arg3 := win0_2.stage (cfg0.slots t 2),
         h3 := hstage0_2 ((cfg0.slots t 2).cast nbuf0_2), arg4 := win0_3.stage (cfg0.slots t 3), arg5 := win0_4.stage (cfg0.slots t 4),
         h5 := hstage0_4 ((cfg0.slots t 4).cast nbuf0_4), arg6 := Memref.whole cc0_scratch0, arg7 := Memref.whole cc0_scratch1,
         arg8 := Memref.whole cc0_scratch2, arg9 := Memref.whole cc0_scratch3 }
  defs := defs₀
  V := 𝒱₀
  d := c

/-- The body at point `t`, of whichever kind. -/
theorem body_ens {Bk : Nat → Blk F} {𝒱₀ : Variants} {c : Dev nD} (t : Fin cfg0.N) {s : St F}
    (hH : t.val < 56 → Holds s (Bk t.val)) (hI : Inv Bk t.val 0 s) :
    Ens (env 𝒱₀ c t) (bodyAt0 t) s (fun (_ : PUnit) s' => Left Bk t.val s s') := by
  have hv : (grid0.coords t 0).val = t.val := coords_val t
  have ht : t.val < 57 := t.isLt
  have hn : (BitVec.ofNat 32 (grid0.coords t 0).val).toNat = t.val := by
    rw [hv, BitVec.toNat_ofNat]; exact Nat.mod_eq_of_lt (by omega)
  unfold bodyAt0
  rw [body_eq]
  by_cases t0 : t.val = 0
  · have n2 : ¬ k0_cond2 (grid0.coords t) = 1#1 := fun h => by have := (cond2_iff _).1 h; omega
    have n3 : ¬ k0_cond3 (grid0.coords t) = 1#1 := fun h => by have := (cond3_iff _).1 h; omega
    rw [dif_pos ((cond1_iff _).2 (hv.trans t0)), dif_neg n2, dif_neg n3]
    have hH' := hH (by omega)
    rw [t0] at hH'
    refine (Swiglu.point0_ens (e := env 𝒱₀ c t) (Bk := Bk) (hn.trans t0) hH').mono fun _ s' h => ?_
    rw [t0]
    exact h
  by_cases t5 : t.val = 56
  · have n1 : ¬ k0_cond1 (grid0.coords t) = 1#1 := fun h => by have := (cond1_iff _).1 h; omega
    have n2 : ¬ k0_cond2 (grid0.coords t) = 1#1 := fun h => by have := (cond2_iff _).1 h; omega
    rw [dif_neg n1, dif_neg n2, dif_pos ((cond3_iff _).2 (hv.trans t5))]
    rw [t5] at hI
    have hr : (Scalar.subi (BitVec.ofNat 32 (grid0.coords t 0).val) 1#32).toNat = 55 := by rw [hv, t5]; decide
    refine (Swiglu.pointLast_ens (e := env 𝒱₀ c t) (Bk := Bk) hr hI).mono fun _ s' h => ?_
    rw [t5]
    exact h
  · have n1 : ¬ k0_cond1 (grid0.coords t) = 1#1 := fun h => by have := (cond1_iff _).1 h; omega
    have n3 : ¬ k0_cond3 (grid0.coords t) = 1#1 := fun h => by have := (cond3_iff _).1 h; omega
    rw [dif_neg n1, dif_pos ((cond2_iff _).2 (by omega)), dif_neg n3]
    exact Swiglu.pointMid_ens (e := env 𝒱₀ c t) (Bk := Bk) hn (by omega) (hH (by omega)) hI

/-! ## The body obligation -/

theorem inv_of_eq {Bk : Nat → Blk F} {t : Nat} {s s' : St F} (h : Inv Bk t 0 s) (h6 : s'.x6 = s.x6) (h7 : s'.x7 = s.x7)
    (h8 : s'.x8 = s.x8) (h9 : s'.x9 = s.x9)
    (h4 : ∀ y, (y 0).val + 1 < t → s'.x4 y = rowV (Bk (y 0).val) (ix2 0 (Fin.ofNat 128 (y 1).val))) : Inv Bk t 0 s' where
  new6 y hy := absurd hy (Nat.not_lt_zero _)
  old6 := by rw [h6]; exact h.old6
  new7 hc := absurd hc (by decide)
  old7 := by rw [h7]; exact h.old7
  new8 y hy := absurd hy (Nat.not_lt_zero _)
  old8 := by rw [h8]; exact h.old8
  new9 hc := absurd hc (by decide)
  old9 := by rw [h9]; exact h.old9
  rows y hy := h4 y (by omega)

/-- The scales' window keeps from point to point the rows written into it. -/
theorem finds3 (c : Dev nD) (t : Fin cfg0.N) {Y : (cfg0.win 3).block.Idx → Elt F (cfg0.win 3).elt}
    (hY : ((dat m c).toRRel outs (Rl m c)).Finds 3 t Y) :
    ∀ y : Swiglu.S56x128.Idx, (y 0).val + 1 < t.val → (Y : Swiglu.S56x128.Idx → F .f32) y = rowV (Bk m c (y 0).val) (ix2 0 (Fin.ofNat 128 (y 1).val)) := by
  intro y hy
  have ht : t.val < 57 := t.isLt
  have hpos : t.val ≠ 0 := by omega
  rw [RDat.finds_of_pos _ (Window.fetch_out _ rfl _) hpos] at hY
  rcases hY with hf | hL
  · have := (flush0_3 _).1 hf
    have h2 : (t.val - 1) % 57 = 56 := this
    omega
  · exact (dat m c).toRRel_leaves (w := 3) rfl hL y (by show (y 0).val < t.val - 1; omega)

set_option maxHeartbeats 1600000 in
theorem body_obligation (𝒱₀ : Variants) (c : Dev nD) : BodyObligationRel (dat m c) (defs₀ (F := F)) 𝒱₀ () Set.univ outs (Rl m c) := fun t => by
  have hlt : t.val < 57 := t.isLt
  rw [bigSep_W0, bigSep_W0]
  show iprop(Scr m c t.val ∗ _ ∗ (∃ d, owns c (st0_0 t) fullShare ((dat m c).before 0 t d)) ∗ (∃ d, owns c (st0_1 t) fullShare ((dat m c).before 1 t d))
      ∗ (∃ Y, ⌜((dat m c).toRRel outs (Rl m c)).Finds 2 t Y⌝ ∗ owns c (st0_2 t) fullShare Y)
      ∗ (∃ Y, ⌜((dat m c).toRRel outs (Rl m c)).Finds 3 t Y⌝ ∗ owns c (st0_3 t) fullShare Y)
      ∗ (∃ Y, ⌜((dat m c).toRRel outs (Rl m c)).Finds 4 t Y⌝ ∗ owns c (st0_4 t) fullShare Y))
    ⊢ wp frame (wpE defs₀ 𝒱₀ c none) Set.univ (bodyAt0 t) fun _ =>
      iprop(Scr m c (t.val + 1) ∗ _ ∗ owns c (st0_0 t) fullShare (iblk m c 0 t) ∗ owns c (st0_1 t) fullShare (iblk m c 1 t)
      ∗ (∃ X, ⌜Rl m c 2 t X⌝ ∗ owns c (st0_2 t) fullShare X)
      ∗ (∃ X, ⌜Rl m c 3 t X⌝ ∗ owns c (st0_3 t) fullShare X)
      ∗ (∃ X, ⌜Rl m c 4 t X⌝ ∗ owns c (st0_4 t) fullShare X))
  unfold Scr
  iintro ⟨⟨%s0, %hI, H6, H7, H8, H9, Hr⟩, HO, ⟨%d0, H1⟩, ⟨%d1, H2⟩, ⟨%Y2, %hY2, H3⟩, ⟨%Y3, %hY3, H4⟩, ⟨%Y4, %hY4, H5⟩⟩
  rw [before0_0_of m (dat m c) rfl (fun _ => rfl), before0_1_of m (dat m c) rfl (fun _ => rfl)]
  have hI' := hI (by omega)
  have hE := body_ens (𝒱₀ := 𝒱₀) (c := c) t (Bk := Bk m c)
    (s := { x1 := iblk m c 0 t, x2 := iblk m c 1 t, x3 := Y2, x4 := Y3, x5 := Y4, x6 := s0.x6, x7 := s0.x7, x8 := s0.x8, x9 := s0.x9 })
    (fun h => ⟨iblk_x m c t h, iblk_d m c t h⟩) (inv_of_eq hI' rfl rfl rfl rfl (finds3 m c t hY3))
  refine BIBase.Entails.trans ?_ (hE.frame_mono (R := iprop((dat m c).owesAt () t.castSucc ∗ ∃ r, prngReg c r)) fun _ s' hL => ?_)
  · show _ ⊢ iprop((owns c (st0_0 t) fullShare (iblk m c 0 t) ∗ owns c (st0_1 t) fullShare (iblk m c 1 t) ∗ owns c (st0_2 t) fullShare Y2
      ∗ owns c (st0_3 t) fullShare Y3 ∗ owns c (st0_4 t) fullShare Y4 ∗ owns c (Memref.whole cc0_scratch0) fullShare s0.x6
      ∗ owns c (Memref.whole cc0_scratch1) fullShare s0.x7 ∗ owns c (Memref.whole cc0_scratch2) fullShare s0.x8
      ∗ owns c (Memref.whole cc0_scratch3) fullShare s0.x9 ∗ emp) ∗ (dat m c).owesAt () t.castSucc ∗ ∃ r, prngReg c r)
    iintro ⟨⟨⟨⟨⟨⟨⟨⟨⟨⟨H6, H7⟩, H8⟩, H9⟩, Hr⟩, HO⟩, H1⟩, H2⟩, H3⟩, H4⟩, H5⟩
    iframe
  · unfold Own env
    iintro ⟨⟨H1, H2, H3, H4, H5, H6, H7, H8, H9, -⟩, HO, Hr⟩
    isplitl [H6 H7 H8 H9 Hr]
    · iexists s'
      isplitr
      · ipureintro; exact fun h => hL.inv (by omega)
      · iframe
    isplitl [HO]
    · iexact HO
    isplitl [H1]
    · rw [show (iblk m c 0 t : Swiglu.S128x16384.Idx → F .bf16) = s'.x1 from hL.x1.symm]; iexact H1
    isplitl [H2]
    · rw [show (iblk m c 1 t : Swiglu.S128x8192.Idx → F .bf16) = s'.x2 from hL.x2.symm]; iexact H2
    isplitl [H3]
    · iexists s'.x3
      isplitr
      · ipureintro; exact fun h y => (hL.codes h).1 y (by omega)
      · iexact H3
    isplitl [H4]
    · iexists s'.x4
      isplitr
      · ipureintro; exact hL.rows
      · iexact H4
    · iexists s'.x5
      isplitr
      · ipureintro; exact fun h y => (hL.codes h).2 y (by omega)
      · iexact H5

/-! ## The run -/

theorem share_full (c : Dev nD) (w : Fin cfg0.W) : ((dat m c).toRRel outs (Rl m c)).share w = fullShare :=
  (dat m c).share_full (fun _ => rfl) w

theorem toScr (c : Dev nD) : (Pipeline.ΦA spec0 c : sProp 𝕄) ⊢ Scr m c 0 := by
  unfold Pipeline.ΦA Scr
  rw [scopedRest0_eq]
  iintro ⟨⟨⟨%f6, H6⟩, ⟨%f7, H7⟩, ⟨%f8, H8⟩, ⟨%f9, H9⟩⟩, Hr⟩
  iexists { x1 := fun _ => (Bk m c 0).x 0 0, x2 := fun _ => (Bk m c 0).x 0 0, x3 := fun _ => codeAt (Bk m c 0) 0 0,
            x4 := fun _ => rowV (Bk m c 0) (ix2 0 0), x5 := fun _ => codeAt (Bk m c 0) 0 0, x6 := f6, x7 := f7, x8 := f8, x9 := f9 }
  isplitr
  · ipureintro; exact fun _ => Swiglu.inv_start _ _
  simp only [owns_whole]
  iframe

theorem ofScr (c : Dev nD) (n : Nat) : Scr m c n ⊢ (Pipeline.ΦA spec0 c : sProp 𝕄) := by
  unfold Pipeline.ΦA Scr
  rw [scopedRest0_eq]
  simp only [owns_whole]
  iintro ⟨%s, -, H6, H7, H8, H9, Hr⟩
  isplitr [Hr]
  · isplitl [H6]; · iexists _; iexact H6
    isplitl [H7]; · iexists _; iexact H7
    isplitl [H8]; · iexists _; iexact H8
    iexists _; iexact H9
  · iexact Hr

/-- The codes the run leaves. -/
def codesOf (c : Dev nD) : S7168x16384.Idx → F .fp8e4m3 := fun i => codeAt (Bk m c ((i 0).val / 128)) ((i 0).val % 128) (i 1).val
/-- The scales the run leaves. -/
def scalesOf (c : Dev nD) : S56x128.Idx → F .f32 := fun i => rowV (Bk m c (i 0).val) (ix2 0 (Fin.ofNat 128 (i 1).val))
/-- The transposed codes the run leaves. -/
def codesTOf (c : Dev nD) : S16384x7168.Idx → F .fp8e4m3 := fun i => codeAt (Bk m c ((i 1).val / 128)) ((i 1).val % 128) (i 0).val

theorem run (ρ : Dev nD → PrngReg) :
    θ_run defs (onTc (τ := τ) (main (F := F))) ⟨m, fun _ => 0, ρ⟩ (fun r => (∀ c : Dev nD,
      r.2.mem ((c.tc : Thread nD τ).loc main_v2_0) = codesOf m c
      ∧ r.2.mem ((c.tc : Thread nD τ).loc main_v2_1) = scalesOf m c
      ∧ r.2.mem ((c.tc : Thread nD τ).loc main_v2_2) = codesTOf m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine RDat.θ_run_frame_track cfgs 0 launch0 defs₀ Variants.none (fun c => (dat m c).toRRel outs (Rl m c)) m ρ main
    (fun c => (body_obligation m _ c).toRRel) (share_full m) (fun _ _ => rfl) (V m) (hmain m _) (fun _ _ => rfl) (toScr m) (fun c => ofScr m c _) _ ?_
  rintro r ⟨h, hs⟩
  refine ⟨fun c => ?_, hs⟩
  obtain ⟨after, hL, hA⟩ := h.exists_exact c
  refine ⟨(hA 2).trans ?_, (hA 3).trans ?_, (hA 4).trans ?_, ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩
  · refine Dat.arrAt_eq_of_covers _ 2 _ (by decide +kernel) fun t hf y => ?_
    have h1 := flush2 t hf
    have hR := (dat m c).toRRel_leaves (w := 2) rfl (hL 2 t hf) h1
    show (after 2 t : Swiglu.S128x16384.Idx → F .fp8e4m3) y = codesOf m c ((win0_2.rect t).emb y)
    have h0 := win0_2.rect_emb_val t y 0
    have h1' := win0_2.rect_emb_val t y 1
    rw [(index2 t h1).1] at h0
    rw [(index2 t h1).2] at h1'
    have y0 : (y 0).val < 128 := (y 0).isLt
    refine (hR y).trans ?_
    unfold codesOf
    have h0' : ((win0_2.rect t).emb y 0).val = (t.val - 1) * 128 + (y 0).val := h0
    have h1'' : ((win0_2.rect t).emb y 1).val = 0 * 16384 + (y 1).val := h1'
    rw [h0', h1'']
    congr 2
    · omega
    · omega
    · omega
  · refine Dat.arrAt_eq_of_covers _ 3 _ (by decide +kernel) fun t hf y => ?_
    have h1 := (flush0_3 t).1 hf
    have hR := (dat m c).toRRel_leaves (w := 3) rfl (hL 3 t hf)
    show (after 3 t : Swiglu.S56x128.Idx → F .f32) y = scalesOf m c ((win0_3.rect t).emb y)
    have h0 := win0_3.rect_emb_val t y 0
    have h1' := win0_3.rect_emb_val t y 1
    rw [(index3 t).1] at h0
    rw [(index3 t).2] at h1'
    have y0 : (y 0).val < 56 := (y 0).isLt
    have ht : t.val < 57 := t.isLt
    refine (hR y (by omega)).trans ?_
    unfold scalesOf
    have h0' : ((win0_3.rect t).emb y 0).val = 0 * 56 + (y 0).val := h0
    have h1'' : ((win0_3.rect t).emb y 1).val = 0 * 128 + (y 1).val := h1'
    rw [h0', h1'', Nat.zero_mul, Nat.zero_add, Nat.zero_add]
  · refine Dat.arrAt_eq_of_covers _ 4 _ (by decide +kernel) fun t hf y => ?_
    have h1 := flush4 t hf
    have hR := (dat m c).toRRel_leaves (w := 4) rfl (hL 4 t hf) h1
    show (after 4 t : Swiglu.S16384x128.Idx → F .fp8e4m3) y = codesTOf m c ((win0_4.rect t).emb y)
    have h0 := win0_4.rect_emb_val t y 0
    have h1' := win0_4.rect_emb_val t y 1
    rw [(index4 t h1).1] at h0
    rw [(index4 t h1).2] at h1'
    have y0 : (y 1).val < 128 := (y 1).isLt
    refine (hR y).trans ?_
    unfold codesTOf
    have h0' : ((win0_4.rect t).emb y 0).val = 0 * 16384 + (y 0).val := h0
    have h1'' : ((win0_4.rect t).emb y 1).val = (t.val - 1) * 128 + (y 1).val := h1'
    rw [h0', h1'']
    congr 2
    · omega
    · omega
    · omega

end Cert.Kernel.Run

end
-- ==== Proof.Frames.lean ====
/-
  The frames: each of the three programs terminates, leaves its arguments as they were and every counter at zero.
-/
module

public import proofs.«01_k».proof.Proof.LaunchIdeal
public import proofs.«01_k».proof.Proof.LaunchKernel
public import proofs.«01_k».proof.Proof.Gen.ReferenceIdeal.Frame
public import proofs.«01_k».proof.Defs

@[expose] public section

noncomputable section

namespace Cert.Proof

open Idealize.ShloMosaic Idealize.SL.Sem

/-- The kernel as printed. -/
theorem frame_kernel : quiescent_Kernel (hKernel := Cert.Kernel.Gen.facts) := fun m g _ =>
  (θ_run Cert.Kernel.defs _ _).mono (fun _ h => ⟨fun c => ⟨(h.1 c).2.2.2.1, (h.1 c).2.2.2.2⟩, h.2⟩) (Cert.Kernel.Run.run m g)

/-- The kernel over the extended reals. -/
theorem frame_ideal : quiescent_KernelIdeal (hKernelIdeal := Cert.KernelIdeal.Gen.facts) := fun m g _ =>
  (θ_run Cert.KernelIdeal.defs _ _).mono (fun _ h => ⟨fun c => ⟨(h.1 c).2.2.2.1, (h.1 c).2.2.2.2⟩, h.2⟩) (Cert.KernelIdeal.Run.run m g)

/-- The reference over the extended reals. -/
theorem frame_reference : quiescent_ReferenceIdeal (hReferenceIdeal := Cert.ReferenceIdeal.Gen.facts) := fun m g _ =>
  Cert.ReferenceIdeal.Gen.frame m g

end Cert.Proof

end
-- ==== Proof.Value.lean ====
/-
  The value claim: over the extended reals, from bounded arguments, the kernel leaves in its three results what the reference
  leaves in its own.
-/
module

public import proofs.«01_k».proof.Proof.Agree
public import proofs.«01_k».proof.Proof.Bounded
public import proofs.«01_k».proof.Proof.RefRun
public import proofs.«01_k».proof.Proof.Frames

@[expose] public section

noncomputable section

namespace Cert.KernelIdeal.Run

open Cert.KernelIdeal Cert.KernelIdeal.Gen Idealize.ShloMosaic Idealize.ShloMosaic.TcCoe Idealize.SL.Sem Cert.Swiglu

variable (m : (ℓ : Loc nD τ sig) → Buf (Elt Ideal) ℓ) (c : Dev nD)

theorem V_x : V m c main_v0 = Cert.ReferenceIdeal.Of.xf (F := Ideal) (m (c, Proc.devRef .tc main_arg0)) := by
  unfold V
  after_reads_simp
  rfl

theorem V_d : V m c main_v1 = Cert.ReferenceIdeal.Of.df (F := Ideal) (m (c, Proc.devRef .tc main_arg1)) := by
  unfold V
  after_reads_simp
  rfl

/-- The kernel's row blocks are the reference's. -/
theorem Bk_eq (t : Nat) : Bk m c t
    = Cert.ReferenceIdeal.Of.blkOf (Cert.ReferenceIdeal.Of.xf (F := Ideal) (m (c, Proc.devRef .tc main_arg0))) (Cert.ReferenceIdeal.Of.df (F := Ideal) (m (c, Proc.devRef .tc main_arg1))) t := by
  rw [← V_x, ← V_d]
  rfl

variable {m c}
variable (hB : Cert.ReferenceIdeal.Of.Bounded (m (c, Proc.devRef .tc main_arg0)) (m (c, Proc.devRef .tc main_arg1)))
include hB

theorem codes_eq : codesOf m c = Cert.ReferenceIdeal.Gen.out0_1 (F := Ideal) (Cert.ReferenceIdeal.Of.clipped (F := Ideal) (m (c, Proc.devRef .tc main_arg0)) (m (c, Proc.devRef .tc main_arg1))) := by
  funext i
  rw [ValueIdx.eq_ix2 i]
  refine Eq.trans ?_ (Cert.ReferenceIdeal.Of.out1_eq (F := Ideal) _ (i 0) (i 1)).symm
  show codeAt (Bk m c ((i 0).val / 128)) ((i 0).val % 128) (i 1).val = _
  rw [Bk_eq]
  exact Cert.ReferenceIdeal.Of.code_agree hB (i 0) (i 1)

theorem codesT_eq : codesTOf m c = Cert.ReferenceIdeal.Gen.out0_2 (F := Ideal) (Cert.ReferenceIdeal.Of.clipped (F := Ideal) (m (c, Proc.devRef .tc main_arg0)) (m (c, Proc.devRef .tc main_arg1))) := by
  funext i
  rw [ValueIdx.eq_ix2 i]
  refine Eq.trans ?_ (Cert.ReferenceIdeal.Of.out2_eq (F := Ideal) _ (i 1) (i 0)).symm
  show codeAt (Bk m c ((i 1).val / 128)) ((i 1).val % 128) (i 0).val = _
  rw [Bk_eq]
  exact Cert.ReferenceIdeal.Of.code_agree hB (i 1) (i 0)

theorem scales_eq : scalesOf m c = Cert.ReferenceIdeal.Of.scl (F := Ideal) (m (c, Proc.devRef .tc main_arg0)) (m (c, Proc.devRef .tc main_arg1)) := by
  funext i
  rw [ValueIdx.eq_ix2 i]
  show rowV (Bk m c (i 0).val) (ValueIdx.ix2 0 (Fin.ofNat 128 (i 1).val)) = _
  rw [Bk_eq, ← Cert.ReferenceIdeal.Of.ofNat_eq (n := 128) (i 1).isLt (i 1) rfl]
  exact Cert.ReferenceIdeal.Of.row_agree hB (i 0) (i 1)

end Cert.KernelIdeal.Run

namespace Cert.Proof

open Idealize.ShloMosaic Idealize.SL.Sem

/-- The value claim. -/
theorem value : algebraic_KernelIdeal_ReferenceIdeal_pre_bounded (hKernelIdeal := Cert.KernelIdeal.Gen.facts)
    (hReferenceIdeal := Cert.ReferenceIdeal.Gen.facts) (hPre_bounded := Cert.Pre_bounded.Gen.facts) := by
  intro m g m' g' hpre hargs
  have hB : ∀ c : Dev Cert.KernelIdeal.nD, Cert.ReferenceIdeal.Of.Bounded (m (c, Proc.devRef .tc Cert.KernelIdeal.main_arg0)) (m (c, Proc.devRef .tc Cert.KernelIdeal.main_arg1)) :=
    fun c => @Cert.Pre_bounded.bounded_of Cert.Pre_bounded.Gen.facts _ _ (hpre c)
  refine ⟨fun c => Cert.KernelIdeal.Run.codesOf m c, fun c => Cert.KernelIdeal.Run.scalesOf m c, fun c => Cert.KernelIdeal.Run.codesTOf m c,
    (θ_run Cert.KernelIdeal.defs _ _).mono (fun _ h => h.1) (Cert.KernelIdeal.Run.run m g),
    (θ_run Cert.ReferenceIdeal.defs _ _).mono (fun r h c => ?_) (Cert.ReferenceIdeal.Of.run m' g')⟩
  obtain ⟨h1, h2, h3, h4, h5⟩ := h c
  have e0 : m' (c, Proc.devRef .tc Cert.ReferenceIdeal.main_arg0) = m (c, Proc.devRef .tc Cert.KernelIdeal.main_arg0) := (hargs c).1
  have e1 : m' (c, Proc.devRef .tc Cert.ReferenceIdeal.main_arg1) = m (c, Proc.devRef .tc Cert.KernelIdeal.main_arg1) := (hargs c).2
  rw [e0, e1] at h1 h2 h3
  exact ⟨h1.trans (Cert.KernelIdeal.Run.codes_eq (hB c)).symm, h2.trans (Cert.KernelIdeal.Run.scales_eq (hB c)).symm,
    h3.trans (Cert.KernelIdeal.Run.codesT_eq (hB c)).symm, h4, h5⟩

end Cert.Proof

end
-- ==== Proof.lean ====
module

public import proofs.«01_k».proof.Defs
public import proofs.«01_k».proof.Proof.Value

@[expose] public section

noncomputable section

namespace Cert.Proof

/-- Everything claimed. -/
theorem claim : Cert.Claim :=
  ⟨Cert.Kernel.Gen.facts, Cert.KernelIdeal.Gen.facts, Cert.ReferenceIdeal.Gen.facts, Cert.Pre_bounded.Gen.facts,
    frame_kernel, frame_ideal, fun m g _ => frame_ideal m g trivial, frame_reference, fun m g _ => frame_reference m g trivial,
    trivial, value⟩

end Cert.Proof

end
